-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v73) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
-- ==== Pre_finite.lean ====
abbrev S32x8 : Shape := ⟨2, ![32, 8]⟩
abbrev S1x16384x8x64 : Shape := ⟨4, ![1, 16384, 8, 64]⟩
abbrev S1x16384x8 : Shape := ⟨3, ![1, 16384, 8]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x8 : S_.BroadcastsInDim S1x16384x8 (![] : Fin 0 → Fin S1x16384x8.rank)
  reducesTo_S1x16384x8_S_d0_1_2 : S1x16384x8.ReducesTo [0, 1, 2] S_

variable [Facts]

def fn {F : FTy → Type} [FloatOps F] (main_arg0 : IVec S32x8 32) (main_arg1 : FVec F S1x16384x8x64 .f32) (main_arg2 : FVec F S1x16384x8x64 .f32) (main_arg3 : FVec F S1x16384x8x64 .f32) (main_arg4 : FVec F S1x16384x8 .f32) : IVec S_ 1 :=
  let main_v0 : FVec F S1x16384x8x64 .f32 := Host.absf main_arg1
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x8x64 .f32 := Host.absf main_arg2
  let main_cst_0 : FVec F S_ .f32 := constant S_ .f32 0x7F800000#32
  let main_v5 : FVec F S1x16384x8x64 .f32 := broadcastInDim S1x16384x8x64 ![] bcast_S_S1x16384x8x64 main_cst_0
  let main_v6 : IVec S1x16384x8x64 1 := cmpf .olt main_v4 main_v5
  let main_c_1 : IVec S_ 1 := constantI S_ 1 1#1
  let main_v7 : IVec S_ 1 := (fun x v => Host.reduce IntOp.andi x v reducesTo_S1x16384x8x64_S_d0_1_2_3 h_S_) main_v6 main_c_1
  let main_v8 : IVec S_ 1 := andi main_v3 main_v7
  let main_v9 : FVec F S1x16384x8 .f32 := Host.absf main_arg4
  let main_cst_2 : FVec F S_ .f32 := constant S_ .f32 0x7F800000#32
  let main_v10 : FVec F S1x16384x8 .f32 := broadcastInDim S1x16384x8 ![] bcast_S_S1x16384x8 main_cst_2
  let main_v11 : IVec S1x16384x8 1 := cmpf .olt main_v9 main_v10
  let main_c_3 : IVec S_ 1 := constantI S_ 1 1#1
  let main_v12 : IVec S_ 1 := (fun x v => Host.reduce IntOp.andi x v reducesTo_S1x16384x8_S_d0_1_2 h_S_) main_v11 main_c_3
  let main_v13 : IVec S_ 1 := andi main_v8 main_v12
  main_v13
-- ==== Kernel.lean ====
abbrev S32x8 : Shape := ⟨2, ![32, 8]⟩
abbrev S1x16384x8x64 : Shape := ⟨4, ![1, 16384, 8, 64]⟩
abbrev S1x16384x8 : Shape := ⟨3, ![1, 16384, 8]⟩
abbrev S_ : Shape := ⟨0, ![]⟩
abbrev S16384x8x64 : Shape := ⟨3, ![16384, 8, 64]⟩
abbrev S8x16384x64 : Shape := ⟨3, ![8, 16384, 64]⟩
abbrev S16384x8 : Shape := ⟨2, ![16384, 8]⟩
abbrev S8x16384 : Shape := ⟨2, ![8, 16384]⟩
abbrev S8x16384x1 : Shape := ⟨3, ![8, 16384, 1]⟩
abbrev S8x16384x58 : Shape := ⟨3, ![8, 16384, 58]⟩
abbrev S8x16384x128 : Shape := ⟨3, ![8, 16384, 128]⟩
abbrev S8x16384x63 : Shape := ⟨3, ![8, 16384, 63]⟩
abbrev S8x128x16384 : Shape := ⟨3, ![8, 128, 16384]⟩
abbrev S256 : Shape := ⟨1, ![256]⟩
abbrev S16384x512 : Shape := ⟨2, ![16384, 512]⟩
abbrev S2x1024x128 : Shape := ⟨3, ![2, 1024, 128]⟩
abbrev S2x16384x128 : Shape := ⟨3, ![2, 16384, 128]⟩
abbrev S2x128x16384 : Shape := ⟨3, ![2, 128, 16384]⟩
abbrev S1024x128 : Shape := ⟨2, ![1024, 128]⟩
abbrev S2x1024x1024 : Shape := ⟨3, ![2, 1024, 1024]⟩
abbrev S2x8x1024 : Shape := ⟨3, ![2, 8, 1024]⟩
abbrev S2x128x1024 : Shape := ⟨3, ![2, 128, 1024]⟩
abbrev S1 : Shape := ⟨1, ![1]⟩
abbrev S1024x1024 : Shape := ⟨2, ![1024, 1024]⟩
abbrev S1x1024x128 : Shape := ⟨3, ![1, 1024, 128]⟩
abbrev S1x8x1024 : Shape := ⟨3, ![1, 8, 1024]⟩
abbrev S8x1024 : Shape := ⟨2, ![8, 1024]⟩
abbrev S1024 : Shape := ⟨1, ![1024]⟩
abbrev S1x1024 : Shape := ⟨2, ![1, 1024]⟩
abbrev S1x1024x1024 : Shape := ⟨3, ![1, 1024, 1024]⟩
abbrev S1x128x1024 : Shape := ⟨3, ![1, 128, 1024]⟩
abbrev S128x1024 : Shape := ⟨2, ![128, 1024]⟩

abbrev nBuf : Space → Nat
  | .hbm => 56
  | .vmem => 12
  | .smem => 1
  | _ => 0

abbrev bufTy : (tb : Table) → Fin (tcTables nBuf tb) → BufTy
  | .hbm, ⟨0, _⟩ => ⟨S32x8, .i32⟩
  | .hbm, ⟨1, _⟩ => ⟨S1x16384x8x64, .f32⟩
  | .hbm, ⟨2, _⟩ => ⟨S1x16384x8x64, .f32⟩
  | .hbm, ⟨3, _⟩ => ⟨S1x16384x8x64, .f32⟩
  | .hbm, ⟨4, _⟩ => ⟨S1x16384x8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x8x64, .f32⟩
  | .hbm, ⟨10, _⟩ => ⟨S8x16384x64, .f32⟩
  | .hbm, ⟨11, _⟩ => ⟨S_, .f32⟩
  | .hbm, ⟨12, _⟩ => ⟨S_, .f32⟩
  | .hbm, ⟨13, _⟩ => ⟨S8x16384x64, .f32⟩
  | .hbm, ⟨14, _⟩ => ⟨S8x16384x64, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S16384x8, .bf16⟩
  | .hbm, ⟨19, _⟩ => ⟨S16384x8, .f32⟩
  | .hbm, ⟨20, _⟩ => ⟨S16384x8, .f32⟩
  | .hbm, ⟨21, _⟩ => ⟨S16384x8, .bf16⟩
  | .hbm, ⟨22, _⟩ => ⟨S16384x8, .f32⟩
  | .hbm, ⟨23, _⟩ => ⟨S16384x8, .f32⟩
  | .hbm, ⟨24, _⟩ => ⟨S16384x8, .bf16⟩
  | .hbm, ⟨25, _⟩ => ⟨S16384x8, .f32⟩
  | .hbm, ⟨26, _⟩ => ⟨S8x16384, .f32⟩
  | .hbm, ⟨27, _⟩ => ⟨S8x16384x1, .f32⟩
  | .hbm, ⟨28, _⟩ => ⟨S8x16384, .f32⟩
  | .hbm, ⟨29, _⟩ => ⟨S8x16384x1, .f32⟩
  | .hbm, ⟨30, _⟩ => ⟨S8x16384, .f32⟩
  | .hbm, ⟨31, _⟩ => ⟨S8x16384x1, .f32⟩
  | .hbm, ⟨32, _⟩ => ⟨S_, .f32⟩
  | .hbm, ⟨33, _⟩ => ⟨S8x16384x1, .f32⟩
  | .hbm, ⟨34, _⟩ => ⟨S_, .f32⟩
  | .hbm, ⟨35, _⟩ => ⟨S8x16384x58, .f32⟩
  | .hbm, ⟨36, _⟩ => ⟨S8x16384x128, .f32⟩
  | .hbm, ⟨37, _⟩ => ⟨S8x16384x128, .bf16⟩
  | .hbm, ⟨38, _⟩ => ⟨S16384x8x64, .f32⟩
  | .hbm, ⟨39, _⟩ => ⟨S8x16384x64, .f32⟩
  | .hbm, ⟨40, _⟩ => ⟨S8x16384x1, .f32⟩
  | .hbm, ⟨41, _⟩ => ⟨S8x16384x1, .f32⟩
  | .hbm, ⟨42, _⟩ => ⟨S8x16384x1, .f32⟩
  | .hbm, ⟨43, _⟩ => ⟨S_, .f32⟩
  | .hbm, ⟨44, _⟩ => ⟨S8x16384x58, .f32⟩
  | .hbm, ⟨45, _⟩ => ⟨S8x16384x128, .f32⟩
  | .hbm, ⟨46, _⟩ => ⟨S8x16384x128, .bf16⟩
  | .hbm, ⟨47, _⟩ => ⟨S16384x8x64, .f32⟩
  | .hbm, ⟨48, _⟩ => ⟨S8x16384x64, .f32⟩
  | .hbm, ⟨49, _⟩ => ⟨S_, .f32⟩
  | .hbm, ⟨50, _⟩ => ⟨S8x16384x63, .f32⟩
  | .hbm, ⟨51, _⟩ => ⟨S8x16384x128, .f32⟩
  | .hbm, ⟨52, _⟩ => ⟨S8x128x16384, .f32⟩
  | .hbm, ⟨53, _⟩ => ⟨S8x128x16384, .bf16⟩
  | .hbm, ⟨54, _⟩ => ⟨S256, .i32⟩
  | .hbm, ⟨55, _⟩ => ⟨S16384x512, .f32⟩
  | .local _ .vmem, ⟨0, _⟩ => ⟨S2x1024x128, .bf16⟩
  | .local _ .vmem, ⟨1, _⟩ => ⟨S2x1024x128, .bf16⟩
  | .local _ .vmem, ⟨2, _⟩ => ⟨S2x16384x128, .bf16⟩
  | .local _ .vmem, ⟨3, _⟩ => ⟨S2x16384x128, .bf16⟩
  | .local _ .vmem, ⟨4, _⟩ => ⟨S2x128x16384, .bf16⟩
  | .local _ .vmem, ⟨5, _⟩ => ⟨S2x128x16384, .bf16⟩
  | .local _ .vmem, ⟨6, _⟩ => ⟨S1024x128, .f32⟩
  | .local _ .vmem, ⟨7, _⟩ => ⟨S1024x128, .f32⟩
  | .local _ .vmem, ⟨8, _⟩ => ⟨S2x1024x1024, .bf16⟩
  | .local _ .vmem, ⟨9, _⟩ => ⟨S2x8x1024, .f32⟩
  | .local _ .vmem, ⟨10, _⟩ => ⟨S2x8x1024, .f32⟩
  | .local _ .vmem, ⟨11, _⟩ => ⟨S2x128x1024, .f32⟩
  | .local _ .smem, ⟨0, _⟩ => ⟨S256, .i32⟩
  | _, _ => ⟨S32x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_off1 (i : grid0.Coords) (c0_i32_6 : BitVec 32) : Fin 1 → Nat :=
  let arg1 : BitVec 32 := BitVec.ofNat 32 (i 1).val
  let c1_i32_3 : BitVec 32 := 1#32
  let v10 : BitVec 32 := Scalar.addi arg1 c1_i32_3
  let c2_i32 : BitVec 32 := 2#32
  let v11 : BitVec 32 := Scalar.muli v10 c2_i32
  let c1_i32_4 : BitVec 32 := 1#32
  let v12 : BitVec 32 := Scalar.subi v11 c1_i32_4
  let c8_i32 : BitVec 32 := 8#32
  let v14 : BitVec 32 := Scalar.muli v12 c8_i32
  let c2_i32_5 : BitVec 32 := 2#32
  let arg0 : BitVec 32 := BitVec.ofNat 32 (i 0).val
  let v15 : BitVec 32 := Scalar.muli c2_i32_5 arg0
  let v16 : BitVec 32 := Scalar.addi v14 v15
  let v17 : BitVec 32 := Scalar.addi v16 c0_i32_6
  let v18 : Index := Scalar.indexCast v17
  ![v18.toNat]
def k0_mult1 (i : grid0.Coords) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v41 : BitVec 32 := Scalar.muli v9 c1024_i32
  v41
def k0_off2 (i : grid0.Coords) : Fin 3 → Nat :=
  let c0_18 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v41 : BitVec 32 := Scalar.muli v9 c1024_i32
  let v42 : BitVec 32 := v41
  let v43 : Index := Scalar.indexCast v42
  let c0_19 : Index := 0#32
  ![0, v43.toNat, 0]
def k0_mult2 (i : grid0.Coords) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32_38 : BitVec 32 := 1024#32
  let v73 : BitVec 32 := Scalar.muli v9 c1024_i32_38
  v73
def k0_off3 (i : grid0.Coords) : Fin 3 → Nat :=
  let c1 : Index := 1#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32_38 : BitVec 32 := 1024#32
  let v73 : BitVec 32 := Scalar.muli v9 c1024_i32_38
  let v74 : BitVec 32 := v73
  let v75 : Index := Scalar.indexCast v74
  let c0_39 : Index := 0#32
  ![1, v75.toNat, 0]
@[reducible] def k0_t1_loop (i : grid0.Coords) (v19 : BitVec 32) (v27 : BitVec 32) : Scf.Loop 32 :=
  let c0_i32_59 : BitVec 32 := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_61 : BitVec 32 := 1#32
  ⟨c0_i32_59, v112, c1_i32_61⟩

def k0_mult3 (i : grid0.Coords) (v19 : BitVec 32) (v27 : BitVec 32) (k0_t1 : Fin (k0_t1_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  v184
def k0_off4 (i : grid0.Coords) (v19 : BitVec 32) (v27 : BitVec 32) (k0_t1 : Fin (k0_t1_loop i v19 v27).trips) : Fin 3 → Nat :=
  let c0_120 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  let v185 : BitVec 32 := v184
  let v186 : Index := Scalar.indexCast v185
  let c0_121 : Index := 0#32
  ![0, v186.toNat, 0]
def k0_mult4 (i : grid0.Coords) (v19 : BitVec 32) (v27 : BitVec 32) (k0_t1 : Fin (k0_t1_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v178 : BitVec 32 := Scalar.subi v9 arg11
  let c1024_i32_139 : BitVec 32 := 1024#32
  let v214 : BitVec 32 := Scalar.muli v178 c1024_i32_139
  v214
def k0_off5 (i : grid0.Coords) (v19 : BitVec 32) (v27 : BitVec 32) (k0_t1 : Fin (k0_t1_loop i v19 v27).trips) : Fin 3 → Nat :=
  let c0_143 : Index := 0#32
  let c0_144 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v178 : BitVec 32 := Scalar.subi v9 arg11
  let c1024_i32_139 : BitVec 32 := 1024#32
  let v214 : BitVec 32 := Scalar.muli v178 c1024_i32_139
  let v215 : BitVec 32 := v214
  let v221 : Index := Scalar.indexCast v215
  ![0, 0, v221.toNat]
def k0_mult5 (i : grid0.Coords) (v19 : BitVec 32) (v27 : BitVec 32) (k0_t1 : Fin (k0_t1_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v229 : BitVec 32 := Scalar.subi v9 arg11
  let c1_i32_155 : BitVec 32 := 1#32
  let v234 : BitVec 32 := Scalar.subi v229 c1_i32_155
  let c1024_i32_156 : BitVec 32 := 1024#32
  let v235 : BitVec 32 := Scalar.muli v234 c1024_i32_156
  v235
def k0_off6 (i : grid0.Coords) (v19 : BitVec 32) (v27 : BitVec 32) (k0_t1 : Fin (k0_t1_loop i v19 v27).trips) : Fin 3 → Nat :=
  let c1_157 : Index := 1#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v229 : BitVec 32 := Scalar.subi v9 arg11
  let c1_i32_155 : BitVec 32 := 1#32
  let v234 : BitVec 32 := Scalar.subi v229 c1_i32_155
  let c1024_i32_156 : BitVec 32 := 1024#32
  let v235 : BitVec 32 := Scalar.muli v234 c1024_i32_156
  let v236 : BitVec 32 := v235
  let v237 : Index := Scalar.indexCast v236
  let c0_158 : Index := 0#32
  ![1, v237.toNat, 0]
def k0_mult6 (i : grid0.Coords) (v19 : BitVec 32) (v27 : BitVec 32) (k0_t1 : Fin (k0_t1_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v229 : BitVec 32 := Scalar.subi v9 arg11
  let c1024_i32_176 : BitVec 32 := 1024#32
  let v265 : BitVec 32 := Scalar.muli v229 c1024_i32_176
  v265
def k0_off7 (i : grid0.Coords) (v19 : BitVec 32) (v27 : BitVec 32) (k0_t1 : Fin (k0_t1_loop i v19 v27).trips) : Fin 3 → Nat :=
  let c1_180 : Index := 1#32
  let c0_181 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c1_i32_61 : BitVec 32 := 1#32
  let arg11 : BitVec 32 := Scf.iv c0_i32_59 c1_i32_61 k0_t1
  let v229 : BitVec 32 := Scalar.subi v9 arg11
  let c1024_i32_176 : BitVec 32 := 1024#32
  let v265 : BitVec 32 := Scalar.muli v229 c1024_i32_176
  let v266 : BitVec 32 := v265
  let v272 : Index := Scalar.indexCast v266
  ![1, 0, v272.toNat]
@[reducible] def k0_t2_loop (i : grid0.Coords) (v19 : BitVec 32) (v27 : BitVec 32) : Scf.Loop 32 :=
  let c0_i32_59 : BitVec 32 := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let v109 : BitVec 32 := Scalar.addi c0_i32_59 v108
  let c1_i32_62 : BitVec 32 := 1#32
  ⟨v112, v109, c1_i32_62⟩
def k0_mult7 (i : grid0.Coords) (v19 : BitVec 32) (v27 : BitVec 32) (k0_t2 : Fin (k0_t2_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  v184
def k0_off8 (i : grid0.Coords) (v19 : BitVec 32) (v27 : BitVec 32) (k0_t2 : Fin (k0_t2_loop i v19 v27).trips) : Fin 3 → Nat :=
  let c0_120 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  let v185 : BitVec 32 := v184
  let v186 : Index := Scalar.indexCast v185
  let c0_121 : Index := 0#32
  ![0, v186.toNat, 0]
def k0_mult8 (i : grid0.Coords) (v19 : BitVec 32) (v27 : BitVec 32) (k0_t2 : Fin (k0_t2_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v178 : BitVec 32 := Scalar.subi v9 arg11
  let c1024_i32_139 : BitVec 32 := 1024#32
  let v214 : BitVec 32 := Scalar.muli v178 c1024_i32_139
  v214
def k0_off9 (i : grid0.Coords) (v19 : BitVec 32) (v27 : BitVec 32) (k0_t2 : Fin (k0_t2_loop i v19 v27).trips) : Fin 3 → Nat :=
  let c0_143 : Index := 0#32
  let c0_144 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v178 : BitVec 32 := Scalar.subi v9 arg11
  let c1024_i32_139 : BitVec 32 := 1024#32
  let v214 : BitVec 32 := Scalar.muli v178 c1024_i32_139
  let v215 : BitVec 32 := v214
  let v221 : Index := Scalar.indexCast v215
  ![0, 0, v221.toNat]
def k0_mult9 (i : grid0.Coords) (v19 : BitVec 32) (v27 : BitVec 32) (k0_t2 : Fin (k0_t2_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v229 : BitVec 32 := Scalar.subi v9 arg11
  let c1_i32_155 : BitVec 32 := 1#32
  let v234 : BitVec 32 := Scalar.subi v229 c1_i32_155
  let c1024_i32_156 : BitVec 32 := 1024#32
  let v235 : BitVec 32 := Scalar.muli v234 c1024_i32_156
  v235
def k0_off10 (i : grid0.Coords) (v19 : BitVec 32) (v27 : BitVec 32) (k0_t2 : Fin (k0_t2_loop i v19 v27).trips) : Fin 3 → Nat :=
  let c1_157 : Index := 1#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v229 : BitVec 32 := Scalar.subi v9 arg11
  let c1_i32_155 : BitVec 32 := 1#32
  let v234 : BitVec 32 := Scalar.subi v229 c1_i32_155
  let c1024_i32_156 : BitVec 32 := 1024#32
  let v235 : BitVec 32 := Scalar.muli v234 c1024_i32_156
  let v236 : BitVec 32 := v235
  let v237 : Index := Scalar.indexCast v236
  let c0_158 : Index := 0#32
  ![1, v237.toNat, 0]
def k0_mult10 (i : grid0.Coords) (v19 : BitVec 32) (v27 : BitVec 32) (k0_t2 : Fin (k0_t2_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v229 : BitVec 32 := Scalar.subi v9 arg11
  let c1024_i32_176 : BitVec 32 := 1024#32
  let v265 : BitVec 32 := Scalar.muli v229 c1024_i32_176
  v265
def k0_off11 (i : grid0.Coords) (v19 : BitVec 32) (v27 : BitVec 32) (k0_t2 : Fin (k0_t2_loop i v19 v27).trips) : Fin 3 → Nat :=
  let c1_180 : Index := 1#32
  let c0_181 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v108 : BitVec 32 := Scalar.subi v107 c0_i32_59
  let c1_i32_60 : BitVec 32 := 1#32
  let v110 : BitVec 32 := Scalar.divsi v108 c1_i32_60
  let v111 : BitVec 32 := Scalar.muli v110 c1_i32_60
  let v112 : BitVec 32 := Scalar.addi c0_i32_59 v111
  let c1_i32_62 : BitVec 32 := 1#32
  let arg11 : BitVec 32 := Scf.iv v112 c1_i32_62 k0_t2
  let v229 : BitVec 32 := Scalar.subi v9 arg11
  let c1024_i32_176 : BitVec 32 := 1024#32
  let v265 : BitVec 32 := Scalar.muli v229 c1024_i32_176
  let v266 : BitVec 32 := v265
  let v272 : Index := Scalar.indexCast v266
  ![1, 0, v272.toNat]
@[reducible] def k0_t3_loop (i : grid0.Coords) (v19 : BitVec 32) (v27 : BitVec 32) : Scf.Loop 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v113 : BitVec 32 := Scalar.subi v105 v107
  let c1_i32_64 : BitVec 32 := 1#32
  let v115 : BitVec 32 := Scalar.divsi v113 c1_i32_64
  let v116 : BitVec 32 := Scalar.muli v115 c1_i32_64
  let v117 : BitVec 32 := Scalar.addi v107 v116
  let c1_i32_65 : BitVec 32 := 1#32
  ⟨v107, v117, c1_i32_65⟩
def k0_mult11 (i : grid0.Coords) (v19 : BitVec 32) (v27 : BitVec 32) (k0_t3 : Fin (k0_t3_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_65 : BitVec 32 := 1#32
  let arg11 : BitVec 32 := Scf.iv v107 c1_i32_65 k0_t3
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  v184
def k0_off12 (i : grid0.Coords) (v19 : BitVec 32) (v27 : BitVec 32) (k0_t3 : Fin (k0_t3_loop i v19 v27).trips) : Fin 3 → Nat :=
  let c0_120 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_65 : BitVec 32 := 1#32
  let arg11 : BitVec 32 := Scf.iv v107 c1_i32_65 k0_t3
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  let v185 : BitVec 32 := v184
  let v186 : Index := Scalar.indexCast v185
  let c0_121 : Index := 0#32
  ![0, v186.toNat, 0]
def k0_mult12 (i : grid0.Coords) (v19 : BitVec 32) (v27 : BitVec 32) (k0_t3 : Fin (k0_t3_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_65 : BitVec 32 := 1#32
  let arg11 : BitVec 32 := Scf.iv v107 c1_i32_65 k0_t3
  let v178 : BitVec 32 := Scalar.subi v9 arg11
  let c1024_i32_139 : BitVec 32 := 1024#32
  let v214 : BitVec 32 := Scalar.muli v178 c1024_i32_139
  v214
def k0_off13 (i : grid0.Coords) (v19 : BitVec 32) (v27 : BitVec 32) (k0_t3 : Fin (k0_t3_loop i v19 v27).trips) : Fin 3 → Nat :=
  let c0_143 : Index := 0#32
  let c0_144 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_65 : BitVec 32 := 1#32
  let arg11 : BitVec 32 := Scf.iv v107 c1_i32_65 k0_t3
  let v178 : BitVec 32 := Scalar.subi v9 arg11
  let c1024_i32_139 : BitVec 32 := 1024#32
  let v214 : BitVec 32 := Scalar.muli v178 c1024_i32_139
  let v215 : BitVec 32 := v214
  let v221 : Index := Scalar.indexCast v215
  ![0, 0, v221.toNat]
@[reducible] def k0_t4_loop (i : grid0.Coords) (v19 : BitVec 32) (v27 : BitVec 32) : Scf.Loop 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v113 : BitVec 32 := Scalar.subi v105 v107
  let c1_i32_64 : BitVec 32 := 1#32
  let v115 : BitVec 32 := Scalar.divsi v113 c1_i32_64
  let v116 : BitVec 32 := Scalar.muli v115 c1_i32_64
  let v117 : BitVec 32 := Scalar.addi v107 v116
  let v114 : BitVec 32 := Scalar.addi v107 v113
  let c1_i32_66 : BitVec 32 := 1#32
  ⟨v117, v114, c1_i32_66⟩
def k0_mult13 (i : grid0.Coords) (v19 : BitVec 32) (v27 : BitVec 32) (k0_t4 : Fin (k0_t4_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v113 : BitVec 32 := Scalar.subi v105 v107
  let c1_i32_64 : BitVec 32 := 1#32
  let v115 : BitVec 32 := Scalar.divsi v113 c1_i32_64
  let v116 : BitVec 32 := Scalar.muli v115 c1_i32_64
  let v117 : BitVec 32 := Scalar.addi v107 v116
  let c1_i32_66 : BitVec 32 := 1#32
  let arg11 : BitVec 32 := Scf.iv v117 c1_i32_66 k0_t4
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  v184
def k0_off14 (i : grid0.Coords) (v19 : BitVec 32) (v27 : BitVec 32) (k0_t4 : Fin (k0_t4_loop i v19 v27).trips) : Fin 3 → Nat :=
  let c0_120 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v113 : BitVec 32 := Scalar.subi v105 v107
  let c1_i32_64 : BitVec 32 := 1#32
  let v115 : BitVec 32 := Scalar.divsi v113 c1_i32_64
  let v116 : BitVec 32 := Scalar.muli v115 c1_i32_64
  let v117 : BitVec 32 := Scalar.addi v107 v116
  let c1_i32_66 : BitVec 32 := 1#32
  let arg11 : BitVec 32 := Scf.iv v117 c1_i32_66 k0_t4
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  let v185 : BitVec 32 := v184
  let v186 : Index := Scalar.indexCast v185
  let c0_121 : Index := 0#32
  ![0, v186.toNat, 0]
def k0_mult14 (i : grid0.Coords) (v19 : BitVec 32) (v27 : BitVec 32) (k0_t4 : Fin (k0_t4_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v113 : BitVec 32 := Scalar.subi v105 v107
  let c1_i32_64 : BitVec 32 := 1#32
  let v115 : BitVec 32 := Scalar.divsi v113 c1_i32_64
  let v116 : BitVec 32 := Scalar.muli v115 c1_i32_64
  let v117 : BitVec 32 := Scalar.addi v107 v116
  let c1_i32_66 : BitVec 32 := 1#32
  let arg11 : BitVec 32 := Scf.iv v117 c1_i32_66 k0_t4
  let v178 : BitVec 32 := Scalar.subi v9 arg11
  let c1024_i32_139 : BitVec 32 := 1024#32
  let v214 : BitVec 32 := Scalar.muli v178 c1024_i32_139
  v214
def k0_off15 (i : grid0.Coords) (v19 : BitVec 32) (v27 : BitVec 32) (k0_t4 : Fin (k0_t4_loop i v19 v27).trips) : Fin 3 → Nat :=
  let c0_143 : Index := 0#32
  let c0_144 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v113 : BitVec 32 := Scalar.subi v105 v107
  let c1_i32_64 : BitVec 32 := 1#32
  let v115 : BitVec 32 := Scalar.divsi v113 c1_i32_64
  let v116 : BitVec 32 := Scalar.muli v115 c1_i32_64
  let v117 : BitVec 32 := Scalar.addi v107 v116
  let c1_i32_66 : BitVec 32 := 1#32
  let arg11 : BitVec 32 := Scf.iv v117 c1_i32_66 k0_t4
  let v178 : BitVec 32 := Scalar.subi v9 arg11
  let c1024_i32_139 : BitVec 32 := 1024#32
  let v214 : BitVec 32 := Scalar.muli v178 c1024_i32_139
  let v215 : BitVec 32 := v214
  let v221 : Index := Scalar.indexCast v215
  ![0, 0, v221.toNat]
@[reducible] def k0_t5_loop (i : grid0.Coords) (v19 : BitVec 32) (v27 : BitVec 32) : Scf.Loop 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v118 : BitVec 32 := Scalar.subi v106 v107
  let c1_i32_68 : BitVec 32 := 1#32
  let v120 : BitVec 32 := Scalar.divsi v118 c1_i32_68
  let v121 : BitVec 32 := Scalar.muli v120 c1_i32_68
  let v122 : BitVec 32 := Scalar.addi v107 v121
  let c1_i32_69 : BitVec 32 := 1#32
  ⟨v107, v122, c1_i32_69⟩
def k0_mult15 (i : grid0.Coords) (v19 : BitVec 32) (v27 : BitVec 32) (k0_t5 : Fin (k0_t5_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_69 : BitVec 32 := 1#32
  let arg11 : BitVec 32 := Scf.iv v107 c1_i32_69 k0_t5
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  v184
def k0_off16 (i : grid0.Coords) (v19 : BitVec 32) (v27 : BitVec 32) (k0_t5 : Fin (k0_t5_loop i v19 v27).trips) : Fin 3 → Nat :=
  let c1_120 : Index := 1#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_69 : BitVec 32 := 1#32
  let arg11 : BitVec 32 := Scf.iv v107 c1_i32_69 k0_t5
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  let v185 : BitVec 32 := v184
  let v186 : Index := Scalar.indexCast v185
  let c0_121 : Index := 0#32
  ![1, v186.toNat, 0]
def k0_mult16 (i : grid0.Coords) (v19 : BitVec 32) (v27 : BitVec 32) (k0_t5 : Fin (k0_t5_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_69 : BitVec 32 := 1#32
  let arg11 : BitVec 32 := Scf.iv v107 c1_i32_69 k0_t5
  let v178 : BitVec 32 := Scalar.subi v9 arg11
  let c1024_i32_139 : BitVec 32 := 1024#32
  let v214 : BitVec 32 := Scalar.muli v178 c1024_i32_139
  v214
def k0_off17 (i : grid0.Coords) (v19 : BitVec 32) (v27 : BitVec 32) (k0_t5 : Fin (k0_t5_loop i v19 v27).trips) : Fin 3 → Nat :=
  let c1_143 : Index := 1#32
  let c0_144 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let c1_i32_69 : BitVec 32 := 1#32
  let arg11 : BitVec 32 := Scf.iv v107 c1_i32_69 k0_t5
  let v178 : BitVec 32 := Scalar.subi v9 arg11
  let c1024_i32_139 : BitVec 32 := 1024#32
  let v214 : BitVec 32 := Scalar.muli v178 c1024_i32_139
  let v215 : BitVec 32 := v214
  let v221 : Index := Scalar.indexCast v215
  ![1, 0, v221.toNat]
@[reducible] def k0_t6_loop (i : grid0.Coords) (v19 : BitVec 32) (v27 : BitVec 32) : Scf.Loop 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v118 : BitVec 32 := Scalar.subi v106 v107
  let c1_i32_68 : BitVec 32 := 1#32
  let v120 : BitVec 32 := Scalar.divsi v118 c1_i32_68
  let v121 : BitVec 32 := Scalar.muli v120 c1_i32_68
  let v122 : BitVec 32 := Scalar.addi v107 v121
  let v119 : BitVec 32 := Scalar.addi v107 v118
  let c1_i32_70 : BitVec 32 := 1#32
  ⟨v122, v119, c1_i32_70⟩
def k0_mult17 (i : grid0.Coords) (v19 : BitVec 32) (v27 : BitVec 32) (k0_t6 : Fin (k0_t6_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v118 : BitVec 32 := Scalar.subi v106 v107
  let c1_i32_68 : BitVec 32 := 1#32
  let v120 : BitVec 32 := Scalar.divsi v118 c1_i32_68
  let v121 : BitVec 32 := Scalar.muli v120 c1_i32_68
  let v122 : BitVec 32 := Scalar.addi v107 v121
  let c1_i32_70 : BitVec 32 := 1#32
  let arg11 : BitVec 32 := Scf.iv v122 c1_i32_70 k0_t6
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  v184
def k0_off18 (i : grid0.Coords) (v19 : BitVec 32) (v27 : BitVec 32) (k0_t6 : Fin (k0_t6_loop i v19 v27).trips) : Fin 3 → Nat :=
  let c1_120 : Index := 1#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v118 : BitVec 32 := Scalar.subi v106 v107
  let c1_i32_68 : BitVec 32 := 1#32
  let v120 : BitVec 32 := Scalar.divsi v118 c1_i32_68
  let v121 : BitVec 32 := Scalar.muli v120 c1_i32_68
  let v122 : BitVec 32 := Scalar.addi v107 v121
  let c1_i32_70 : BitVec 32 := 1#32
  let arg11 : BitVec 32 := Scf.iv v122 c1_i32_70 k0_t6
  let v178 : BitVec 32 := Scalar.subi v9 arg11
  let c1_i32_118 : BitVec 32 := 1#32
  let v183 : BitVec 32 := Scalar.subi v178 c1_i32_118
  let c1024_i32_119 : BitVec 32 := 1024#32
  let v184 : BitVec 32 := Scalar.muli v183 c1024_i32_119
  let v185 : BitVec 32 := v184
  let v186 : Index := Scalar.indexCast v185
  let c0_121 : Index := 0#32
  ![1, v186.toNat, 0]
def k0_mult18 (i : grid0.Coords) (v19 : BitVec 32) (v27 : BitVec 32) (k0_t6 : Fin (k0_t6_loop i v19 v27).trips) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v118 : BitVec 32 := Scalar.subi v106 v107
  let c1_i32_68 : BitVec 32 := 1#32
  let v120 : BitVec 32 := Scalar.divsi v118 c1_i32_68
  let v121 : BitVec 32 := Scalar.muli v120 c1_i32_68
  let v122 : BitVec 32 := Scalar.addi v107 v121
  let c1_i32_70 : BitVec 32 := 1#32
  let arg11 : BitVec 32 := Scf.iv v122 c1_i32_70 k0_t6
  let v178 : BitVec 32 := Scalar.subi v9 arg11
  let c1024_i32_139 : BitVec 32 := 1024#32
  let v214 : BitVec 32 := Scalar.muli v178 c1024_i32_139
  v214
def k0_off19 (i : grid0.Coords) (v19 : BitVec 32) (v27 : BitVec 32) (k0_t6 : Fin (k0_t6_loop i v19 v27).trips) : Fin 3 → Nat :=
  let c1_143 : Index := 1#32
  let c0_144 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let v105 : BitVec 32 := Scalar.subi v9 v21
  let c0_i32_11 : BitVec 32 := 0#32
  let v28 : BitVec 32 := Scalar.maxsi c0_i32_11 v27
  let v29 : BitVec 32 := Scalar.minsi v9 v28
  let v106 : BitVec 32 := Scalar.subi v9 v29
  let v107 : BitVec 32 := Scalar.minsi v105 v106
  let v118 : BitVec 32 := Scalar.subi v106 v107
  let c1_i32_68 : BitVec 32 := 1#32
  let v120 : BitVec 32 := Scalar.divsi v118 c1_i32_68
  let v121 : BitVec 32 := Scalar.muli v120 c1_i32_68
  let v122 : BitVec 32 := Scalar.addi v107 v121
  let c1_i32_70 : BitVec 32 := 1#32
  let arg11 : BitVec 32 := Scf.iv v122 c1_i32_70 k0_t6
  let v178 : BitVec 32 := Scalar.subi v9 arg11
  let c1024_i32_139 : BitVec 32 := 1024#32
  let v214 : BitVec 32 := Scalar.muli v178 c1024_i32_139
  let v215 : BitVec 32 := v214
  let v221 : Index := Scalar.indexCast v215
  ![1, 0, v221.toNat]
def k0_mult19 (i : grid0.Coords) (v19 : BitVec 32) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let c1024_i32_77 : BitVec 32 := 1024#32
  let v127 : BitVec 32 := Scalar.muli v21 c1024_i32_77
  v127

def k0_off20 (i : grid0.Coords) (v19 : BitVec 32) : Fin 3 → Nat :=
  let c0_81 : Index := 0#32
  let c0_82 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let v20 : BitVec 32 := Scalar.maxsi c0_i32_7 v19
  let v21 : BitVec 32 := Scalar.minsi v9 v20
  let c1024_i32_77 : BitVec 32 := 1024#32
  let v127 : BitVec 32 := Scalar.muli v21 c1024_i32_77
  let v128 : BitVec 32 := v127
  let v134 : Index := Scalar.indexCast v128
  ![0, 0, v134.toNat]

def k0_chk2 (i : grid0.Coords) (v19 : BitVec 32) : Prop :=
  (1024 ∣ (k0_mult19 i v19).toNat) ∧
  (∀ a, (k0_off20 i v19) a + S1x128x1024.size a ≤ S2x128x16384.size a)
theorem k0_mult19_dvd : ∀ (i : grid0.Coords) (v19 : BitVec 32) (k0_hw2 : k0_chk2 i v19), 1024 ∣ (k0_mult19 i v19).toNat := fun i v19 k0_hw2 => k0_hw2.1
theorem k0_off20_inb : ∀ (i : grid0.Coords) (v19 : BitVec 32) (k0_hw2 : k0_chk2 i v19), ∀ a, (k0_off20 i v19) a + S1x128x1024.size a ≤ S2x128x16384.size a := fun i v19 k0_hw2 => k0_hw2.2

def k0_mult20 (i : grid0.Coords) (v27 : BitVec 32) : BitVec 32 :=
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let v28 : BitVec 32 := Scalar.maxsi c0_i32_11 v27
  let v29 : BitVec 32 := Scalar.minsi v9 v28
  let c1024_i32_96 : BitVec 32 := 1024#32
  let v152 : BitVec 32 := Scalar.muli v29 c1024_i32_96
  v152
def k0_off21 (i : grid0.Coords) (v27 : BitVec 32) : Fin 3 → Nat :=
  let c1_100 : Index := 1#32
  let c0_101 : Index := 0#32
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let v28 : BitVec 32 := Scalar.maxsi c0_i32_11 v27
  let v29 : BitVec 32 := Scalar.minsi v9 v28
  let c1024_i32_96 : BitVec 32 := 1024#32
  let v152 : BitVec 32 := Scalar.muli v29 c1024_i32_96
  let v153 : BitVec 32 := v152
  let v159 : Index := Scalar.indexCast v153
  ![1, 0, v159.toNat]

def k0_chk1_0 (i : grid0.Coords) (v19 : BitVec 32) (v27 : BitVec 32) : Prop :=
  ((k0_t1_loop i v19 v27).OK) ∧
  (∀ k0_t1 : Fin (k0_t1_loop i v19 v27).trips, 1024 ∣ (k0_mult3 i v19 v27 k0_t1).toNat) ∧
  (∀ k0_t1 : Fin (k0_t1_loop i v19 v27).trips, ∀ a, (k0_off4 i v19 v27 k0_t1) a + S1x1024x128.size a ≤ S2x16384x128.size a) ∧
  (∀ k0_t1 : Fin (k0_t1_loop i v19 v27).trips, 1024 ∣ (k0_mult4 i v19 v27 k0_t1).toNat) ∧
  (∀ k0_t1 : Fin (k0_t1_loop i v19 v27).trips, ∀ a, (k0_off5 i v19 v27 k0_t1) a + S1x128x1024.size a ≤ S2x128x16384.size a) ∧
  (∀ k0_t1 : Fin (k0_t1_loop i v19 v27).trips, 1024 ∣ (k0_mult5 i v19 v27 k0_t1).toNat) ∧
  (∀ k0_t1 : Fin (k0_t1_loop i v19 v27).trips, ∀ a, (k0_off6 i v19 v27 k0_t1) a + S1x1024x128.size a ≤ S2x16384x128.size a) ∧
  (∀ k0_t1 : Fin (k0_t1_loop i v19 v27).trips, 1024 ∣ (k0_mult6 i v19 v27 k0_t1).toNat) ∧
  (∀ k0_t1 : Fin (k0_t1_loop i v19 v27).trips, ∀ a, (k0_off7 i v19 v27 k0_t1) a + S1x128x1024.size a ≤ S2x128x16384.size a) ∧
  ((k0_t2_loop i v19 v27).OK) ∧
  (∀ k0_t2 : Fin (k0_t2_loop i v19 v27).trips, 1024 ∣ (k0_mult7 i v19 v27 k0_t2).toNat) ∧
  (∀ k0_t2 : Fin (k0_t2_loop i v19 v27).trips, ∀ a, (k0_off8 i v19 v27 k0_t2) a + S1x1024x128.size a ≤ S2x16384x128.size a) ∧
  (∀ k0_t2 : Fin (k0_t2_loop i v19 v27).trips, 1024 ∣ (k0_mult8 i v19 v27 k0_t2).toNat) ∧
  (∀ k0_t2 : Fin (k0_t2_loop i v19 v27).trips, ∀ a, (k0_off9 i v19 v27 k0_t2) a + S1x128x1024.size a ≤ S2x128x16384.size a) ∧
  (∀ k0_t2 : Fin (k0_t2_loop i v19 v27).trips, 1024 ∣ (k0_mult9 i v19 v27 k0_t2).toNat) ∧
  (∀ k0_t2 : Fin (k0_t2_loop i v19 v27).trips, ∀ a, (k0_off10 i v19 v27 k0_t2) a + S1x1024x128.size a ≤ S2x16384x128.size a) ∧
  (∀ k0_t2 : Fin (k0_t2_loop i v19 v27).trips, 1024 ∣ (k0_mult10 i v19 v27 k0_t2).toNat) ∧
  (∀ k0_t2 : Fin (k0_t2_loop i v19 v27).trips, ∀ a, (k0_off11 i v19 v27 k0_t2) a + S1x128x1024.size a ≤ S2x128x16384.size a) ∧
  ((k0_t3_loop i v19 v27).OK) ∧
  (∀ k0_t3 : Fin (k0_t3_loop i v19 v27).trips, 1024 ∣ (k0_mult11 i v19 v27 k0_t3).toNat) ∧
  (∀ k0_t3 : Fin (k0_t3_loop i v19 v27).trips, ∀ a, (k0_off12 i v19 v27 k0_t3) a + S1x1024x128.size a ≤ S2x16384x128.size a) ∧
  (∀ k0_t3 : Fin (k0_t3_loop i v19 v27).trips, 1024 ∣ (k0_mult12 i v19 v27 k0_t3).toNat) ∧
  (∀ k0_t3 : Fin (k0_t3_loop i v19 v27).trips, ∀ a, (k0_off13 i v19 v27 k0_t3) a + S1x128x1024.size a ≤ S2x128x16384.size a) ∧
  ((k0_t4_loop i v19 v27).OK) ∧
  (∀ k0_t4 : Fin (k0_t4_loop i v19 v27).trips, 1024 ∣ (k0_mult13 i v19 v27 k0_t4).toNat) ∧
  (∀ k0_t4 : Fin (k0_t4_loop i v19 v27).trips, ∀ a, (k0_off14 i v19 v27 k0_t4) a + S1x1024x128.size a ≤ S2x16384x128.size a) ∧
  (∀ k0_t4 : Fin (k0_t4_loop i v19 v27).trips, 1024 ∣ (k0_mult14 i v19 v27 k0_t4).toNat) ∧
  (∀ k0_t4 : Fin (k0_t4_loop i v19 v27).trips, ∀ a, (k0_off15 i v19 v27 k0_t4) a + S1x128x1024.size a ≤ S2x128x16384.size a) ∧
  ((k0_t5_loop i v19 v27).OK) ∧
  (∀ k0_t5 : Fin (k0_t5_loop i v19 v27).trips, 1024 ∣ (k0_mult15 i v19 v27 k0_t5).toNat) ∧
  (∀ k0_t5 : Fin (k0_t5_loop i v19 v27).trips, ∀ a, (k0_off16 i v19 v27 k0_t5) a + S1x1024x128.size a ≤ S2x16384x128.size a) ∧
  (∀ k0_t5 : Fin (k0_t5_loop i v19 v27).trips, 1024 ∣ (k0_mult16 i v19 v27 k0_t5).toNat)
def k0_chk1_1 (i : grid0.Coords) (v19 : BitVec 32) (v27 : BitVec 32) : Prop :=
  (∀ k0_t5 : Fin (k0_t5_loop i v19 v27).trips, ∀ a, (k0_off17 i v19 v27 k0_t5) a + S1x128x1024.size a ≤ S2x128x16384.size a) ∧
  ((k0_t6_loop i v19 v27).OK) ∧
  (∀ k0_t6 : Fin (k0_t6_loop i v19 v27).trips, 1024 ∣ (k0_mult17 i v19 v27 k0_t6).toNat) ∧
  (∀ k0_t6 : Fin (k0_t6_loop i v19 v27).trips, ∀ a, (k0_off18 i v19 v27 k0_t6) a + S1x1024x128.size a ≤ S2x16384x128.size a) ∧
  (∀ k0_t6 : Fin (k0_t6_loop i v19 v27).trips, 1024 ∣ (k0_mult18 i v19 v27 k0_t6).toNat) ∧
  (∀ k0_t6 : Fin (k0_t6_loop i v19 v27).trips, ∀ a, (k0_off19 i v19 v27 k0_t6) a + S1x128x1024.size a ≤ S2x128x16384.size a) ∧
  (1024 ∣ (k0_mult20 i v27).toNat) ∧
  (∀ a, (k0_off21 i v27) a + S1x128x1024.size a ≤ S2x128x16384.size a)
def k0_chk1 (i : grid0.Coords) (v19 : BitVec 32) (v27 : BitVec 32) : Prop :=
  k0_chk1_0 i v19 v27 ∧
  k0_chk1_1 i v19 v27
theorem k0_t1_ok : ∀ (i : grid0.Coords) (v19 : BitVec 32) (v27 : BitVec 32) (k0_hw1 : k0_chk1 i v19 v27), (k0_t1_loop i v19 v27).OK := fun i v19 v27 k0_hw1 => k0_hw1.1.1
theorem k0_mult3_dvd : ∀ (i : grid0.Coords) (v19 : BitVec 32) (v27 : BitVec 32) (k0_hw1 : k0_chk1 i v19 v27) (k0_t1 : Fin (k0_t1_loop i v19 v27).trips), 1024 ∣ (k0_mult3 i v19 v27 k0_t1).toNat := fun i v19 v27 k0_hw1 k0_t1 => k0_hw1.1.2.1 k0_t1
theorem k0_off4_inb : ∀ (i : grid0.Coords) (v19 : BitVec 32) (v27 : BitVec 32) (k0_hw1 : k0_chk1 i v19 v27) (k0_t1 : Fin (k0_t1_loop i v19 v27).trips), ∀ a, (k0_off4 i v19 v27 k0_t1) a + S1x1024x128.size a ≤ S2x16384x128.size a := fun i v19 v27 k0_hw1 k0_t1 => k0_hw1.1.2.2.1 k0_t1
theorem k0_mult4_dvd : ∀ (i : grid0.Coords) (v19 : BitVec 32) (v27 : BitVec 32) (k0_hw1 : k0_chk1 i v19 v27) (k0_t1 : Fin (k0_t1_loop i v19 v27).trips), 1024 ∣ (k0_mult4 i v19 v27 k0_t1).toNat := fun i v19 v27 k0_hw1 k0_t1 => k0_hw1.1.2.2.2.1 k0_t1
theorem k0_off5_inb : ∀ (i : grid0.Coords) (v19 : BitVec 32) (v27 : BitVec 32) (k0_hw1 : k0_chk1 i v19 v27) (k0_t1 : Fin (k0_t1_loop i v19 v27).trips), ∀ a, (k0_off5 i v19 v27 k0_t1) a + S1x128x1024.size a ≤ S2x128x16384.size a := fun i v19 v27 k0_hw1 k0_t1 => k0_hw1.1.2.2.2.2.1 k0_t1
theorem k0_mult5_dvd : ∀ (i : grid0.Coords) (v19 : BitVec 32) (v27 : BitVec 32) (k0_hw1 : k0_chk1 i v19 v27) (k0_t1 : Fin (k0_t1_loop i v19 v27).trips), 1024 ∣ (k0_mult5 i v19 v27 k0_t1).toNat := fun i v19 v27 k0_hw1 k0_t1 => k0_hw1.1.2.2.2.2.2.1 k0_t1
theorem k0_off6_inb : ∀ (i : grid0.Coords) (v19 : BitVec 32) (v27 : BitVec 32) (k0_hw1 : k0_chk1 i v19 v27) (k0_t1 : Fin (k0_t1_loop i v19 v27).trips), ∀ a, (k0_off6 i v19 v27 k0_t1) a + S1x1024x128.size a ≤ S2x16384x128.size a := fun i v19 v27 k0_hw1 k0_t1 => k0_hw1.1.2.2.2.2.2.2.1 k0_t1
theorem k0_mult6_dvd : ∀ (i : grid0.Coords) (v19 : BitVec 32) (v27 : BitVec 32) (k0_hw1 : k0_chk1 i v19 v27) (k0_t1 : Fin (k0_t1_loop i v19 v27).trips), 1024 ∣ (k0_mult6 i v19 v27 k0_t1).toNat := fun i v19 v27 k0_hw1 k0_t1 => k0_hw1.1.2.2.2.2.2.2.2.1 k0_t1
theorem k0_off7_inb : ∀ (i : grid0.Coords) (v19 : BitVec 32) (v27 : BitVec 32) (k0_hw1 : k0_chk1 i v19 v27) (k0_t1 : Fin (k0_t1_loop i v19 v27).trips), ∀ a, (k0_off7 i v19 v27 k0_t1) a + S1x128x1024.size a ≤ S2x128x16384.size a := fun i v19 v27 k0_hw1 k0_t1 => k0_hw1.1.2.2.2.2.2.2.2.2.1 k0_t1
theorem k0_t2_ok : ∀ (i : grid0.Coords) (v19 : BitVec 32) (v27 : BitVec 32) (k0_hw1 : k0_chk1 i v19 v27), (k0_t2_loop i v19 v27).OK := fun i v19 v27 k0_hw1 => k0_hw1.1.2.2.2.2.2.2.2.2.2.1
theorem k0_mult7_dvd : ∀ (i : grid0.Coords) (v19 : BitVec 32) (v27 : BitVec 32) (k0_hw1 : k0_chk1 i v19 v27) (k0_t2 : Fin (k0_t2_loop i v19 v27).trips), 1024 ∣ (k0_mult7 i v19 v27 k0_t2).toNat := fun i v19 v27 k0_hw1 k0_t2 => k0_hw1.1.2.2.2.2.2.2.2.2.2.2.1 k0_t2
theorem k0_off8_inb : ∀ (i : grid0.Coords) (v19 : BitVec 32) (v27 : BitVec 32) (k0_hw1 : k0_chk1 i v19 v27) (k0_t2 : Fin (k0_t2_loop i v19 v27).trips), ∀ a, (k0_off8 i v19 v27 k0_t2) a + S1x1024x128.size a ≤ S2x16384x128.size a := fun i v19 v27 k0_hw1 k0_t2 => k0_hw1.1.2.2.2.2.2.2.2.2.2.2.2.1 k0_t2
theorem k0_mult8_dvd : ∀ (i : grid0.Coords) (v19 : BitVec 32) (v27 : BitVec 32) (k0_hw1 : k0_chk1 i v19 v27) (k0_t2 : Fin (k0_t2_loop i v19 v27).trips), 1024 ∣ (k0_mult8 i v19 v27 k0_t2).toNat := fun i v19 v27 k0_hw1 k0_t2 => k0_hw1.1.2.2.2.2.2.2.2.2.2.2.2.2.1 k0_t2
theorem k0_off9_inb : ∀ (i : grid0.Coords) (v19 : BitVec 32) (v27 : BitVec 32) (k0_hw1 : k0_chk1 i v19 v27) (k0_t2 : Fin (k0_t2_loop i v19 v27).trips), ∀ a, (k0_off9 i v19 v27 k0_t2) a + S1x128x1024.size a ≤ S2x128x16384.size a := fun i v19 v27 k0_hw1 k0_t2 => k0_hw1.1.2.2.2.2.2.2.2.2.2.2.2.2.2.1 k0_t2
theorem k0_mult9_dvd : ∀ (i : grid0.Coords) (v19 : BitVec 32) (v27 : BitVec 32) (k0_hw1 : k0_chk1 i v19 v27) (k0_t2 : Fin (k0_t2_loop i v19 v27).trips), 1024 ∣ (k0_mult9 i v19 v27 k0_t2).toNat := fun i v19 v27 k0_hw1 k0_t2 => k0_hw1.1.2.2.2.2.2.2.2.2.2.2.2.2.2.2.1 k0_t2
theorem k0_off10_inb : ∀ (i : grid0.Coords) (v19 : BitVec 32) (v27 : BitVec 32) (k0_hw1 : k0_chk1 i v19 v27) (k0_t2 : Fin (k0_t2_loop i v19 v27).trips), ∀ a, (k0_off10 i v19 v27 k0_t2) a + S1x1024x128.size a ≤ S2x16384x128.size a := fun i v19 v27 k0_hw1 k0_t2 => k0_hw1.1.2.2.2.2.2.2.2.2.2.2.2.2.2.2.2.1 k0_t2
theorem k0_mult10_dvd : ∀ (i : grid0.Coords) (v19 : BitVec 32) (v27 : BitVec 32) (k0_hw1 : k0_chk1 i v19 v27) (k0_t2 : Fin (k0_t2_loop i v19 v27).trips), 1024 ∣ (k0_mult10 i v19 v27 k0_t2).toNat := fun i v19 v27 k0_hw1 k0_t2 => k0_hw1.1.2.2.2.2.2.2.2.2.2.2.2.2.2.2.2.2.1 k0_t2
theorem k0_off11_inb : ∀ (i : grid0.Coords) (v19 : BitVec 32) (v27 : BitVec 32) (k0_hw1 : k0_chk1 i v19 v27) (k0_t2 : Fin (k0_t2_loop i v19 v27).trips), ∀ a, (k0_off11 i v19 v27 k0_t2) a + S1x128x1024.size a ≤ S2x128x16384.size a := fun i v19 v27 k0_hw1 k0_t2 => k0_hw1.1.2.2.2.2.2.2.2.2.2.2.2.2.2.2.2.2.2.1 k0_t2
theorem k0_t3_ok : ∀ (i : grid0.Coords) (v19 : BitVec 32) (v27 : BitVec 32) (k0_hw1 : k0_chk1 i v19 v27), (k0_t3_loop i v19 v27).OK := fun i v19 v27 k0_hw1 => k0_hw1.1.2.2.2.2.2.2.2.2.2.2.2.2.2.2.2.2.2.2.1
theorem k0_mult11_dvd : ∀ (i : grid0.Coords) (v19 : BitVec 32) (v27 : BitVec 32) (k0_hw1 : k0_chk1 i v19 v27) (k0_t3 : Fin (k0_t3_loop i v19 v27).trips), 1024 ∣ (k0_mult11 i v19 v27 k0_t3).toNat := fun i v19 v27 k0_hw1 k0_t3 => k0_hw1.1.2.2.2.2.2.2.2.2.2.2.2.2.2.2.2.2.2.2.2.1 k0_t3
theorem k0_off12_inb : ∀ (i : grid0.Coords) (v19 : BitVec 32) (v27 : BitVec 32) (k0_hw1 : k0_chk1 i v19 v27) (k0_t3 : Fin (k0_t3_loop i v19 v27).trips), ∀ a, (k0_off12 i v19 v27 k0_t3) a + S1x1024x128.size a ≤ S2x16384x128.size a := fun i v19 v27 k0_hw1 k0_t3 => k0_hw1.1.2.2.2.2.2.2.2.2.2.2.2.2.2.2.2.2.2.2.2.2.1 k0_t3
theorem k0_mult12_dvd : ∀ (i : grid0.Coords) (v19 : BitVec 32) (v27 : BitVec 32) (k0_hw1 : k0_chk1 i v19 v27) (k0_t3 : Fin (k0_t3_loop i v19 v27).trips), 1024 ∣ (k0_mult12 i v19 v27 k0_t3).toNat := fun i v19 v27 k0_hw1 k0_t3 => k0_hw1.1.2.2.2.2.2.2.2.2.2.2.2.2.2.2.2.2.2.2.2.2.2.1 k0_t3
theorem k0_off13_inb : ∀ (i : grid0.Coords) (v19 : BitVec 32) (v27 : BitVec 32) (k0_hw1 : k0_chk1 i v19 v27) (k0_t3 : Fin (k0_t3_loop i v19 v27).trips), ∀ a, (k0_off13 i v19 v27 k0_t3) a + S1x128x1024.size a ≤ S2x128x16384.size a := fun i v19 v27 k0_hw1 k0_t3 => k0_hw1.1.2.2.2.2.2.2.2.2.2.2.2.2.2.2.2.2.2.2.2.2.2.2.1 k0_t3
theorem k0_t4_ok : ∀ (i : grid0.Coords) (v19 : BitVec 32) (v27 : BitVec 32) (k0_hw1 : k0_chk1 i v19 v27), (k0_t4_loop i v19 v27).OK := fun i v19 v27 k0_hw1 => k0_hw1.1.2.2.2.2.2.2.2.2.2.2.2.2.2.2.2.2.2.2.2.2.2.2.2.1
theorem k0_mult13_dvd : ∀ (i : grid0.Coords) (v19 : BitVec 32) (v27 : BitVec 32) (k0_hw1 : k0_chk1 i v19 v27) (k0_t4 : Fin (k0_t4_loop i v19 v27).trips), 1024 ∣ (k0_mult13 i v19 v27 k0_t4).toNat := fun i v19 v27 k0_hw1 k0_t4 => k0_hw1.1.2.2.2.2.2.2.2.2.2.2.2.2.2.2.2.2.2.2.2.2.2.2.2.2.1 k0_t4
theorem k0_off14_inb : ∀ (i : grid0.Coords) (v19 : BitVec 32) (v27 : BitVec 32) (k0_hw1 : k0_chk1 i v19 v27) (k0_t4 : Fin (k0_t4_loop i v19 v27).trips), ∀ a, (k0_off14 i v19 v27 k0_t4) a + S1x1024x128.size a ≤ S2x16384x128.size a := fun i v19 v27 k0_hw1 k0_t4 => k0_hw1.1.2.2.2.2.2.2.2.2.2.2.2.2.2.2.2.2.2.2.2.2.2.2.2.2.2.1 k0_t4
theorem k0_mult14_dvd : ∀ (i : grid0.Coords) (v19 : BitVec 32) (v27 : BitVec 32) (k0_hw1 : k0_chk1 i v19 v27) (k0_t4 : Fin (k0_t4_loop i v19 v27).trips), 1024 ∣ (k0_mult14 i v19 v27 k0_t4).toNat := fun i v19 v27 k0_hw1 k0_t4 => k0_hw1.1.2.2.2.2.2.2.2.2.2.2.2.2.2.2.2.2.2.2.2.2.2.2.2.2.2.2.1 k0_t4
theorem k0_off15_inb : ∀ (i : grid0.Coords) (v19 : BitVec 32) (v27 : BitVec 32) (k0_hw1 : k0_chk1 i v19 v27) (k0_t4 : Fin (k0_t4_loop i v19 v27).trips), ∀ a, (k0_off15 i v19 v27 k0_t4) a + S1x128x1024.size a ≤ S2x128x16384.size a := fun i v19 v27 k0_hw1 k0_t4 => k0_hw1.1.2.2.2.2.2.2.2.2.2.2.2.2.2.2.2.2.2.2.2.2.2.2.2.2.2.2.2.1 k0_t4
theorem k0_t5_ok : ∀ (i : grid0.Coords) (v19 : BitVec 32) (v27 : BitVec 32) (k0_hw1 : k0_chk1 i v19 v27), (k0_t5_loop i v19 v27).OK := fun i v19 v27 k0_hw1 => k0_hw1.1.2.2.2.2.2.2.2.2.2.2.2.2.2.2.2.2.2.2.2.2.2.2.2.2.2.2.2.2.1
theorem k0_mult15_dvd : ∀ (i : grid0.Coords) (v19 : BitVec 32) (v27 : BitVec 32) (k0_hw1 : k0_chk1 i v19 v27) (k0_t5 : Fin (k0_t5_loop i v19 v27).trips), 1024 ∣ (k0_mult15 i v19 v27 k0_t5).toNat := fun i v19 v27 k0_hw1 k0_t5 => k0_hw1.1.2.2.2.2.2.2.2.2.2.2.2.2.2.2.2.2.2.2.2.2.2.2.2.2.2.2.2.2.2.1 k0_t5
theorem k0_off16_inb : ∀ (i : grid0.Coords) (v19 : BitVec 32) (v27 : BitVec 32) (k0_hw1 : k0_chk1 i v19 v27) (k0_t5 : Fin (k0_t5_loop i v19 v27).trips), ∀ a, (k0_off16 i v19 v27 k0_t5) a + S1x1024x128.size a ≤ S2x16384x128.size a := fun i v19 v27 k0_hw1 k0_t5 => k0_hw1.1.2.2.2.2.2.2.2.2.2.2.2.2.2.2.2.2.2.2.2.2.2.2.2.2.2.2.2.2.2.2.1 k0_t5
theorem k0_mult16_dvd : ∀ (i : grid0.Coords) (v19 : BitVec 32) (v27 : BitVec 32) (k0_hw1 : k0_chk1 i v19 v27) (k0_t5 : Fin (k0_t5_loop i v19 v27).trips), 1024 ∣ (k0_mult16 i v19 v27 k0_t5).toNat := fun i v19 v27 k0_hw1 k0_t5 => k0_hw1.1.2.2.2.2.2.2.2.2.2.2.2.2.2.2.2.2.2.2.2.2.2.2.2.2.2.2.2.2.2.2.2 k0_t5
theorem k0_off17_inb : ∀ (i : grid0.Coords) (v19 : BitVec 32) (v27 : BitVec 32) (k0_hw1 : k0_chk1 i v19 v27) (k0_t5 : Fin (k0_t5_loop i v19 v27).trips), ∀ a, (k0_off17 i v19 v27 k0_t5) a + S1x128x1024.size a ≤ S2x128x16384.size a := fun i v19 v27 k0_hw1 k0_t5 => k0_hw1.2.1 k0_t5
theorem k0_t6_ok : ∀ (i : grid0.Coords) (v19 : BitVec 32) (v27 : BitVec 32) (k0_hw1 : k0_chk1 i v19 v27), (k0_t6_loop i v19 v27).OK := fun i v19 v27 k0_hw1 => k0_hw1.2.2.1
theorem k0_mult17_dvd : ∀ (i : grid0.Coords) (v19 : BitVec 32) (v27 : BitVec 32) (k0_hw1 : k0_chk1 i v19 v27) (k0_t6 : Fin (k0_t6_loop i v19 v27).trips), 1024 ∣ (k0_mult17 i v19 v27 k0_t6).toNat := fun i v19 v27 k0_hw1 k0_t6 => k0_hw1.2.2.2.1 k0_t6
theorem k0_off18_inb : ∀ (i : grid0.Coords) (v19 : BitVec 32) (v27 : BitVec 32) (k0_hw1 : k0_chk1 i v19 v27) (k0_t6 : Fin (k0_t6_loop i v19 v27).trips), ∀ a, (k0_off18 i v19 v27 k0_t6) a + S1x1024x128.size a ≤ S2x16384x128.size a := fun i v19 v27 k0_hw1 k0_t6 => k0_hw1.2.2.2.2.1 k0_t6
theorem k0_mult18_dvd : ∀ (i : grid0.Coords) (v19 : BitVec 32) (v27 : BitVec 32) (k0_hw1 : k0_chk1 i v19 v27) (k0_t6 : Fin (k0_t6_loop i v19 v27).trips), 1024 ∣ (k0_mult18 i v19 v27 k0_t6).toNat := fun i v19 v27 k0_hw1 k0_t6 => k0_hw1.2.2.2.2.2.1 k0_t6
theorem k0_off19_inb : ∀ (i : grid0.Coords) (v19 : BitVec 32) (v27 : BitVec 32) (k0_hw1 : k0_chk1 i v19 v27) (k0_t6 : Fin (k0_t6_loop i v19 v27).trips), ∀ a, (k0_off19 i v19 v27 k0_t6) a + S1x128x1024.size a ≤ S2x128x16384.size a := fun i v19 v27 k0_hw1 k0_t6 => k0_hw1.2.2.2.2.2.2.1 k0_t6
theorem k0_mult20_dvd : ∀ (i : grid0.Coords) (v19 : BitVec 32) (v27 : BitVec 32) (k0_hw1 : k0_chk1 i v19 v27), 1024 ∣ (k0_mult20 i v27).toNat := fun i v19 v27 k0_hw1 => k0_hw1.2.2.2.2.2.2.2.1
theorem k0_off21_inb : ∀ (i : grid0.Coords) (v19 : BitVec 32) (v27 : BitVec 32) (k0_hw1 : k0_chk1 i v19 v27), ∀ a, (k0_off21 i v27) a + S1x128x1024.size a ≤ S2x128x16384.size a := fun i v19 v27 k0_hw1 => k0_hw1.2.2.2.2.2.2.2.2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x8 : Shape := ⟨2, ![32, 8]⟩
abbrev S1x16384x8x64 : Shape := ⟨4, ![1, 16384, 8, 64]⟩
abbrev S1x16384x8 : Shape := ⟨3, ![1, 16384, 8]⟩
abbrev S16384 : Shape := ⟨1, ![16384]⟩
abbrev S16 : Shape := ⟨1, ![16]⟩
abbrev S16x8 : Shape := ⟨2, ![16, 8]⟩
abbrev S_ : Shape := ⟨0, ![]⟩
abbrev S16x1 : Shape := ⟨2, ![16, 1]⟩
abbrev S16x1x8 : Shape := ⟨3, ![16, 1, 8]⟩
abbrev S16x1024x8 : Shape := ⟨3, ![16, 1024, 8]⟩
abbrev S16384x8 : Shape := ⟨2, ![16384, 8]⟩
abbrev S1x8x16384x16384 : Shape := ⟨4, ![1, 8, 16384, 16384]⟩
abbrev S1x8x16384 : Shape := ⟨3, ![1, 8, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S1x1x16384 : Shape := ⟨3, ![1, 1, 16384]⟩
abbrev S8x16384 : Shape := ⟨2, ![8, 16384]⟩
abbrev S8x16384x1 : Shape := ⟨3, ![8, 16384, 1]⟩
abbrev S8x16384x16384 : Shape := ⟨3, ![8, 16384, 16384]⟩
abbrev S1x8x64x16384 : Shape := ⟨4, ![1, 8, 64, 16384]⟩
abbrev S16384x512 : Shape := ⟨2, ![16384, 512]⟩

abbrev nBuf : Space → Nat
  | .hbm => 68
  | .vmem => 0
  | .smem => 0
  | _ => 0

abbrev bufTy : (tb : Table) → Fin (tcTables nBuf tb) → BufTy
  | .hbm, ⟨0, _⟩ => ⟨S32x8, .i32⟩
  | .hbm, ⟨1, _⟩ => ⟨S1x16384x8x64, .f32⟩
  | .hbm, ⟨2, _⟩ => ⟨S1x16384x8x64, .f32⟩
  | .hbm, ⟨3, _⟩ => ⟨S1x16384x8x64, .f32⟩
  | .hbm, ⟨4, _⟩ => ⟨S1x16384x8, .f32⟩
  | .hbm, ⟨5, _⟩ => ⟨S16384, .i32⟩
  | .hbm, ⟨6, _⟩ => ⟨S16, .i32⟩
  | .hbm, ⟨7, _⟩ => ⟨S16x8, .i32⟩
  | .hbm, ⟨8, _⟩ => ⟨S_, .i32⟩
  | .hbm, ⟨9, _⟩ => ⟨S16x8, .i32⟩
  | .hbm, ⟨10, _⟩ => ⟨S16x8, .i32⟩
  | .hbm, ⟨11, _⟩ => ⟨S16x1, .i32⟩
  | .hbm, ⟨12, _⟩ => ⟨S16x8, .i32⟩
  | .hbm, ⟨13, _⟩ => ⟨S16x8, .i32⟩
  | .hbm, ⟨14, _⟩ => ⟨S_, .i32⟩
  | .hbm, ⟨15, _⟩ => ⟨S16x8, .i32⟩
  | .hbm, ⟨16, _⟩ => ⟨S16x8, .i32⟩
  | .hbm, ⟨17, _⟩ => ⟨S16x1x8, .i32⟩
  | .hbm, ⟨18, _⟩ => ⟨S16x1024x8, .i32⟩
  | .hbm, ⟨19, _⟩ => ⟨S16384x8, .i32⟩
  | .hbm, ⟨20, _⟩ => ⟨S1x8x16384x16384, .f32⟩
  | .hbm, ⟨21, _⟩ => ⟨S_, .f32⟩
  | .hbm, ⟨22, _⟩ => ⟨S1x8x16384x16384, .f32⟩
  | .hbm, ⟨23, _⟩ => ⟨S1x8x16384x16384, .f32⟩
  | .hbm, ⟨24, _⟩ => ⟨S1x8x16384, .f32⟩
  | .hbm, ⟨25, _⟩ => ⟨S1x8x16384x1, .f32⟩
  | .hbm, ⟨26, _⟩ => ⟨S1x8x16384, .f32⟩
  | .hbm, ⟨27, _⟩ => ⟨S1x8x1x16384, .f32⟩
  | .hbm, ⟨28, _⟩ => ⟨S1x8x16384x16384, .f32⟩
  | .hbm, ⟨29, _⟩ => ⟨S1x8x16384x16384, .f32⟩
  | .hbm, ⟨30, _⟩ => ⟨S1x8x16384x16384, .f32⟩
  | .hbm, ⟨31, _⟩ => ⟨S1x16384, .i32⟩
  | .hbm, ⟨32, _⟩ => ⟨S16384x1, .i32⟩
  | .hbm, ⟨33, _⟩ => ⟨S16384x16384, .i32⟩
  | .hbm, ⟨34, _⟩ => ⟨S16384x16384, .i32⟩
  | .hbm, ⟨35, _⟩ => ⟨S16384x16384, .i1⟩
  | .hbm, ⟨36, _⟩ => ⟨S1x16384x16384, .i1⟩
  | .hbm, ⟨37, _⟩ => ⟨S1x1x16384, .i32⟩
  | .hbm, ⟨38, _⟩ => ⟨S8x16384, .i32⟩
  | .hbm, ⟨39, _⟩ => ⟨S8x16384x1, .i32⟩
  | .hbm, ⟨40, _⟩ => ⟨S8x16384x16384, .i32⟩
  | .hbm, ⟨41, _⟩ => ⟨S8x16384x16384, .i32⟩
  | .hbm, ⟨42, _⟩ => ⟨S8x16384x16384, .i1⟩
  | .hbm, ⟨43, _⟩ => ⟨S8x16384x16384, .i1⟩
  | .hbm, ⟨44, _⟩ => ⟨S8x16384x16384, .i1⟩
  | .hbm, ⟨45, _⟩ => ⟨S1x8x16384x16384, .i1⟩
  | .hbm, ⟨46, _⟩ => ⟨S1x8x16384x16384, .f32⟩
  | .hbm, ⟨47, _⟩ => ⟨S_, .f32⟩
  | .hbm, ⟨48, _⟩ => ⟨S_, .f32⟩
  | .hbm, ⟨49, _⟩ => ⟨S1x8x16384x16384, .f32⟩
  | .hbm, ⟨50, _⟩ => ⟨S1x8x16384x16384, .f32⟩
  | .hbm, ⟨51, _⟩ => ⟨S_, .f32⟩
  | .hbm, ⟨52, _⟩ => ⟨S1x8x16384, .f32⟩
  | .hbm, ⟨53, _⟩ => ⟨S_, .f32⟩
  | .hbm, ⟨54, _⟩ => ⟨S1x8x16384, .f32⟩
  | .hbm, ⟨55, _⟩ => ⟨S1x8x16384, .f32⟩
  | .hbm, ⟨56, _⟩ => ⟨S1x8x16384x1, .f32⟩
  | .hbm, ⟨57, _⟩ => ⟨S1x8x16384x16384, .f32⟩
  | .hbm, ⟨58, _⟩ => ⟨S1x8x16384x16384, .f32⟩
  | .hbm, ⟨59, _⟩ => ⟨S1x8x16384x16384, .f32⟩
  | .hbm, ⟨60, _⟩ => ⟨S_, .f32⟩
  | .hbm, ⟨61, _⟩ => ⟨S1x8x16384, .f32⟩
  | .hbm, ⟨62, _⟩ => ⟨S1x8x16384x1, .f32⟩
  | .hbm, ⟨63, _⟩ => ⟨S1x8x16384x16384, .f32⟩
  | .hbm, ⟨64, _⟩ => ⟨S1x8x16384x16384, .f32⟩
  | .hbm, ⟨65, _⟩ => ⟨S1x8x64x16384, .f32⟩
  | .hbm, ⟨66, _⟩ => ⟨S1x16384x8x64, .f32⟩
  | .hbm, ⟨67, _⟩ => ⟨S16384x512, .f32⟩
  | _, _ => ⟨S32x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_call0_v0 : Ref sig .tc := ⟨.hbm, 48, rfl⟩
abbrev main_call0_v1 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S4x512 : Shape := ⟨2, ![4, 512]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1x512 : Shape := ⟨3, ![4, 1, 512]⟩
abbrev S4x1x1024 : Shape := ⟨3, ![4, 1, 1024]⟩
abbrev S512x1024 : Shape := ⟨2, ![512, 1024]⟩
abbrev S512x512 : Shape := ⟨2, ![512, 512]⟩
abbrev S1x1x512 : Shape := ⟨3, ![1, 1, 512]⟩
abbrev S1x1024x1024 : Shape := ⟨3, ![1, 1024, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x512 : Shape := ⟨2, ![1, 512]⟩
abbrev S512 : Shape := ⟨1, ![512]⟩
abbrev S512x1 : Shape := ⟨2, ![512, 1]⟩
abbrev S1024x1024 : Shape := ⟨2, ![1024, 1024]⟩
abbrev S1x1024 : Shape := ⟨2, ![1, 1024]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x512, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1024, .f32⟩
  | .hbm, ⟨10, _⟩ => ⟨S16384x512, .bf16⟩
  | .hbm, ⟨11, _⟩ => ⟨S4x1x512, .f32⟩
  | .hbm, ⟨12, _⟩ => ⟨S4x1024x1024, .bf16⟩
  | .hbm, ⟨13, _⟩ => ⟨S4x1x1024, .f32⟩
  | .hbm, ⟨14, _⟩ => ⟨S4x1x1024, .f32⟩
  | .hbm, ⟨15, _⟩ => ⟨S4x1024x4096, .bf16⟩
  | .hbm, ⟨16, _⟩ => ⟨S4x4096x1024, .bf16⟩
  | .hbm, ⟨17, _⟩ => ⟨S4x1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x1x512, .f32⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostReferenceIdeal.lean ====
abbrev S16384x1024 : Shape := ⟨2, ![16384, 1024]⟩
abbrev S16384x512 : Shape := ⟨2, ![16384, 512]⟩
abbrev S4x512 : Shape := ⟨2, ![4, 512]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x512 : Shape := ⟨2, ![1, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x512, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1024, .f32⟩
  | .hbm, ⟨10, _⟩ => ⟨S1x512, .f32⟩
  | .hbm, ⟨11, _⟩ => ⟨S512, .f32⟩
  | .hbm, ⟨12, _⟩ => ⟨S16384x512, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x1024, .f32⟩
  | .hbm, ⟨29, _⟩ => ⟨S1x1024x1024, .f32⟩
  | .hbm, ⟨30, _⟩ => ⟨S1024x1024, .f32⟩
  | .hbm, ⟨31, _⟩ => ⟨S16384x1024, .f32⟩
  | .hbm, ⟨32, _⟩ => ⟨S1x1024, .f32⟩
  | .hbm, ⟨33, _⟩ => ⟨S1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S1x1024x4096, .f32⟩
  | .hbm, ⟨70, _⟩ => ⟨S1024x4096, .f32⟩
  | .hbm, ⟨71, _⟩ => ⟨S16384x4096, .f32⟩
  | .hbm, ⟨72, _⟩ => ⟨S_, .f32⟩
  | .hbm, ⟨73, _⟩ => ⟨S16384x4096, .f32⟩
  | .hbm, ⟨74, _⟩ => ⟨S16384x4096, .f32⟩
  | .hbm, ⟨75, _⟩ => ⟨S16384x4096, .f32⟩
  | .hbm, ⟨76, _⟩ => ⟨S1x4096x1024, .f32⟩
  | .hbm, ⟨77, _⟩ => ⟨S4096x1024, .f32⟩
  | .hbm, ⟨78, _⟩ => ⟨S16384x1024, .f32⟩
  | .hbm, ⟨79, _⟩ => ⟨S1x1024, .f32⟩
  | .hbm, ⟨80, _⟩ => ⟨S1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | .hbm, ⟨97, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call0_cst : Ref sig .tc := ⟨.hbm, 72, rfl⟩
abbrev main_call0_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Proof.Checks.lean ====
/- The conditions the attention kernel assumes of the two words it reads of `first_block`, proved of
   EVERY word. The kernel clamps each word to a block number between 0 and the query block's own, so
   every block of keys and values it loads lies inside its buffer. Also here: the loops' trip counts
   and the loads' offsets as plain natural numbers, which the value proof reads. -/
module

public import proofs.«01_k».proof.Proof.Gen.KernelIdeal.Launch
public import Idealize.ShloMosaic.Lib.Affine

@[expose] public section

namespace Cert.Proof.Attn

open Cert.KernelIdeal Cert.KernelIdeal.Gen
open Idealize.ShloMosaic Idealize.ShloMosaic.TcCoe

/-- The first key block a head visits: its word of `first_block`, clamped to `0 … q`, where `q` is the
    query block. -/
def lo (i : grid0.Coords) (v : BitVec 32) : ℕ := min (i 1).val v.toInt.toNat

theorem lo_le (i : grid0.Coords) (v : BitVec 32) : lo i v ≤ (i 1).val := Nat.min_le_left _ _

/-- The trips both heads run together. -/
def both (i : grid0.Coords) (v w : BitVec 32) : ℕ := min ((i 1).val - lo i v) ((i 1).val - lo i w)

/-- The query block as the kernel computes it from the grid's second coordinate. -/
def qWord (i : grid0.Coords) : BitVec 32 :=
  let x := BitVec.ofNat 32 (i 1).val
  let n := Scalar.select (Scalar.cmpi .eq 16#32 0#32) 1#32 16#32
  let r := Scalar.remsi x n
  Scalar.select (Scalar.andi (Scalar.xori (Scalar.cmpi .slt r 0#32) (Scalar.cmpi .slt n 0#32)) (Scalar.cmpi .ne r 0#32)) (Scalar.addi r n) r

/-- A head's first block as the kernel computes it. -/
def loWord (i : grid0.Coords) (v : BitVec 32) : BitVec 32 := Scalar.minsi (qWord i) (Scalar.maxsi 0#32 v)

/-- The number of trips both heads run, as the kernel computes it. -/
def bothWord (i : grid0.Coords) (v w : BitVec 32) : BitVec 32 :=
  Scalar.minsi (Scalar.subi (qWord i) (loWord i v)) (Scalar.subi (qWord i) (loWord i w))

theorem q_lt (i : grid0.Coords) : (i 1).val < 16 := (i 1).isLt

theorem zero_int : Affine.IsInt 0#32 0 := Affine.ofNat _ (by omega)
theorem one_int : Affine.IsInt 1#32 1 := Affine.ofNat _ (by omega)
theorem k_int : Affine.IsInt 1024#32 1024 := Affine.ofNat _ (by omega)

theorem qWord_int (i : grid0.Coords) : Affine.IsInt (qWord i) ((i 1).val : Int) := by
  have hq := q_lt i
  have hx : Affine.IsInt (BitVec.ofNat 32 (i 1).val) ((i 1).val : Int) := Affine.ofNat _ (by omega)
  have h16 : Affine.IsInt 16#32 16 := Affine.ofNat _ (by omega)
  have hn : Affine.IsInt _ 16 := Affine.select_fails (Affine.eq_fails h16 zero_int (by omega)) one_int h16 (by omega)
  have hr : Affine.IsInt _ ((i 1).val : Int) := Affine.remsi hx hn (by omega)
  have hs : Affine.Fails _ := Affine.andi_fails_left
    (Affine.xori_ff (Affine.slt_fails hr zero_int (by omega)) (Affine.slt_fails hn zero_int (by omega)))
    (Affine.cmpi_term .ne hr zero_int)
  have hp : Affine.IsInt _ ((i 1).val + 16 : Int) := Affine.addi hr hn (by omega)
  exact Affine.select_fails hs hp hr rfl

theorem loWord_int (i : grid0.Coords) (v : BitVec 32) : Affine.IsInt (loWord i v) (lo i v : Int) := by
  have hm : Affine.IsInt _ (max 0 v.toInt) := Affine.maxsi zero_int (Affine.word v) rfl
  exact Affine.minsi (qWord_int i) hm (by unfold lo; omega)

theorem left_int (i : grid0.Coords) (v : BitVec 32) :
    Affine.IsInt (Scalar.subi (qWord i) (loWord i v)) (((i 1).val - lo i v : ℕ) : Int) := by
  have := lo_le i v; have := q_lt i
  exact Affine.subi (qWord_int i) (loWord_int i v) (by omega)

theorem bothWord_int (i : grid0.Coords) (v w : BitVec 32) : Affine.IsInt (bothWord i v w) (both i v w : Int) :=
  Affine.minsi (left_int i v) (left_int i w) (by unfold both; omega)

theorem both_le_left (i : grid0.Coords) (v w : BitVec 32) : both i v w ≤ (i 1).val - lo i v := Nat.min_le_left _ _
theorem both_le_right (i : grid0.Coords) (v w : BitVec 32) : both i v w ≤ (i 1).val - lo i w := Nat.min_le_right _ _

section Bounds
variable (i : grid0.Coords) (v w : BitVec 32)

/-- `n` whole steps of one, computed the kernel's way: divided and multiplied by one. -/
theorem steps {a : BitVec 32} {n : ℕ} (ha : Affine.IsInt a n) (hn : n < 100) :
    Affine.IsInt (Scalar.muli (Scalar.divsi a 1#32) 1#32) n := by
  have hd : Affine.IsInt _ (n : Int) := Affine.divsi_one ha one_int ⟨rfl, rfl⟩
  exact Affine.muli hd one_int (by omega)

theorem b_int : Affine.IsInt (Scalar.subi (bothWord i v w) 0#32) (both i v w : Int) := by
  have := both_le_left i v w; have := q_lt i
  exact Affine.subi (bothWord_int i v w) zero_int (by omega)

theorem e1 : Affine.IsInt (Scalar.addi 0#32 (Scalar.muli (Scalar.divsi (Scalar.subi (bothWord i v w) 0#32) 1#32) 1#32)) (both i v w : Int) := by
  have := both_le_left i v w; have := q_lt i
  exact Affine.addi zero_int (steps (b_int i v w) (by omega)) (by omega)

theorem e2 : Affine.IsInt (Scalar.addi 0#32 (Scalar.subi (bothWord i v w) 0#32)) (both i v w : Int) := by
  have := both_le_left i v w; have := q_lt i
  exact Affine.addi zero_int (b_int i v w) (by omega)

/-- What a head has left after the trips both run. -/
theorem rest_int (u : BitVec 32) (h : both i v w ≤ (i 1).val - lo i u) :
    Affine.IsInt (Scalar.subi (Scalar.subi (qWord i) (loWord i u)) (bothWord i v w)) (((i 1).val - lo i u - both i v w : ℕ) : Int) := by
  have := q_lt i
  exact Affine.subi (left_int i u) (bothWord_int i v w) (by omega)

theorem e3 (u : BitVec 32) (h : both i v w ≤ (i 1).val - lo i u) :
    Affine.IsInt (Scalar.addi (bothWord i v w) (Scalar.muli (Scalar.divsi
      (Scalar.subi (Scalar.subi (qWord i) (loWord i u)) (bothWord i v w)) 1#32) 1#32)) (((i 1).val - lo i u : ℕ) : Int) := by
  have := q_lt i
  exact Affine.addi (bothWord_int i v w) (steps (rest_int i v w u h) (by omega)) (by omega)

theorem e4 (u : BitVec 32) (h : both i v w ≤ (i 1).val - lo i u) :
    Affine.IsInt (Scalar.addi (bothWord i v w)
      (Scalar.subi (Scalar.subi (qWord i) (loWord i u)) (bothWord i v w))) (((i 1).val - lo i u : ℕ) : Int) := by
  have := q_lt i
  exact Affine.addi (bothWord_int i v w) (rest_int i v w u h) (by omega)

/-- The row `(q − t − 1)·1024` of the next block of keys, at the loop's counter `t`. -/
theorem next_int {a : BitVec 32} {s : ℕ} {t : ℕ} (ha : Affine.IsInt a s) (h : s + t < (i 1).val) :
    Affine.IsInt (Scalar.muli (Scalar.subi (Scalar.subi (qWord i) (Scf.iv a 1#32 t)) 1#32) 1024#32)
      (1024 * ((i 1).val - (s + t) - 1 : ℕ) : Int) := by
  have := q_lt i
  have hi : Affine.IsInt _ (s + t : Int) := Affine.iv ha one_int t (by omega)
  have h1 : Affine.IsInt _ ((i 1).val - (s + t) : Int) := Affine.subi (qWord_int i) hi (by omega)
  have h2 : Affine.IsInt _ ((i 1).val - (s + t) - 1 : Int) := Affine.subi h1 one_int (by omega)
  exact Affine.muli h2 k_int (by omega)

/-- The column `(q − t)·1024` of the block of values held, at the loop's counter `t`. -/
theorem held_int {a : BitVec 32} {s : ℕ} {t : ℕ} (ha : Affine.IsInt a s) (h : s + t < (i 1).val) :
    Affine.IsInt (Scalar.muli (Scalar.subi (qWord i) (Scf.iv a 1#32 t)) 1024#32)
      (1024 * ((i 1).val - (s + t) : ℕ) : Int) := by
  have := q_lt i
  have hi : Affine.IsInt _ (s + t : Int) := Affine.iv ha one_int t (by omega)
  have h1 : Affine.IsInt _ ((i 1).val - (s + t) : Int) := Affine.subi (qWord_int i) hi (by omega)
  exact Affine.muli h1 k_int (by omega)

theorem toNat_eq {a : BitVec 32} {n : ℕ} (ha : Affine.IsInt a (1024 * (n : ℕ) : Int)) : a.toNat = 1024 * n := by
  have := Affine.toNat_of ha (by omega); omega

theorem dvd {a : BitVec 32} {n : ℕ} (ha : Affine.IsInt a (1024 * (n : ℕ) : Int)) : 1024 ∣ a.toNat := by
  rw [toNat_eq ha]; exact Nat.dvd_mul_right _ _

/-- Loop 1 of the kernel runs exactly this many trips, and its bounds have a meaning. -/
theorem trips1 : (k0_t1_loop i v w).trips = both i v w := by
  have := both_le_left i v w; have := both_le_right i v w; have := q_lt i
  exact Affine.trips_eq zero_int (e1 i v w) one_int _ (by omega)

theorem ok1 : (k0_t1_loop i v w).OK := by
  have := both_le_left i v w; have := both_le_right i v w; have := q_lt i
  exact Affine.ok zero_int (e1 i v w) one_int (by omega)

theorem lt1 (t : Fin (k0_t1_loop i v w).trips) : 0 + t.val < (i 1).val := by
  have h := lt_of_lt_of_eq t.isLt (trips1 i v w)
  have := both_le_left i v w; have := both_le_right i v w; have := q_lt i
  omega

/-- Loop 2 of the kernel runs exactly this many trips, and its bounds have a meaning. -/
theorem trips2 : (k0_t2_loop i v w).trips = 0 := by
  have := both_le_left i v w; have := both_le_right i v w; have := q_lt i
  exact Affine.trips_eq (e1 i v w) (e2 i v w) one_int _ (by omega)

theorem ok2 : (k0_t2_loop i v w).OK := by
  have := both_le_left i v w; have := both_le_right i v w; have := q_lt i
  exact Affine.ok (e1 i v w) (e2 i v w) one_int (by omega)

theorem lt2 (t : Fin (k0_t2_loop i v w).trips) : both i v w + t.val < (i 1).val := by
  have h := lt_of_lt_of_eq t.isLt (trips2 i v w)
  have := both_le_left i v w; have := both_le_right i v w; have := q_lt i
  omega

/-- Loop 3 of the kernel runs exactly this many trips, and its bounds have a meaning. -/
theorem trips3 : (k0_t3_loop i v w).trips = (i 1).val - lo i v - both i v w := by
  have := both_le_left i v w; have := both_le_right i v w; have := q_lt i
  exact Affine.trips_eq (bothWord_int i v w) (e3 i v w v (both_le_left i v w)) one_int _ (by omega)

theorem ok3 : (k0_t3_loop i v w).OK := by
  have := both_le_left i v w; have := both_le_right i v w; have := q_lt i
  exact Affine.ok (bothWord_int i v w) (e3 i v w v (both_le_left i v w)) one_int (by omega)

theorem lt3 (t : Fin (k0_t3_loop i v w).trips) : both i v w + t.val < (i 1).val := by
  have h := lt_of_lt_of_eq t.isLt (trips3 i v w)
  have := both_le_left i v w; have := both_le_right i v w; have := q_lt i
  omega

/-- Loop 4 of the kernel runs exactly this many trips, and its bounds have a meaning. -/
theorem trips4 : (k0_t4_loop i v w).trips = 0 := by
  have := both_le_left i v w; have := both_le_right i v w; have := q_lt i
  exact Affine.trips_eq (e3 i v w v (both_le_left i v w)) (e4 i v w v (both_le_left i v w)) one_int _ (by omega)

theorem ok4 : (k0_t4_loop i v w).OK := by
  have := both_le_left i v w; have := both_le_right i v w; have := q_lt i
  exact Affine.ok (e3 i v w v (both_le_left i v w)) (e4 i v w v (both_le_left i v w)) one_int (by omega)

theorem lt4 (t : Fin (k0_t4_loop i v w).trips) : ((i 1).val - lo i v) + t.val < (i 1).val := by
  have h := lt_of_lt_of_eq t.isLt (trips4 i v w)
  have := both_le_left i v w; have := both_le_right i v w; have := q_lt i
  omega

/-- Loop 5 of the kernel runs exactly this many trips, and its bounds have a meaning. -/
theorem trips5 : (k0_t5_loop i v w).trips = (i 1).val - lo i w - both i v w := by
  have := both_le_left i v w; have := both_le_right i v w; have := q_lt i
  exact Affine.trips_eq (bothWord_int i v w) (e3 i v w w (both_le_right i v w)) one_int _ (by omega)

theorem ok5 : (k0_t5_loop i v w).OK := by
  have := both_le_left i v w; have := both_le_right i v w; have := q_lt i
  exact Affine.ok (bothWord_int i v w) (e3 i v w w (both_le_right i v w)) one_int (by omega)

theorem lt5 (t : Fin (k0_t5_loop i v w).trips) : both i v w + t.val < (i 1).val := by
  have h := lt_of_lt_of_eq t.isLt (trips5 i v w)
  have := both_le_left i v w; have := both_le_right i v w; have := q_lt i
  omega

/-- Loop 6 of the kernel runs exactly this many trips, and its bounds have a meaning. -/
theorem trips6 : (k0_t6_loop i v w).trips = 0 := by
  have := both_le_left i v w; have := both_le_right i v w; have := q_lt i
  exact Affine.trips_eq (e3 i v w w (both_le_right i v w)) (e4 i v w w (both_le_right i v w)) one_int _ (by omega)

theorem ok6 : (k0_t6_loop i v w).OK := by
  have := both_le_left i v w; have := both_le_right i v w; have := q_lt i
  exact Affine.ok (e3 i v w w (both_le_right i v w)) (e4 i v w w (both_le_right i v w)) one_int (by omega)

theorem lt6 (t : Fin (k0_t6_loop i v w).trips) : ((i 1).val - lo i w) + t.val < (i 1).val := by
  have h := lt_of_lt_of_eq t.isLt (trips6 i v w)
  have := both_le_left i v w; have := both_le_right i v w; have := q_lt i
  omega

theorem mult3 (t : Fin (k0_t1_loop i v w).trips) : 1024 ∣ (k0_mult3 i v w t).toNat :=
  dvd (next_int i (s := 0) zero_int (lt1 i v w t))

theorem off4 (t : Fin (k0_t1_loop i v w).trips) : k0_off4 i v w t = ![0, 1024 * ((i 1).val - (0 + t.val) - 1), 0] := by
  have h := toNat_eq (Affine.indexCast (next_int i (s := 0) zero_int (lt1 i v w t)))
  rw [← h]; rfl

theorem mult4 (t : Fin (k0_t1_loop i v w).trips) : 1024 ∣ (k0_mult4 i v w t).toNat :=
  dvd (held_int i (s := 0) zero_int (lt1 i v w t))

theorem off5 (t : Fin (k0_t1_loop i v w).trips) : k0_off5 i v w t = ![0, 0, 1024 * ((i 1).val - (0 + t.val))] := by
  have h := toNat_eq (Affine.indexCast (held_int i (s := 0) zero_int (lt1 i v w t)))
  rw [← h]; rfl

theorem mult5 (t : Fin (k0_t1_loop i v w).trips) : 1024 ∣ (k0_mult5 i v w t).toNat :=
  dvd (next_int i (s := 0) zero_int (lt1 i v w t))

theorem off6 (t : Fin (k0_t1_loop i v w).trips) : k0_off6 i v w t = ![1, 1024 * ((i 1).val - (0 + t.val) - 1), 0] := by
  have h := toNat_eq (Affine.indexCast (next_int i (s := 0) zero_int (lt1 i v w t)))
  rw [← h]; rfl

theorem mult6 (t : Fin (k0_t1_loop i v w).trips) : 1024 ∣ (k0_mult6 i v w t).toNat :=
  dvd (held_int i (s := 0) zero_int (lt1 i v w t))

theorem off7 (t : Fin (k0_t1_loop i v w).trips) : k0_off7 i v w t = ![1, 0, 1024 * ((i 1).val - (0 + t.val))] := by
  have h := toNat_eq (Affine.indexCast (held_int i (s := 0) zero_int (lt1 i v w t)))
  rw [← h]; rfl

theorem mult7 (t : Fin (k0_t2_loop i v w).trips) : 1024 ∣ (k0_mult7 i v w t).toNat :=
  dvd (next_int i (s := both i v w) (e1 i v w) (lt2 i v w t))

theorem off8 (t : Fin (k0_t2_loop i v w).trips) : k0_off8 i v w t = ![0, 1024 * ((i 1).val - (both i v w + t.val) - 1), 0] := by
  have h := toNat_eq (Affine.indexCast (next_int i (s := both i v w) (e1 i v w) (lt2 i v w t)))
  rw [← h]; rfl

theorem mult8 (t : Fin (k0_t2_loop i v w).trips) : 1024 ∣ (k0_mult8 i v w t).toNat :=
  dvd (held_int i (s := both i v w) (e1 i v w) (lt2 i v w t))

theorem off9 (t : Fin (k0_t2_loop i v w).trips) : k0_off9 i v w t = ![0, 0, 1024 * ((i 1).val - (both i v w + t.val))] := by
  have h := toNat_eq (Affine.indexCast (held_int i (s := both i v w) (e1 i v w) (lt2 i v w t)))
  rw [← h]; rfl

theorem mult9 (t : Fin (k0_t2_loop i v w).trips) : 1024 ∣ (k0_mult9 i v w t).toNat :=
  dvd (next_int i (s := both i v w) (e1 i v w) (lt2 i v w t))

theorem off10 (t : Fin (k0_t2_loop i v w).trips) : k0_off10 i v w t = ![1, 1024 * ((i 1).val - (both i v w + t.val) - 1), 0] := by
  have h := toNat_eq (Affine.indexCast (next_int i (s := both i v w) (e1 i v w) (lt2 i v w t)))
  rw [← h]; rfl

theorem mult10 (t : Fin (k0_t2_loop i v w).trips) : 1024 ∣ (k0_mult10 i v w t).toNat :=
  dvd (held_int i (s := both i v w) (e1 i v w) (lt2 i v w t))

theorem off11 (t : Fin (k0_t2_loop i v w).trips) : k0_off11 i v w t = ![1, 0, 1024 * ((i 1).val - (both i v w + t.val))] := by
  have h := toNat_eq (Affine.indexCast (held_int i (s := both i v w) (e1 i v w) (lt2 i v w t)))
  rw [← h]; rfl

theorem mult11 (t : Fin (k0_t3_loop i v w).trips) : 1024 ∣ (k0_mult11 i v w t).toNat :=
  dvd (next_int i (s := both i v w) (bothWord_int i v w) (lt3 i v w t))

theorem off12 (t : Fin (k0_t3_loop i v w).trips) : k0_off12 i v w t = ![0, 1024 * ((i 1).val - (both i v w + t.val) - 1), 0] := by
  have h := toNat_eq (Affine.indexCast (next_int i (s := both i v w) (bothWord_int i v w) (lt3 i v w t)))
  rw [← h]; rfl

theorem mult12 (t : Fin (k0_t3_loop i v w).trips) : 1024 ∣ (k0_mult12 i v w t).toNat :=
  dvd (held_int i (s := both i v w) (bothWord_int i v w) (lt3 i v w t))

theorem off13 (t : Fin (k0_t3_loop i v w).trips) : k0_off13 i v w t = ![0, 0, 1024 * ((i 1).val - (both i v w + t.val))] := by
  have h := toNat_eq (Affine.indexCast (held_int i (s := both i v w) (bothWord_int i v w) (lt3 i v w t)))
  rw [← h]; rfl

theorem mult13 (t : Fin (k0_t4_loop i v w).trips) : 1024 ∣ (k0_mult13 i v w t).toNat :=
  dvd (next_int i (s := ((i 1).val - lo i v)) (e3 i v w v (both_le_left i v w)) (lt4 i v w t))

theorem off14 (t : Fin (k0_t4_loop i v w).trips) : k0_off14 i v w t = ![0, 1024 * ((i 1).val - (((i 1).val - lo i v) + t.val) - 1), 0] := by
  have h := toNat_eq (Affine.indexCast (next_int i (s := ((i 1).val - lo i v)) (e3 i v w v (both_le_left i v w)) (lt4 i v w t)))
  rw [← h]; rfl

theorem mult14 (t : Fin (k0_t4_loop i v w).trips) : 1024 ∣ (k0_mult14 i v w t).toNat :=
  dvd (held_int i (s := ((i 1).val - lo i v)) (e3 i v w v (both_le_left i v w)) (lt4 i v w t))

theorem off15 (t : Fin (k0_t4_loop i v w).trips) : k0_off15 i v w t = ![0, 0, 1024 * ((i 1).val - (((i 1).val - lo i v) + t.val))] := by
  have h := toNat_eq (Affine.indexCast (held_int i (s := ((i 1).val - lo i v)) (e3 i v w v (both_le_left i v w)) (lt4 i v w t)))
  rw [← h]; rfl

theorem mult15 (t : Fin (k0_t5_loop i v w).trips) : 1024 ∣ (k0_mult15 i v w t).toNat :=
  dvd (next_int i (s := both i v w) (bothWord_int i v w) (lt5 i v w t))

theorem off16 (t : Fin (k0_t5_loop i v w).trips) : k0_off16 i v w t = ![1, 1024 * ((i 1).val - (both i v w + t.val) - 1), 0] := by
  have h := toNat_eq (Affine.indexCast (next_int i (s := both i v w) (bothWord_int i v w) (lt5 i v w t)))
  rw [← h]; rfl

theorem mult16 (t : Fin (k0_t5_loop i v w).trips) : 1024 ∣ (k0_mult16 i v w t).toNat :=
  dvd (held_int i (s := both i v w) (bothWord_int i v w) (lt5 i v w t))

theorem off17 (t : Fin (k0_t5_loop i v w).trips) : k0_off17 i v w t = ![1, 0, 1024 * ((i 1).val - (both i v w + t.val))] := by
  have h := toNat_eq (Affine.indexCast (held_int i (s := both i v w) (bothWord_int i v w) (lt5 i v w t)))
  rw [← h]; rfl

theorem mult17 (t : Fin (k0_t6_loop i v w).trips) : 1024 ∣ (k0_mult17 i v w t).toNat :=
  dvd (next_int i (s := ((i 1).val - lo i w)) (e3 i v w w (both_le_right i v w)) (lt6 i v w t))

theorem off18 (t : Fin (k0_t6_loop i v w).trips) : k0_off18 i v w t = ![1, 1024 * ((i 1).val - (((i 1).val - lo i w) + t.val) - 1), 0] := by
  have h := toNat_eq (Affine.indexCast (next_int i (s := ((i 1).val - lo i w)) (e3 i v w w (both_le_right i v w)) (lt6 i v w t)))
  rw [← h]; rfl

theorem mult18 (t : Fin (k0_t6_loop i v w).trips) : 1024 ∣ (k0_mult18 i v w t).toNat :=
  dvd (held_int i (s := ((i 1).val - lo i w)) (e3 i v w w (both_le_right i v w)) (lt6 i v w t))

theorem off19 (t : Fin (k0_t6_loop i v w).trips) : k0_off19 i v w t = ![1, 0, 1024 * ((i 1).val - (((i 1).val - lo i w) + t.val))] := by
  have h := toNat_eq (Affine.indexCast (held_int i (s := ((i 1).val - lo i w)) (e3 i v w w (both_le_right i v w)) (lt6 i v w t)))
  rw [← h]; rfl

theorem last_int : Affine.IsInt (Scalar.muli (loWord i v) 1024#32) (1024 * (lo i v : ℕ) : Int) := by
  have := lo_le i v; have := q_lt i
  exact Affine.muli (loWord_int i v) k_int (by omega)

theorem off20 : k0_off20 i v = ![0, 0, 1024 * lo i v] := by
  have h := toNat_eq (Affine.indexCast (last_int i v))
  rw [← h]; rfl

theorem off21 : k0_off21 i w = ![1, 0, 1024 * lo i w] := by
  have h := toNat_eq (Affine.indexCast (last_int i w))
  rw [← h]; rfl

/-- A block of 1024 keys at row `1024·n` of one head lies inside the 16384. -/
theorem keys_inb {o : Fin 3 → ℕ} (h n : ℕ) (e : o = ![h, 1024 * n, 0]) (hh : h < 2) (hn : n < 16) :
    ∀ a, o a + S1x1024x128.size a ≤ S2x16384x128.size a := by
  subst e
  intro a; fin_cases a
  · show h + 1 ≤ 2; omega
  · show 1024 * n + 1024 ≤ 16384; omega
  · show 0 + 128 ≤ 128; omega

/-- A block of 1024 values at column `1024·n` of one head lies inside the 16384. -/
theorem values_inb {o : Fin 3 → ℕ} (h n : ℕ) (e : o = ![h, 0, 1024 * n]) (hh : h < 2) (hn : n < 16) :
    ∀ a, o a + S1x128x1024.size a ≤ S2x128x16384.size a := by
  subst e
  intro a; fin_cases a
  · show h + 1 ≤ 2; omega
  · show 0 + 128 ≤ 128; omega
  · show 1024 * n + 1024 ≤ 16384; omega

end Bounds

/-- What the kernel assumes once it has read both words holds of every pair of words. -/
theorem chk1_all (i : grid0.Coords) (v w : BitVec 32) : k0_chk1 i v w :=
  ⟨⟨ok1 i v w,
    mult3 i v w,
    fun t => keys_inb 0 _ (off4 i v w t) (by omega) (by have := q_lt i; omega),
    mult4 i v w,
    fun t => values_inb 0 _ (off5 i v w t) (by omega) (by have := q_lt i; omega),
    mult5 i v w,
    fun t => keys_inb 1 _ (off6 i v w t) (by omega) (by have := q_lt i; omega),
    mult6 i v w,
    fun t => values_inb 1 _ (off7 i v w t) (by omega) (by have := q_lt i; omega),
    ok2 i v w,
    mult7 i v w,
    fun t => keys_inb 0 _ (off8 i v w t) (by omega) (by have := q_lt i; omega),
    mult8 i v w,
    fun t => values_inb 0 _ (off9 i v w t) (by omega) (by have := q_lt i; omega),
    mult9 i v w,
    fun t => keys_inb 1 _ (off10 i v w t) (by omega) (by have := q_lt i; omega),
    mult10 i v w,
    fun t => values_inb 1 _ (off11 i v w t) (by omega) (by have := q_lt i; omega),
    ok3 i v w,
    mult11 i v w,
    fun t => keys_inb 0 _ (off12 i v w t) (by omega) (by have := q_lt i; omega),
    mult12 i v w,
    fun t => values_inb 0 _ (off13 i v w t) (by omega) (by have := q_lt i; omega),
    ok4 i v w,
    mult13 i v w,
    fun t => keys_inb 0 _ (off14 i v w t) (by omega) (by have := q_lt i; omega),
    mult14 i v w,
    fun t => values_inb 0 _ (off15 i v w t) (by omega) (by have := q_lt i; omega),
    ok5 i v w,
    mult15 i v w,
    fun t => keys_inb 1 _ (off16 i v w t) (by omega) (by have := q_lt i; omega),
    mult16 i v w⟩,
   ⟨fun t => values_inb 1 _ (off17 i v w t) (by omega) (by have := q_lt i; omega),
    ok6 i v w,
    mult17 i v w,
    fun t => keys_inb 1 _ (off18 i v w t) (by omega) (by have := q_lt i; omega),
    mult18 i v w,
    fun t => values_inb 1 _ (off19 i v w t) (by omega) (by have := q_lt i; omega),
    by have := dvd (last_int i w); exact this,
    values_inb 1 _ (off21 i w) (by omega) (by have := lo_le i w; have := q_lt i; omega)⟩⟩

end Cert.Proof.Attn
-- ==== Proof.Body.lean ====
/- The kernel's body at one grid point, run on any staging memrefs. The inputs are a block of
   `first_block`, of queries, of keys and of values; what the body leaves in the output's buffer is the
   value the run finds, and it does not depend on what the scratch buffers held before. -/
module

public import proofs.«01_k».proof.Proof.Checks
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The frame kit's resource algebra. -/
local notation "𝕄" => MT nD τ sig Unit (Elt F) ℕ (UR sig nD τ) ℕ

abbrev 𝒱₀ : Variants := Variants.none

/-- A value for the region's binders it does not read. -/
abbrev none8 : FVec F S8x1024 .f32 := constant S8x1024 .f32 0x00000000#32

set_option warn.classDefReducibility false in
/-- The loop both heads run together, by its generated invariant, with the values its region does not read fixed. -/
@[sl_loop] def loop1 (𝒱 : Variants) (c : Dev nD) (bd : Option 𝒱.V) (E : Set ℕ) (i : grid0.Coords)
    (arg2 : Memref sig .tc .smem S256 .i32) (harg2 : arg2.IsWhole) (arg3 : Memref sig .tc .vmem S2x1024x128 .bf16) (harg3 : arg3.IsWhole)
    (arg4 : Memref sig .tc .vmem S2x16384x128 .bf16) (harg4 : arg4.IsWhole) (arg5 : Memref sig .tc .vmem S2x128x16384 .bf16) (harg5 : arg5.IsWhole)
    (arg6 : Memref sig .tc .vmem S1024x128 .f32) (harg6 : arg6.IsWhole) (arg7 : Memref sig .tc .vmem S2x1024x1024 .bf16) (harg7 : arg7.IsWhole)
    (arg8 : Memref sig .tc .vmem S2x8x1024 .f32) (harg8 : arg8.IsWhole) (arg9 : Memref sig .tc .vmem S2x8x1024 .f32) (harg9 : arg9.IsWhole)
    (arg10 : Memref sig .tc .vmem S2x128x1024 .f32) (harg10 : arg10.IsWhole) (v9 : BitVec 32) (v19 v27 : BitVec 32) (hw : k0_chk1 i v19 v27)
    (X3 : BufTy.Contents (Elt F) arg3.view.ty) (X4 : BufTy.Contents (Elt F) arg4.view.ty) (X5 : BufTy.Contents (Elt F) arg5.view.ty)
    (G7 : BufTy.Contents (Elt F) arg7.view.ty) (G8 : BufTy.Contents (Elt F) arg8.view.ty) (G9 : BufTy.Contents (Elt F) arg9.view.ty) (G10 : BufTy.Contents (Elt F) arg10.view.ty) :=
  loopInv_k0_t1 (F := F) 𝒱 c bd E i arg2 harg2 arg3 harg3 arg4 harg4 arg5 harg5 arg6 harg6 arg7 harg7 arg8 harg8 arg9 harg9 arg10 harg10 v9 v19 0#32 v27 hw 0#32 none8 X3 X4 X5 G7 G8 G9 G10

set_option warn.classDefReducibility false in
/-- What is left of the first head's loop, by its generated invariant, with the values its region does not read fixed. -/
@[sl_loop] def loop3 (𝒱 : Variants) (c : Dev nD) (bd : Option 𝒱.V) (E : Set ℕ) (i : grid0.Coords)
    (arg2 : Memref sig .tc .smem S256 .i32) (harg2 : arg2.IsWhole) (arg3 : Memref sig .tc .vmem S2x1024x128 .bf16) (harg3 : arg3.IsWhole)
    (arg4 : Memref sig .tc .vmem S2x16384x128 .bf16) (harg4 : arg4.IsWhole) (arg5 : Memref sig .tc .vmem S2x128x16384 .bf16) (harg5 : arg5.IsWhole)
    (arg6 : Memref sig .tc .vmem S1024x128 .f32) (harg6 : arg6.IsWhole) (arg7 : Memref sig .tc .vmem S2x1024x1024 .bf16) (harg7 : arg7.IsWhole)
    (arg8 : Memref sig .tc .vmem S2x8x1024 .f32) (harg8 : arg8.IsWhole) (arg9 : Memref sig .tc .vmem S2x8x1024 .f32) (harg9 : arg9.IsWhole)
    (arg10 : Memref sig .tc .vmem S2x128x1024 .f32) (harg10 : arg10.IsWhole) (v9 : BitVec 32) (v19 v27 : BitVec 32) (hw : k0_chk1 i v19 v27) (v107 : BitVec 32)
    (X3 : BufTy.Contents (Elt F) arg3.view.ty) (X4 : BufTy.Contents (Elt F) arg4.view.ty) (X5 : BufTy.Contents (Elt F) arg5.view.ty)
    (G7 : BufTy.Contents (Elt F) arg7.view.ty) (G8 : BufTy.Contents (Elt F) arg8.view.ty) (G9 : BufTy.Contents (Elt F) arg9.view.ty) (G10 : BufTy.Contents (Elt F) arg10.view.ty) :=
  loopInv_k0_t3 (F := F) 𝒱 c bd E i arg2 harg2 arg3 harg3 arg4 harg4 arg5 harg5 arg6 harg6 arg7 harg7 arg8 harg8 arg9 harg9 arg10 harg10 v9 v19 0#32 v27 hw 0#32 none8 v107 X3 X4 X5 G7 G8 G9 G10

set_option warn.classDefReducibility false in
/-- What is left of the second head's loop, by its generated invariant, with the values its region does not read fixed. -/
@[sl_loop] def loop5 (𝒱 : Variants) (c : Dev nD) (bd : Option 𝒱.V) (E : Set ℕ) (i : grid0.Coords)
    (arg2 : Memref sig .tc .smem S256 .i32) (harg2 : arg2.IsWhole) (arg3 : Memref sig .tc .vmem S2x1024x128 .bf16) (harg3 : arg3.IsWhole)
    (arg4 : Memref sig .tc .vmem S2x16384x128 .bf16) (harg4 : arg4.IsWhole) (arg5 : Memref sig .tc .vmem S2x128x16384 .bf16) (harg5 : arg5.IsWhole)
    (arg6 : Memref sig .tc .vmem S1024x128 .f32) (harg6 : arg6.IsWhole) (arg7 : Memref sig .tc .vmem S2x1024x1024 .bf16) (harg7 : arg7.IsWhole)
    (arg8 : Memref sig .tc .vmem S2x8x1024 .f32) (harg8 : arg8.IsWhole) (arg9 : Memref sig .tc .vmem S2x8x1024 .f32) (harg9 : arg9.IsWhole)
    (arg10 : Memref sig .tc .vmem S2x128x1024 .f32) (harg10 : arg10.IsWhole) (v9 : BitVec 32) (v19 v27 : BitVec 32) (hw : k0_chk1 i v19 v27) (v107 : BitVec 32)
    (X3 : BufTy.Contents (Elt F) arg3.view.ty) (X4 : BufTy.Contents (Elt F) arg4.view.ty) (X5 : BufTy.Contents (Elt F) arg5.view.ty)
    (G7 : BufTy.Contents (Elt F) arg7.view.ty) (G8 : BufTy.Contents (Elt F) arg8.view.ty) (G9 : BufTy.Contents (Elt F) arg9.view.ty) (G10 : BufTy.Contents (Elt F) arg10.view.ty) :=
  loopInv_k0_t5 (F := F) 𝒱 c bd E i arg2 harg2 arg3 harg3 arg4 harg4 arg5 harg5 arg6 harg6 arg7 harg7 arg8 harg8 arg9 harg9 arg10 harg10 v9 v19 0#32 v27 hw 0#32 none8 v107 X3 X4 X5 G7 G8 G9 G10

set_option maxHeartbeats 4000000 in
/-- What the body leaves in the output's buffer, with the proof that it runs there: inputs unchanged,
    scratch at anything before and after. -/
noncomputable def bodyRun (c : Dev nD) (i : grid0.Coords)
    (M0 : Memref sig .tc .smem S256 .i32) (h0 : M0.IsWhole)
    (M1 : Memref sig .tc .vmem S2x1024x128 .bf16) (h1 : M1.IsWhole)
    (M2 : Memref sig .tc .vmem S2x16384x128 .bf16) (h2 : M2.IsWhole)
    (M3 : Memref sig .tc .vmem S2x128x16384 .bf16) (h3 : M3.IsWhole)
    (M4 : Memref sig .tc .vmem S1024x128 .f32) (h4 : M4.IsWhole)
    (x0 : Vec F S256 .i32) (x1 : Vec F S2x1024x128 .bf16) (x2 : Vec F S2x16384x128 .bf16) (x3 : Vec F S2x128x16384 .bf16) :
    { Y : Vec F S1024x128 .f32 //
      ∀ (E : Set ℕ) (K : PUnit → sProp 𝕄),
        iprop(owns (c : Thread nD τ) M0 fullShare x0 ∗ owns (c : Thread nD τ) M1 fullShare x1
            ∗ owns (c : Thread nD τ) M2 fullShare x2 ∗ owns (c : Thread nD τ) M3 fullShare x3
            ∗ (∃ d, owns (c : Thread nD τ) M4 fullShare d)
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)
            ∗ (∃ d, owns (c : Thread nD τ) (Memref.whole cc0_scratch3) fullShare d)
            ∗ (iprop(owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare Y
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)
            ∗ (∃ d, owns (c : Thread nD τ) (Memref.whole cc0_scratch3) fullShare d)) -∗ K ⟨⟩))
          ⊢ wp frame (wpE (defs₀ (F := F)) 𝒱₀ c none) E
              (cc0_attn_prompt i M0 h0 M1 h1 M2 h2 M3 h3 M4 h4
                (Memref.whole cc0_scratch0) (Memref.isWhole_whole _) (Memref.whole cc0_scratch1) (Memref.isWhole_whole _)
                (Memref.whole cc0_scratch2) (Memref.isWhole_whole _) (Memref.whole cc0_scratch3) (Memref.isWhole_whole _)) K } := by
  have hchk := chk1_all i
  refine ⟨?_, fun E K => ?run⟩
  case run =>
    unfold owns
    iintro ⟨⟨%f0, %hf0, H0⟩, ⟨%f1, %hf1, H1⟩, ⟨%f2, %hf2, H2⟩, ⟨%f3, %hf3, H3⟩, ⟨%d4, %f4, -, H4⟩, ⟨%e0, %s0, -, S0⟩, ⟨%e1, %s1, -, S1⟩, ⟨%e2, %s2, -, S2⟩, ⟨%e3, %s3, -, S3⟩, Hk⟩
    obtain rfl := h0.eq_unread hf0; obtain rfl := h1.eq_unread hf1
    obtain rfl := h2.eq_unread hf2; obtain rfl := h3.eq_unread hf3
    sl_unfold [cc0_attn_prompt]
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; swap; · iexact H4
      ipureintro; rfl
    isplitl [S0]
    · iexists _; iexists _; isplitr; swap; · iexact S0
      ipureintro; rfl
    isplitl [S1]
    · iexists _; iexists _; isplitr; swap; · iexact S1
      ipureintro; rfl
    isplitl [S2]
    · iexists _; iexists _; isplitr; swap; · iexact S2
      ipureintro; rfl
    iexists _; iexists _; isplitr; swap; · iexact S3
    ipureintro; rfl

end Cert.Proof.Attn

end
-- ==== Proof.Run.lean ====
/- The launch: the proof data of the pipeline (every input's buffer at its block, the output's at what the
   body leaves), the body's obligation at every grid point, and the run of the whole program. -/
module

public import proofs.«01_k».proof.Proof.Body

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of the output at point `t`: what the body leaves there from the inputs' blocks. -/
def outAt (c : Dev nD) (t : Fin cfg0.N) : Vec F S1024x128 .f32 :=
  (bodyRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (iblk m c 0 t) (iblk m c 1 t) (iblk m c 2 t) (iblk m c 3 t)).1

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

set_option maxHeartbeats 1000000 in
/-- At every grid point the body runs from its blocks to its output. The scratch buffers come out of the
    region's own buffers and go back into them. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3, after4]
  unfold outAt Pipeline.ΦA
  rw [scopedRest0_eq]
  simp only [← owns_whole]
  iintro ⟨⟨⟨S0, S1, S2, S3⟩, Hp⟩, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 Hp]
  · isplitr [Hp]; swap; · iexact Hp
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters the program terminates, every array at what the proof data say and
    every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The argument arrays are left as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.Proof.Attn

end
-- ==== Proof.Frames.lean ====
/- The frames: the kernel as written and idealized run from any memory, leave their arguments unchanged and
   every counter at zero; so does the reference. And the named constant is the one the claim states. -/
module

public import proofs.«01_k».proof.Proof.Run
public import proofs.«01_k».proof.Proof.Bits.Run
public import proofs.«01_k».proof.Proof.Gen.Kernel
public import proofs.«01_k».proof.Proof.Gen.ReferenceIdeal
public import proofs.«01_k».proof.Proof.Gen.Pre_finite
public import proofs.«01_k».proof.Defs
public import Idealize.ShloMosaic.Lib.Claim
public import Idealize.ShloMosaic.Lib.Quiescent

@[expose] public section

noncomputable section

namespace Cert.Proof

open Idealize.ShloMosaic Idealize.SL.Sem

theorem frame_kernel : Cert.quiescent_Kernel := fun m g _ => AttnBits.frame (F := Bits) m g
theorem frame_kernelIdeal : Cert.quiescent_KernelIdeal := fun m g _ => Attn.frame (F := Ideal) m g
theorem frame_kernelIdeal_finite : Cert.quiescent_KernelIdeal_pre_finite := fun m g _ => Attn.frame (F := Ideal) m g

/-- The mask's name denotes −∞, and its bits are read as that at the ideal instance. -/
theorem preserves : Cert.preserves_Kernel_KernelIdeal :=
  IdealRules.named_const.statement Cert.KernelIdeal.κ "mask" .f32 0xF149F2CA#32 ⊥ rfl

/-- The reference is host operations only: its arguments are not written, and it has no counters. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) := by
  hlo_run

theorem frame_reference : Cert.quiescent_ReferenceIdeal := fun m g _ =>
  θ_run_mono (run_reference m g) fun r h => ⟨h, Idealize.ShloMosaic.sem_eq_zero_of_no_sems (by decide) r.2⟩
theorem frame_reference_finite : Cert.quiescent_ReferenceIdeal_pre_finite := fun m g _ =>
  θ_run_mono (run_reference m g) fun r h => ⟨h, Idealize.ShloMosaic.sem_eq_zero_of_no_sems (by decide) r.2⟩

end Cert.Proof

end
-- ==== Proof.Refer.lean ====
/- What the reference returns, an array at a time: the first key each query may see, the mask, the masked scores, their
   exponentials over the row, and the mean of the values they weight. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.Proof.Refer

open Cert.ReferenceIdeal Cert.ReferenceIdeal.Gen
open Idealize.ShloMosaic Idealize.ShloMosaic.TcCoe Idealize.ShloMosaic.Tactic

/-- The first key each query may see, a head at a time. -/
def low (a : Vec Ideal S32x8 .i32) : Vec Ideal S16384x8 .i32 :=
  shapeCast _ (broadcastInDim S16x1024x8 ![0, 1, 2] bcast_S16x1x8_S16x1024x8_0_1_2 (broadcastInDim S16x1x8 ![0, 2] bcast_S16x8_S16x1x8_0_2 (muli (minsi (maxsi (Host.slice S16x8 ![1, 0] ![2, 1] a slicesBy_S32x8_S16x8_1s2_0s1) (broadcastInDim S16x8 ![] bcast_S_S16x8 (constantI S_ 32 0#32))) (broadcastInDim S16x8 ![0, 1] bcast_S16x1_S16x8_0_1 (broadcastInDim S16x1 ![0] bcast_S16_S16x1_0 (iotaInDim S16 32 0)))) (broadcastInDim S16x8 ![] bcast_S_S16x8 (constantI S_ 32 1024#32))))) shapeCasts_S16x1024x8_S16384x8

/-- Which key a query sees. -/
def mask (L : Vec Ideal S16384x8 .i32) : Vec Ideal S1x8x16384x16384 .i1 :=
  broadcastInDim S1x8x16384x16384 ![1, 2, 3] bcast_S8x16384x16384_S1x8x16384x16384_1_2_3 (andi (broadcastInDim S8x16384x16384 ![0, 1, 2] bcast_S1x16384x16384_S8x16384x16384_0_1_2 (broadcastInDim S1x16384x16384 ![1, 2] bcast_S16384x16384_S1x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))) (cmpi .sge (broadcastInDim S8x16384x16384 ![0, 1, 2] bcast_S1x1x16384_S8x16384x16384_0_1_2 (broadcastInDim S1x1x16384 ![2] bcast_S16384_S1x1x16384_2 (iotaInDim S16384 32 0))) (broadcastInDim S8x16384x16384 ![0, 1, 2] bcast_S8x16384x1_S8x16384x16384_0_1_2 (broadcastInDim S8x16384x1 ![0, 1] bcast_S8x16384_S8x16384x1_0_1 (transpose S8x16384 [1, 0] L transposes_S16384x8_S8x16384_1_0)))))

/-- The scores, before the mask. -/
def raw (q k : Vec Ideal S1x16384x8x64 .f32) (u : Vec Ideal S1x16384x8 .f32) : Vec Ideal S1x8x16384x16384 .f32 :=
  addf (F := Ideal) (φ := .f32) (mulf (F := Ideal) (φ := .f32) (Host.dotGeneral (F := Ideal) (φ₁ := .f32) (φ₂ := .f32) dot_S1x16384x8x64_S1x16384x8x64_S1x8x16384x16384_3_3_1_1_02_02 none q k) (broadcastInDim S1x8x16384x16384 ![] bcast_S_S1x8x16384x16384 (constant (F := Ideal) S_ .f32 0x3E000000#32))) (subf (broadcastInDim S1x8x16384x16384 ![0, 1, 2, 3] bcast_S1x8x16384x1_S1x8x16384x16384_0_1_2_3 (broadcastInDim S1x8x16384x1 ![0, 1, 2] bcast_S1x8x16384_S1x8x16384x1_0_1_2 (transpose S1x8x16384 [0, 2, 1] u transposes_S1x16384x8_S1x8x16384_0_2_1))) (broadcastInDim S1x8x16384x16384 ![0, 1, 2, 3] bcast_S1x8x1x16384_S1x8x16384x16384_0_1_2_3 (broadcastInDim S1x8x1x16384 ![0, 1, 3] bcast_S1x8x16384_S1x8x1x16384_0_1_3 (transpose S1x8x16384 [0, 2, 1] u transposes_S1x16384x8_S1x8x16384_0_2_1))))

/-- The scores, −∞ where the key is not seen. -/
def shut (B : Vec Ideal S1x8x16384x16384 .i1) (P : Vec Ideal S1x8x16384x16384 .f32) : Vec Ideal S1x8x16384x16384 .f32 :=
  select B P (broadcastInDim S1x8x16384x16384 ![] bcast_S_S1x8x16384x16384 (id (constant (F := Ideal) S_ .f32 0xFF800000#32) : FVec Ideal S_ .f32))

/-- Each row's largest from −∞. -/
def most (A : Vec Ideal S1x8x16384x16384 .f32) : Vec Ideal S1x8x16384 .f32 :=
  Host.reduce (FloatOps.maximumf (F := Ideal) (φ := .f32)) A (constant (F := Ideal) S_ .f32 0xFF800000#32) reducesTo_S1x8x16384x16384_S1x8x16384_d3 h_S_

/-- The larger of −∞ and a row's largest. -/
def atLeast (N : Vec Ideal S1x8x16384 .f32) : Vec Ideal S1x8x16384 .f32 :=
  maximumf (F := Ideal) (φ := .f32) (broadcastInDim S1x8x16384 ![] bcast_S_S1x8x16384 (constant (F := Ideal) S_ .f32 0xFF800000#32)) N

/-- Each row's sum. -/
def total (E : Vec Ideal S1x8x16384x16384 .f32) : Vec Ideal S1x8x16384 .f32 :=
  Host.reduceAdd (F := Ideal) (φ := .f32) E (constant (F := Ideal) S_ .f32 0x00000000#32) reducesTo_S1x8x16384x16384_S1x8x16384_d3 h_S_

/-- The exponentials of the scores less their row's largest. -/
def expo (A : Vec Ideal S1x8x16384x16384 .f32) (N : Vec Ideal S1x8x16384 .f32) : Vec Ideal S1x8x16384x16384 .f32 :=
  Host.exp (F := Ideal) (φ := .f32) (subf A (broadcastInDim S1x8x16384x16384 ![0, 1, 2, 3] bcast_S1x8x16384x1_S1x8x16384x16384_0_1_2_3 (broadcastInDim S1x8x16384x1 ![0, 1, 2] bcast_S1x8x16384_S1x8x16384x1_0_1_2 N)))

/-- The values, weighted. -/
def mean (v : Vec Ideal S1x16384x8x64 .f32) (E : Vec Ideal S1x8x16384x16384 .f32) (D : Vec Ideal S1x8x16384 .f32) : Vec Ideal S16384x512 .f32 :=
  shapeCast _ (transpose S1x16384x8x64 [0, 3, 1, 2] (Host.dotGeneral (F := Ideal) (φ₁ := .f32) (φ₂ := .f32) dot_S1x16384x8x64_S1x8x16384x16384_S1x8x64x16384_1_3_3_2_02_01 none v (Host.divf (F := Ideal) (φ := .f32) E (broadcastInDim S1x8x16384x16384 ![0, 1, 2, 3] bcast_S1x8x16384x1_S1x8x16384x16384_0_1_2_3 (broadcastInDim S1x8x16384x1 ![0, 1, 2] bcast_S1x8x16384_S1x8x16384x1_0_1_2 D)))) transposes_S1x8x64x16384_S1x16384x8x64_0_3_1_2) shapeCasts_S1x16384x8x64_S16384x512

/-- The masked scores of the arguments. -/
def masked (a : Vec Ideal S32x8 .i32) (q k : Vec Ideal S1x16384x8x64 .f32) (u : Vec Ideal S1x16384x8 .f32) : Vec Ideal S1x8x16384x16384 .f32 :=
  shut (mask (low a)) (raw q k u)

/-- The weights: `expo` of an array at its own rows' largest. -/
def weights (A : Vec Ideal S1x8x16384x16384 .f32) : Vec Ideal S1x8x16384x16384 .f32 := expo A (atLeast (most A))

variable (m : (ℓ : Loc nD τ sig) → Buf (Elt Ideal) ℓ) (c : Dev nD)

theorem result_parts : Cert.ReferenceIdeal.Value.res_main_v53 m c
    = mean (m ((c.tc : Thread nD τ).loc main_arg3))
        (weights (masked (m ((c.tc : Thread nD τ).loc main_arg0)) (m ((c.tc : Thread nD τ).loc main_arg1)) (m ((c.tc : Thread nD τ).loc main_arg2)) (m ((c.tc : Thread nD τ).loc main_arg4))))
        (total (weights (masked (m ((c.tc : Thread nD τ).loc main_arg0)) (m ((c.tc : Thread nD τ).loc main_arg1)) (m ((c.tc : Thread nD τ).loc main_arg2)) (m ((c.tc : Thread nD τ).loc main_arg4))))) := by
  unfold Cert.ReferenceIdeal.Value.res_main_v53 mean total weights expo atLeast most masked shut mask low raw
  exact id (Eq.refl _)

theorem mean_at (v : Vec Ideal S1x16384x8x64 .f32) (E : Vec Ideal S1x8x16384x16384 .f32) (D : Vec Ideal S1x8x16384 .f32) (T : Fin 16384) (C : Fin 512) :
    mean v E D (ix2 T C) = ∑ X : Fin 16384, v (ix4 0 X ⟨C.val / 64, by omega⟩ ⟨C.val % 64, by omega⟩)
      * Ideal.div (E (ix4 0 (⟨C.val / 64, by omega⟩ : Fin 8) T X)) (D (ix3 0 (⟨C.val / 64, by omega⟩ : Fin 8) T)) := by
  unfold mean
  pointwise

theorem expo_at (A : Vec Ideal S1x8x16384x16384 .f32) (N : Vec Ideal S1x8x16384 .f32) (h : Fin 8) (T X : Fin 16384) :
    expo A N (ix4 0 h T X) = Ideal.exp (A (ix4 0 h T X) - N (ix3 0 h T)) := by
  unfold expo
  pointwise

theorem atLeast_at (N : Vec Ideal S1x8x16384 .f32) (h : Fin 8) (T : Fin 16384) :
    atLeast N (ix3 0 h T) = max (Ideal.ofBits .f32 4286578688#32) (N (ix3 0 h T)) := by
  unfold atLeast
  pointwise

/-- A row's largest, at any sizes. -/
theorem row_max {a b d e : ℕ} (x : (⟨4, ![a, b, d, e]⟩ : Shape).Idx → EReal) (init : S_.Idx → EReal)
    (hr : (⟨4, ![a, b, d, e]⟩ : Shape).ReducesTo [3] ⟨3, ![a, b, d]⟩) (hu : 0 < S_.numel) (i : Fin a) (j : Fin b) (k : Fin d) :
    Host.reduce (FloatOps.maximumf (F := Ideal) (φ := .f32)) x init hr hu (ix3 i j k)
    = Finset.fold max (init (Shape.Idx.first hu)) (fun t : Fin e => x (ix4 i j k t)) Finset.univ := by
  rw [show (FloatOps.maximumf (F := Ideal) (φ := .f32)) = (max : EReal → EReal → EReal) from rfl, Host.reduce_eq_fold]
  exact hr.fold_fiber_r4_a3 (ix3 i j k) max (init (Shape.Idx.first hu)) x

theorem most_at (A : Vec Ideal S1x8x16384x16384 .f32) (h : Fin 8) (T : Fin 16384) :
    most A (ix3 0 h T) = Finset.fold max (Ideal.ofBits .f32 4286578688#32) (fun X : Fin 16384 => A (ix4 0 h T X)) Finset.univ := by
  unfold most
  exact row_max A (constant (F := Ideal) S_ .f32 0xFF800000#32) reducesTo_S1x8x16384x16384_S1x8x16384_d3 h_S_ 0 h T

theorem total_at (E : Vec Ideal S1x8x16384x16384 .f32) (h : Fin 8) (T : Fin 16384) : total E (ix3 0 h T) = ∑ X : Fin 16384, E (ix4 0 h T X) := by
  unfold total
  pointwise

theorem shut_at (B : Vec Ideal S1x8x16384x16384 .i1) (P : Vec Ideal S1x8x16384x16384 .f32) (h : Fin 8) (T X : Fin 16384) :
    shut B P (ix4 0 h T X) = Scalar.select (B (ix4 0 h T X)) (P (ix4 0 h T X)) (Ideal.ofBits .f32 4286578688#32) := by
  unfold shut
  pointwise
  rfl

theorem raw_at (q k : Vec Ideal S1x16384x8x64 .f32) (u : Vec Ideal S1x16384x8 .f32) (h : Fin 8) (T X : Fin 16384) :
    raw q k u (ix4 0 h T X) = (∑ l : Fin 64, q (ix4 0 T h l) * k (ix4 0 X h l)) * Ideal.ofBits .f32 1040187392#32 + (u (ix3 0 T h) - u (ix3 0 X h)) := by
  unfold raw
  pointwise

theorem mask_at (L : Vec Ideal S16384x8 .i32) (h : Fin 8) (T X : Fin 16384) :
    mask L (ix4 0 h T X) = IntOp.andi (IntOp.cmpi .sle (BitVec.ofNat 32 X.val) (BitVec.ofNat 32 T.val)) (IntOp.cmpi .sge (BitVec.ofNat 32 X.val) (L (ix2 T h))) := by
  unfold mask
  pointwise

theorem low_at (a : Vec Ideal S32x8 .i32) (h : Fin 8) (T : Fin 16384) :
    low a (ix2 T h) = IntOp.muli (IntOp.minsi (IntOp.maxsi (a (ix2 (⟨2 * (T.val / 1024) + 1, by omega⟩ : Fin 32) h)) 0#32) (BitVec.ofNat 32 (T.val / 1024))) 1024#32 := by
  unfold low
  pointwise
  refine congrArg (fun i => IntOp.muli (IntOp.minsi (IntOp.maxsi (a (ix2 i h)) 0#32) (BitVec.ofNat 32 (T.val / 1024))) 1024#32) (Fin.ext ?_)
  show 1 + 2 * (T.val / 1024) = 2 * (T.val / 1024) + 1
  omega

end Cert.Proof.Refer

end
-- ==== Proof.Model.lean ====
/- One head of the kernel on extended reals, apart from the program: what its scratch slices hold, what a
   step over one block of keys makes of them, and why the numerator and the denominator it ends with are, up
   to one common factor, the sums of the weights 2^s over the keys visited. -/
module

public import Idealize.ShloMosaic.PureOps.Ideal
public import Mathlib.Analysis.SpecialFunctions.Pow.Real

@[expose] public section

noncomputable section

namespace Cert.Proof.Online

open Idealize.ShloMosaic

/-- What a head's slices of the scratch hold: weights (key, query), rescaling factor, running maximum, and the
    accumulator (lane, query). -/
@[ext] structure Hd where
  p : Fin 1024 → Fin 1024 → EReal
  al : Fin 1024 → EReal
  m : Fin 1024 → EReal
  acc : Fin 128 → Fin 1024 → EReal

/-- The running maximum after a block of scores. -/
def top (s : Fin 1024 → Fin 1024 → EReal) (m : Fin 1024 → EReal) (t : Fin 1024) : EReal :=
  max (m t) (Finset.fold max ⊥ (fun x => s x t) Finset.univ)

/-- One trip: the scores `s` of the next block, while the values `V` of the previous one go in. -/
def Hd.step (s : Fin 1024 → Fin 1024 → EReal) (V : Fin 128 → Fin 1024 → EReal) (h : Hd) : Hd where
  p x t := Ideal.exp2 (s x t - top s h.m t)
  al t := Ideal.exp2 (h.m t - top s h.m t)
  m t := top s h.m t
  acc d t := h.al t * h.acc d t + ∑ x, V d x * h.p x t

/-- After the diagonal block: nothing accumulated yet. -/
def Hd.start (s : Fin 1024 → Fin 1024 → EReal) : Hd where
  p x t := Ideal.exp2 (s x t - top s (fun _ => ⊥) t)
  al t := Ideal.exp2 (⊥ - top s (fun _ => ⊥) t)
  m t := top s (fun _ => ⊥) t
  acc _ _ := 0

/-- The accumulator with the last block's values in it. -/
def Hd.out (V : Fin 128 → Fin 1024 → EReal) (h : Hd) (d : Fin 128) (t : Fin 1024) : EReal :=
  h.al t * h.acc d t + ∑ x, V d x * h.p x t

/-- `k` trips from block `q` downwards. -/
def steps (S : ℕ → Fin 1024 → Fin 1024 → EReal) (V : ℕ → Fin 128 → Fin 1024 → EReal) (q : ℕ) (h : Hd) : ℕ → Hd
  | 0 => h
  | k + 1 => (steps S V q h k).step (S (q - k - 1)) (V (q - k))

/-- `w` are the weights of the scores `s`: 2^s of a real score, 0 of −∞. -/
def Weighs (s : Fin 1024 → Fin 1024 → EReal) (w : Fin 1024 → Fin 1024 → ℝ) : Prop :=
  ∀ x t, (s x t = ⊥ ∧ w x t = 0) ∨ ∃ r : ℝ, s x t = r ∧ w x t = (2 : ℝ) ^ r

theorem top_real {s : Fin 1024 → Fin 1024 → EReal} {w : Fin 1024 → Fin 1024 → ℝ} (hs : Weighs s w) {m : Fin 1024 → EReal}
    (t : Fin 1024) (hm : m t ≠ ⊤) (h : m t ≠ ⊥ ∨ ∃ x, s x t ≠ ⊥) : ∃ M : ℝ, top s m t = M := by
  have h1 : top s m t ≠ ⊤ := by
    refine ne_of_lt (max_lt (lt_top_iff_ne_top.2 hm) ?_)
    refine (Finset.fold_max_lt _).2 ⟨bot_lt_top, fun x _ => ?_⟩
    rcases hs x t with ⟨h, -⟩ | ⟨r, h, -⟩
    · rw [h]; exact bot_lt_top
    · rw [h]; exact EReal.coe_lt_top r
  have h2 : top s m t ≠ ⊥ := by
    refine (bot_lt_iff_ne_bot.1 (lt_max_iff.2 ?_))
    rcases h with h | ⟨x, h⟩
    · exact .inl (bot_lt_iff_ne_bot.2 h)
    · exact .inr ((Finset.lt_fold_max _).2 (.inr ⟨x, Finset.mem_univ _, bot_lt_iff_ne_bot.2 h⟩))
  exact ⟨(top s m t).toReal, (EReal.coe_toReal h1 h2).symm⟩

theorem exp2_score {s : Fin 1024 → Fin 1024 → EReal} {w : Fin 1024 → Fin 1024 → ℝ} (hs : Weighs s w) (x t : Fin 1024) (M : ℝ) :
    Ideal.exp2 (s x t - (M : EReal)) = ((w x t * (2 : ℝ) ^ (-M) : ℝ) : EReal) := by
  rcases hs x t with ⟨h, hw⟩ | ⟨r, h, hw⟩
  · rw [h, hw, EReal.bot_sub, Ideal.exp2_bot, zero_mul, EReal.coe_zero]
  · rw [h, hw, ← EReal.coe_sub, Ideal.exp2_coe, ← Real.rpow_add (by norm_num), ← sub_eq_add_neg]; rfl

/-- A sum of reals, as an extended real. -/
theorem coe_sum {ι : Type*} (s : Finset ι) (f : ι → ℝ) : ((∑ i ∈ s, f i : ℝ) : EReal) = ∑ i ∈ s, ((f i : ℝ) : EReal) :=
  map_sum (⟨⟨((↑) : ℝ → EReal), EReal.coe_zero⟩, EReal.coe_add⟩ : ℝ →+ EReal) _ _

/-- A real that is not negative goes into a sum, whatever the terms. -/
theorem scale_add {c : ℝ} (hc : 0 ≤ c) (a b : EReal) : (c : EReal) * (a + b) = c * a + c * b :=
  EReal.left_distrib_of_nonneg_of_ne_top (EReal.coe_nonneg.2 hc) (EReal.coe_ne_top c) a b

theorem scale_sum {ι : Type*} {c : ℝ} (hc : 0 ≤ c) (s : Finset ι) (f : ι → EReal) : (c : EReal) * ∑ i ∈ s, f i = ∑ i ∈ s, (c : EReal) * f i := by
  classical
  induction s using Finset.induction_on with
  | empty => rw [Finset.sum_empty, Finset.sum_empty, mul_zero]
  | insert i s hi ih => rw [Finset.sum_insert hi, Finset.sum_insert hi, scale_add hc, ih]

theorem pow_nonneg (r : ℝ) : 0 ≤ (2 : ℝ) ^ r := (Real.rpow_pos_of_pos (by norm_num) _).le

variable (w : ℕ → Fin 1024 → Fin 1024 → ℝ) (v : ℕ → Fin 128 → Fin 1024 → EReal) (q : ℕ)

/-- The weighted values of the blocks after `j`, up to `q`. -/
def after (j : ℕ) (d : Fin 128) (t : Fin 1024) : EReal := ∑ i ∈ Finset.Ioc j q, ∑ x, v i d x * ((w i x t : ℝ) : EReal)

/-- The weighted values of the blocks from `j` up to `q`. -/
def upto (j : ℕ) (d : Fin 128) (t : Fin 1024) : EReal := ∑ i ∈ Finset.Icc j q, ∑ x, v i d x * ((w i x t : ℝ) : EReal)

theorem after_pred {j : ℕ} (hj : j + 1 ≤ q) (d : Fin 128) (t : Fin 1024) :
    after w v q j d t = after w v q (j + 1) d t + ∑ x, v (j + 1) d x * ((w (j + 1) x t : ℝ) : EReal) := by
  unfold after
  have : Finset.Ioc j q = insert (j + 1) (Finset.Ioc (j + 1) q) := by
    ext i; simp only [Finset.mem_Ioc, Finset.mem_insert]; omega
  rw [this, Finset.sum_insert (by simp), add_comm]

theorem upto_eq {j : ℕ} (hj : j ≤ q) (d : Fin 128) (t : Fin 1024) :
    upto w v q j d t = after w v q j d t + ∑ x, v j d x * ((w j x t : ℝ) : EReal) := by
  unfold upto after
  have : Finset.Icc j q = insert j (Finset.Ioc j q) := by
    ext i; simp only [Finset.mem_Ioc, Finset.mem_Icc, Finset.mem_insert]; omega
  rw [this, Finset.sum_insert (by simp), add_comm]

/-- Before the trip that takes in block `j`: at a query the running maximum is a real `M`, the weights are those
    of block `j` times 2^−M, and the rescaled accumulator the sums of the later blocks, times 2^−M. -/
def Inv (j : ℕ) (h : Hd) : Prop := ∀ t, ∃ M : ℝ, h.m t = M ∧ (∀ x, h.p x t = ((w j x t * (2 : ℝ) ^ (-M) : ℝ) : EReal))
  ∧ ∀ d, h.al t * h.acc d t = (((2 : ℝ) ^ (-M) : ℝ) : EReal) * after w v q j d t

variable {w v q}

theorem sum_pv {V : Fin 128 → Fin 1024 → EReal} {vj : Fin 128 → Fin 1024 → EReal} (hV : ∀ d x, V d x = vj d x)
    {p : Fin 1024 → EReal} {wj : Fin 1024 → ℝ} {M : ℝ} (hp : ∀ x, p x = ((wj x * (2 : ℝ) ^ (-M) : ℝ) : EReal)) (d : Fin 128) :
    ∑ x, V d x * p x = (((2 : ℝ) ^ (-M) : ℝ) : EReal) * ∑ x, vj d x * ((wj x : ℝ) : EReal) := by
  rw [scale_sum (pow_nonneg _)]
  refine Finset.sum_congr rfl fun x _ => ?_
  rw [hV, hp, EReal.coe_mul, ← mul_assoc, mul_comm]

theorem out_eq {h : Hd} {j : ℕ} (hj : j ≤ q) {V : Fin 128 → Fin 1024 → EReal} (hV : ∀ d x, V d x = v j d x)
    (t : Fin 1024) {M : ℝ} (hp : ∀ x, h.p x t = ((w j x t * (2 : ℝ) ^ (-M) : ℝ) : EReal))
    (ha : ∀ d, h.al t * h.acc d t = (((2 : ℝ) ^ (-M) : ℝ) : EReal) * after w v q j d t) (d : Fin 128) :
    h.al t * h.acc d t + ∑ x, V d x * h.p x t = (((2 : ℝ) ^ (-M) : ℝ) : EReal) * upto w v q j d t := by
  rw [ha, sum_pv hV hp, upto_eq w v q hj, scale_add (pow_nonneg _)]

theorem inv_start {s : Fin 1024 → Fin 1024 → EReal} (hs : Weighs s (w q)) (hd : ∀ t, ∃ x, s x t ≠ ⊥) : Inv w v q q (Hd.start s) := by
  intro t
  obtain ⟨M, hM⟩ := top_real hs (m := fun _ => ⊥) t bot_ne_top (.inr (hd t))
  refine ⟨M, hM, fun x => ?_, fun d => ?_⟩
  · simp only [Hd.start]; rw [hM, exp2_score hs]
  · simp only [Hd.start, after, Finset.Ioc_self, Finset.sum_empty, mul_zero]

theorem inv_step {h : Hd} {j : ℕ} (hj : j + 1 ≤ q) (hI : Inv w v q (j + 1) h) {s : Fin 1024 → Fin 1024 → EReal} (hs : Weighs s (w j))
    {V : Fin 128 → Fin 1024 → EReal} (hV : ∀ d x, V d x = v (j + 1) d x) : Inv w v q j (h.step s V) := by
  intro t
  obtain ⟨M, hm, hp, ha⟩ := hI t
  obtain ⟨M', hM'⟩ := top_real hs (m := h.m) t (by rw [hm]; exact EReal.coe_ne_top M) (.inl (by rw [hm]; exact EReal.coe_ne_bot M))
  refine ⟨M', hM', fun x => ?_, fun d => ?_⟩
  · simp only [Hd.step]; rw [hM', exp2_score hs]
  · simp only [Hd.step]
    rw [hM', hm, out_eq hj hV t hp ha, ← EReal.coe_sub, Ideal.exp2_coe, after_pred w v q hj, ← upto_eq w v q hj, ← mul_assoc, ← EReal.coe_mul]
    congr 2
    rw [show Real.rpow 2 (M - M') = (2 : ℝ) ^ (M - M') from rfl, ← Real.rpow_add (by norm_num)]; congr 1; ring

theorem inv_steps {S : ℕ → Fin 1024 → Fin 1024 → EReal} {V : ℕ → Fin 128 → Fin 1024 → EReal} {h : Hd} (hI : Inv w v q q h)
    (hS : ∀ j, j < q → Weighs (S j) (w j)) (hV : ∀ j d x, j ≤ q → V j d x = v j d x) :
    ∀ k, k ≤ q → Inv w v q (q - k) (steps S V q h k)
  | 0, _ => hI
  | k + 1, hk => by
      have e : q - k = (q - (k + 1)) + 1 := by omega
      refine inv_step (by omega) (e ▸ inv_steps hI hS hV k (by omega)) (hS _ (by omega)) fun d x => ?_
      rw [hV _ d x (by omega), e]

/-- Where the kernel ends: the weighted mean of the values over the blocks from `j` to `q`. -/
theorem mean {h : Hd} {j : ℕ} (hj : j ≤ q) (hI : Inv w v q j h) {V : Fin 128 → Fin 1024 → EReal} (hV : ∀ d x, V d x = v j d x)
    (t : Fin 1024) (d e : Fin 128) {r : ℝ} (hr : upto w v q j e t = (r : EReal)) (hpos : r ≠ 0) :
    Ideal.div (h.out V d t) (h.out V e t) = upto w v q j d t * ((1 / r : ℝ) : EReal) := by
  obtain ⟨M, -, hp, ha⟩ := hI t
  have h2 : (2 : ℝ) ^ (-M) ≠ 0 := (Real.rpow_pos_of_pos (by norm_num) _).ne'
  unfold Hd.out
  rw [out_eq hj hV t hp ha, out_eq hj hV t hp ha, hr, ← EReal.coe_mul, Ideal.div_coe (mul_ne_zero h2 hpos), mul_comm (((2 : ℝ) ^ (-M) : ℝ) : EReal),
    mul_assoc, ← EReal.coe_mul]
  congr 2
  field_simp

end Cert.Proof.Online

end
-- ==== Proof.Trips.lean ====
/- What the loops of the body do to one head: `hd h` is what head `h`'s slices of the four scratch buffers
   hold, and each trip is `Hd.step` on the head or heads it treats and leaves the other as it was. The trips are
   read off the generated run: each store is one slice, each load one slice of what the trip began with. -/
module

public import proofs.«01_k».proof.Proof.Body
public import proofs.«01_k».proof.Proof.Model
public import Idealize.ShloMosaic.Lib.Pointwise
public import Idealize.ShloMosaic.Lib.WritesUnit

@[expose] public section

set_option maxRecDepth 16384

noncomputable section

namespace Cert.Proof.Attn

open Cert.KernelIdeal Cert.KernelIdeal.Gen
open Idealize.ShloMosaic Idealize.ShloMosaic.TcCoe
open Cert.Proof.Online (Hd)

/-- Key `x` of block `j`, among all keys. -/
def keyAt (j : ℕ) (x : Fin 1024) : Fin 16384 := ⟨(1024 * j + x.val) % 16384, Nat.mod_lt _ (by norm_num)⟩

theorem keyAt_val {j : ℕ} (hj : j < 16) (x : Fin 1024) : (keyAt j x).val = 1024 * j + x.val := by
  have := x.isLt
  exact Nat.mod_eq_of_lt (by omega)

/-- The products of block `j`'s keys with the queries, in head `h`. -/
def scores (Q : Vec Ideal S2x1024x128 .bf16) (K : Vec Ideal S2x16384x128 .bf16) (h : Fin 2) (j : ℕ) (x t : Fin 1024) : EReal :=
  ∑ l : Fin 128, K (ix3 h (keyAt j x) l) * Q (ix3 h t l)

/-- The values of block `j`, a lane a row, in head `h`. -/
def vals (V : Vec Ideal S2x128x16384 .bf16) (h : Fin 2) (j : ℕ) (d : Fin 128) (x : Fin 1024) : EReal := V (ix3 h d (keyAt j x))

/-- What head `h`'s slices hold. -/
def hd (h : Fin 2) (P : Vec Ideal S2x1024x1024 .bf16) (A M : Vec Ideal S2x8x1024 .f32) (C : Vec Ideal S2x128x1024 .f32) : Hd where
  p x t := P (ix3 h x t)
  al t := A (ix3 h (0 : Fin 8) t)
  m t := M (ix3 h (0 : Fin 8) t)
  acc d t := C (ix3 h d t)

section Read
variable {κ : Kind} {sp : Space} {e : EltTy} {n0 n1 n2 s0 s1 s2 : ℕ} (v : View sig κ sp ⟨3, ![n0, n1, n2]⟩ e) (f : BufTy.Contents (Elt Ideal) v.ty)
  {off : Fin 3 → ℕ} {o0 o1 o2 : ℕ} (inb : ∀ a : Fin 3, off a + (![s0, s1, s2] : Fin 3 → ℕ) a ≤ (![n0, n1, n2] : Fin 3 → ℕ) a)

/-- A load of a box, read at an index of the box. -/
theorem read_at (x0 : Fin s0) (x1 : Fin s1) (x2 : Fin s2) (y0 : Fin n0) (y1 : Fin n1) (y2 : Fin n2) (ho : off = ![o0, o1, o2])
    (h0 : y0.val = o0 + x0.val) (h1 : y1.val = o1 + x1.val) (h2 : y2.val = o2 + x2.val) :
    View.readAt (Elt Ideal) v (Rect.unit (s := ⟨3, ![n0, n1, n2]⟩) off ![s0, s1, s2] inb).toLoadRect f (ix3 x0 x1 x2)
      = View.read (Elt Ideal) v f (ix3 y0 y1 y2) := by
  subst ho
  have : (Rect.unit (s := ⟨3, ![n0, n1, n2]⟩) ![o0, o1, o2] ![s0, s1, s2] inb).toLoadRect.idx (ix3 x0 x1 x2) = ix3 y0 y1 y2 :=
    funext fun a => Fin.ext (by
      match a with
      | 0 => show o0 + 1 * x0.val = y0.val; omega
      | 1 => show o1 + 1 * x1.val = y1.val; omega
      | 2 => show o2 + 1 * x2.val = y2.val; omega)
  exact congrArg (View.read (Elt Ideal) v f) this

/-- An index in the box stored last reads what was stored. -/
theorem read_in (w : (Rect.unit (s := ⟨3, ![n0, n1, n2]⟩) off ![s0, s1, s2] inb).shape.Idx → Elt Ideal e) (L : List (View.Piece (Elt Ideal) ⟨3, ![n0, n1, n2]⟩ e))
    (y0 : Fin n0) (y1 : Fin n1) (y2 : Fin n2) (x0 : Fin s0) (x1 : Fin s1) (x2 : Fin s2) (ho : off = ![o0, o1, o2])
    (h0 : y0.val = o0 + x0.val) (h1 : y1.val = o1 + x1.val) (h2 : y2.val = o2 + x2.val) :
    View.read (Elt Ideal) v (v.writes (Elt Ideal) f (⟨Rect.unit (s := ⟨3, ![n0, n1, n2]⟩) off ![s0, s1, s2] inb, w⟩ :: L)) (ix3 y0 y1 y2) = w (ix3 x0 x1 x2) :=
  View.read_writes_cons_unit_of_mem v f inb w L _ _ ho fun a => by
    match a with
    | 0 => exact h0
    | 1 => exact h1
    | 2 => exact h2

/-- An index in another slice reads what was there before. -/
theorem read_out (w : (Rect.unit (s := ⟨3, ![n0, n1, n2]⟩) off ![s0, s1, s2] inb).shape.Idx → Elt Ideal e) (L : List (View.Piece (Elt Ideal) ⟨3, ![n0, n1, n2]⟩ e))
    (y0 : Fin n0) (y1 : Fin n1) (y2 : Fin n2) (ho : off = ![o0, o1, o2]) (h0 : y0.val < o0 ∨ o0 + s0 ≤ y0.val) :
    View.read (Elt Ideal) v (v.writes (Elt Ideal) f (⟨Rect.unit (s := ⟨3, ![n0, n1, n2]⟩) off ![s0, s1, s2] inb, w⟩ :: L)) (ix3 y0 y1 y2)
      = View.read (Elt Ideal) v (v.writes (Elt Ideal) f L) (ix3 y0 y1 y2) :=
  View.read_writes_cons_unit_of_not_mem v f inb w L _ ho (0 : Fin 3) h0

end Read

theorem neg_inf : Ideal.ofBits .f32 4286578688#32 = ⊥ := by
  show Ideal.ieee 8 23 4286578688#32 = ⊥
  simp [Ideal.ieee]

variable (a b : Vec Ideal S1x1024x128 .bf16) (m al : Vec Ideal S1x8x1024 .f32) (P : Vec Ideal S1x1024x1024 .bf16)
  (acc : Vec Ideal S1x128x1024 .f32) (V : Vec Ideal S1x128x1024 .bf16)

theorem pay8_at (t : Fin 1024) (r : Fin 8) : k0_pay8 a b m (ix3 (0 : Fin 1) r t)
    = max (m (ix3 (0 : Fin 1) r t)) (Finset.fold max ⊥ (fun x : Fin 1024 => ∑ l : Fin 128, a (ix3 (0 : Fin 1) x l) * b (ix3 (0 : Fin 1) t l)) Finset.univ) := by
  rw [← neg_inf]
  pointwise [k0_pay8, k0_pay7, k0_pay6, k0_pay5]

theorem pay9_at (x t : Fin 1024) : k0_pay9 a b m (ix3 (0 : Fin 1) x t)
    = Ideal.exp2 ((∑ l : Fin 128, a (ix3 (0 : Fin 1) x l) * b (ix3 (0 : Fin 1) t l)) - max (m (ix3 (0 : Fin 1) (0 : Fin 8) t)) (Finset.fold max ⊥ (fun x : Fin 1024 => ∑ l : Fin 128, a (ix3 (0 : Fin 1) x l) * b (ix3 (0 : Fin 1) t l)) Finset.univ)) := by
  rw [← neg_inf]
  pointwise [k0_pay9, k0_pay7, k0_pay6, k0_pay5]
  rfl

theorem pay11_at (t : Fin 1024) (r : Fin 8) : k0_pay11 (k0_pay10 a b m) (ix3 (0 : Fin 1) r t)
    = Ideal.exp2 (m (ix3 (0 : Fin 1) r t) - max (m (ix3 (0 : Fin 1) r t)) (Finset.fold max ⊥ (fun x : Fin 1024 => ∑ l : Fin 128, a (ix3 (0 : Fin 1) x l) * b (ix3 (0 : Fin 1) t l)) Finset.univ)) := by
  rw [← neg_inf]
  pointwise [k0_pay11, k0_pay10, k0_pay7, k0_pay6, k0_pay5]
  rfl

theorem pay12_at (d : Fin 128) (t : Fin 1024) : k0_pay12 (k0_pay3 P) (k0_pay4 al) acc V (ix3 (0 : Fin 1) d t)
    = al (ix3 (0 : Fin 1) (0 : Fin 8) t) * acc (ix3 (0 : Fin 1) d t) + ∑ x : Fin 1024, V (ix3 (0 : Fin 1) d x) * P (ix3 (0 : Fin 1) x t) := by
  pointwise [k0_pay12, k0_pay3, k0_pay4]

/-- A head after a trip is `Hd.step` of the head before, the trip's loads being read as slices of it. -/
theorem step_eq (H : Hd) (S : Fin 1024 → Fin 1024 → EReal) (W : Fin 128 → Fin 1024 → EReal)
    (hS : ∀ x t, ∑ l : Fin 128, a (ix3 (0 : Fin 1) x l) * b (ix3 (0 : Fin 1) t l) = S x t)
    (hm : ∀ t, m (ix3 (0 : Fin 1) (0 : Fin 8) t) = H.m t) (hal : ∀ t, al (ix3 (0 : Fin 1) (0 : Fin 8) t) = H.al t)
    (hP : ∀ x t, P (ix3 (0 : Fin 1) x t) = H.p x t) (hacc : ∀ d t, acc (ix3 (0 : Fin 1) d t) = H.acc d t)
    (hV : ∀ d x, V (ix3 (0 : Fin 1) d x) = W d x) :
    (⟨fun x t => k0_pay9 a b m (ix3 (0 : Fin 1) x t), fun t => k0_pay11 (k0_pay10 a b m) (ix3 (0 : Fin 1) (0 : Fin 8) t),
      fun t => k0_pay8 a b m (ix3 (0 : Fin 1) (0 : Fin 8) t), fun d t => k0_pay12 (k0_pay3 P) (k0_pay4 al) acc V (ix3 (0 : Fin 1) d t)⟩ : Hd)
      = H.step S W := by
  refine Hd.ext ?_ ?_ ?_ ?_
  · funext x t; show k0_pay9 a b m _ = _; simp only [pay9_at, hS, hm]; rfl
  · funext t; show k0_pay11 (k0_pay10 a b m) _ = _; simp only [pay11_at, hS, hm]; rfl
  · funext t; show k0_pay8 a b m _ = _; simp only [pay8_at, hS, hm]; rfl
  · funext d t; show k0_pay12 (k0_pay3 P) (k0_pay4 al) acc V _ = _; simp only [pay12_at, hP, hal, hacc, hV]; rfl

section Trips
variable (𝒱 : Variants) (c : Dev nD) (bd : Option 𝒱.V) (i : grid0.Coords) (arg2 : Memref sig .tc .smem S256 .i32) (harg2 : arg2.IsWhole)
  (arg3 : Memref sig .tc .vmem S2x1024x128 .bf16) (harg3 : arg3.IsWhole) (arg4 : Memref sig .tc .vmem S2x16384x128 .bf16) (harg4 : arg4.IsWhole)
  (arg5 : Memref sig .tc .vmem S2x128x16384 .bf16) (harg5 : arg5.IsWhole) (arg6 : Memref sig .tc .vmem S1024x128 .f32) (harg6 : arg6.IsWhole)
  (arg7 : Memref sig .tc .vmem S2x1024x1024 .bf16) (harg7 : arg7.IsWhole) (arg8 : Memref sig .tc .vmem S2x8x1024 .f32) (harg8 : arg8.IsWhole)
  (arg9 : Memref sig .tc .vmem S2x8x1024 .f32) (harg9 : arg9.IsWhole) (arg10 : Memref sig .tc .vmem S2x128x1024 .f32) (harg10 : arg10.IsWhole)
  (v9 v19 v21 v27 : BitVec 32) (hw : k0_chk1 i v19 v27) (v29 : BitVec 32) (v101 : FVec Ideal S8x1024 .f32)
  (X3 : BufTy.Contents (Elt Ideal) arg3.view.ty) (X4 : BufTy.Contents (Elt Ideal) arg4.view.ty) (X5 : BufTy.Contents (Elt Ideal) arg5.view.ty)

set_option maxHeartbeats 1000000 in
/-- A trip of the loop both heads run, on head 0. -/
theorem trip1_0 (k : Fin (k0_t1_loop i v19 v27).trips) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) :
    hd 0
      (View.read (Elt Ideal) arg7.view (arg7.view.writes (Elt Ideal) f7 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).1 f7 f8 f9 f10)))
      (View.read (Elt Ideal) arg8.view (arg8.view.writes (Elt Ideal) f8 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).2.1 f7 f8 f9 f10)))
      (View.read (Elt Ideal) arg9.view (arg9.view.writes (Elt Ideal) f9 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).2.2.1 f7 f8 f9 f10)))
      (View.read (Elt Ideal) arg10.view (arg10.view.writes (Elt Ideal) f10 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).2.2.2.1 f7 f8 f9 f10)))
    = (hd 0 (View.read (Elt Ideal) arg7.view f7) (View.read (Elt Ideal) arg8.view f8) (View.read (Elt Ideal) arg9.view f9) (View.read (Elt Ideal) arg10.view f10)).step (scores (View.read (Elt Ideal) arg3.view X3) (View.read (Elt Ideal) arg4.view X4) 0 ((i 1).val - (0 + k.val) - 1))
        (vals (View.read (Elt Ideal) arg5.view X5) 0 ((i 1).val - (0 + k.val))) := by
  have hq := q_lt i
  have hk := lt1 i v19 v27 k
  unfold trip_k0_t1
  dsimp only
  refine Eq.trans (Hd.ext ?p ?al ?m ?acc) (step_eq
    (View.readAt (Elt Ideal) arg4.view (Rect.unit (s := S2x16384x128) (k0_off4 i v19 v27 k) S1x1024x128.size (k0_off4_inb i v19 v27 hw k)).toLoadRect X4)
    (View.readAt (Elt Ideal) arg3.view (Rect.unit (s := S2x1024x128) ![0, 0, 0] S1x1024x128.size inb_S2x1024x128_S1x1024x128_0_0_0).toLoadRect X3)
    (View.readAt (Elt Ideal) arg9.view (Rect.unit (s := S2x8x1024) ![0, 0, 0] S1x8x1024.size inb_S2x8x1024_S1x8x1024_0_0_0).toLoadRect f9)
    (View.readAt (Elt Ideal) arg8.view (Rect.unit (s := S2x8x1024) ![0, 0, 0] S1x8x1024.size inb_S2x8x1024_S1x8x1024_0_0_0).toLoadRect f8)
    (View.readAt (Elt Ideal) arg7.view (Rect.unit (s := S2x1024x1024) ![0, 0, 0] S1x1024x1024.size inb_S2x1024x1024_S1x1024x1024_0_0_0).toLoadRect f7)
    (View.readAt (Elt Ideal) arg10.view (Rect.unit (s := S2x128x1024) ![0, 0, 0] S1x128x1024.size inb_S2x128x1024_S1x128x1024_0_0_0).toLoadRect f10)
    (View.readAt (Elt Ideal) arg5.view (Rect.unit (s := S2x128x16384) (k0_off5 i v19 v27 k) S1x128x1024.size (k0_off5_inb i v19 v27 hw k)).toLoadRect X5)
    _ _ _ ?hS ?hm ?hal ?hP ?hacc ?hV)
  case p => funext x t; exact (read_out _ _ _ _ _ _ _ _ rfl (by decide)).trans (read_in _ _ _ _ _ _ _ _ (0 : Fin 1) x t rfl rfl (Nat.zero_add _).symm (Nat.zero_add _).symm)
  case al => funext t; exact (read_out _ _ _ _ _ _ _ _ rfl (by decide)).trans (read_in _ _ _ _ _ _ _ _ (0 : Fin 1) (0 : Fin 8) t rfl rfl (Nat.zero_add _).symm (Nat.zero_add _).symm)
  case m => funext t; exact (read_out _ _ _ _ _ _ _ _ rfl (by decide)).trans (read_in _ _ _ _ _ _ _ _ (0 : Fin 1) (0 : Fin 8) t rfl rfl (Nat.zero_add _).symm (Nat.zero_add _).symm)
  case acc => funext d t; exact (read_out _ _ _ _ _ _ _ _ rfl (by decide)).trans (read_in _ _ _ _ _ _ _ _ (0 : Fin 1) d t rfl rfl (Nat.zero_add _).symm (Nat.zero_add _).symm)
  case hS =>
    intro x t
    refine Finset.sum_congr rfl fun l _ => congrArg₂ (· * ·) ?_ ?_
    · exact read_at _ _ _ _ _ _ 0 (keyAt _ x) l (off4 i v19 v27 k) rfl (keyAt_val (by omega) x) (Nat.zero_add _).symm
    · exact read_at _ _ _ _ _ _ 0 t l rfl rfl (Nat.zero_add _).symm (Nat.zero_add _).symm
  case hm => intro t; exact read_at _ _ _ _ _ _ 0 (0 : Fin 8) t rfl rfl (Nat.zero_add _).symm (Nat.zero_add _).symm
  case hal => intro t; exact read_at _ _ _ _ _ _ 0 (0 : Fin 8) t rfl rfl (Nat.zero_add _).symm (Nat.zero_add _).symm
  case hP => intro x t; exact read_at _ _ _ _ _ _ 0 x t rfl rfl (Nat.zero_add _).symm (Nat.zero_add _).symm
  case hacc => intro d t; exact read_at _ _ _ _ _ _ 0 d t rfl rfl (Nat.zero_add _).symm (Nat.zero_add _).symm
  case hV =>
    intro d x
    exact read_at _ _ _ _ _ _ 0 d (keyAt _ x) (off5 i v19 v27 k) rfl (Nat.zero_add _).symm (keyAt_val (by omega) x)

set_option maxHeartbeats 1000000 in
/-- A trip of the loop both heads run, on head 1. -/
theorem trip1_1 (k : Fin (k0_t1_loop i v19 v27).trips) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) :
    hd 1
      (View.read (Elt Ideal) arg7.view (arg7.view.writes (Elt Ideal) f7 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).1 f7 f8 f9 f10)))
      (View.read (Elt Ideal) arg8.view (arg8.view.writes (Elt Ideal) f8 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).2.1 f7 f8 f9 f10)))
      (View.read (Elt Ideal) arg9.view (arg9.view.writes (Elt Ideal) f9 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).2.2.1 f7 f8 f9 f10)))
      (View.read (Elt Ideal) arg10.view (arg10.view.writes (Elt Ideal) f10 ((trip_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 k).2.2.2.1 f7 f8 f9 f10)))
    = (hd 1 (View.read (Elt Ideal) arg7.view f7) (View.read (Elt Ideal) arg8.view f8) (View.read (Elt Ideal) arg9.view f9) (View.read (Elt Ideal) arg10.view f10)).step (scores (View.read (Elt Ideal) arg3.view X3) (View.read (Elt Ideal) arg4.view X4) 1 ((i 1).val - (0 + k.val) - 1))
        (vals (View.read (Elt Ideal) arg5.view X5) 1 ((i 1).val - (0 + k.val))) := by
  have hq := q_lt i
  have hk := lt1 i v19 v27 k
  unfold trip_k0_t1
  dsimp only
  refine Eq.trans (Hd.ext ?p ?al ?m ?acc) (step_eq
    (View.readAt (Elt Ideal) arg4.view (Rect.unit (s := S2x16384x128) (k0_off6 i v19 v27 k) S1x1024x128.size (k0_off6_inb i v19 v27 hw k)).toLoadRect X4)
    (View.readAt (Elt Ideal) arg3.view (Rect.unit (s := S2x1024x128) ![1, 0, 0] S1x1024x128.size inb_S2x1024x128_S1x1024x128_1_0_0).toLoadRect X3)
    (View.readAt (Elt Ideal) arg9.view (Rect.unit (s := S2x8x1024) ![1, 0, 0] S1x8x1024.size inb_S2x8x1024_S1x8x1024_1_0_0).toLoadRect f9)
    (View.readAt (Elt Ideal) arg8.view (Rect.unit (s := S2x8x1024) ![1, 0, 0] S1x8x1024.size inb_S2x8x1024_S1x8x1024_1_0_0).toLoadRect f8)
    (View.readAt (Elt Ideal) arg7.view (Rect.unit (s := S2x1024x1024) ![1, 0, 0] S1x1024x1024.size inb_S2x1024x1024_S1x1024x1024_1_0_0).toLoadRect f7)
    (View.readAt (Elt Ideal) arg10.view (Rect.unit (s := S2x128x1024) ![1, 0, 0] S1x128x1024.size inb_S2x128x1024_S1x128x1024_1_0_0).toLoadRect f10)
    (View.readAt (Elt Ideal) arg5.view (Rect.unit (s := S2x128x16384) (k0_off7 i v19 v27 k) S1x128x1024.size (k0_off7_inb i v19 v27 hw k)).toLoadRect X5)
    _ _ _ ?hS ?hm ?hal ?hP ?hacc ?hV)
  case p => funext x t; exact (read_in _ _ _ _ _ _ _ _ (0 : Fin 1) x t rfl rfl (Nat.zero_add _).symm (Nat.zero_add _).symm)
  case al => funext t; exact (read_in _ _ _ _ _ _ _ _ (0 : Fin 1) (0 : Fin 8) t rfl rfl (Nat.zero_add _).symm (Nat.zero_add _).symm)
  case m => funext t; exact (read_in _ _ _ _ _ _ _ _ (0 : Fin 1) (0 : Fin 8) t rfl rfl (Nat.zero_add _).symm (Nat.zero_add _).symm)
  case acc => funext d t; exact (read_in _ _ _ _ _ _ _ _ (0 : Fin 1) d t rfl rfl (Nat.zero_add _).symm (Nat.zero_add _).symm)
  case hS =>
    intro x t
    refine Finset.sum_congr rfl fun l _ => congrArg₂ (· * ·) ?_ ?_
    · exact read_at _ _ _ _ _ _ 1 (keyAt _ x) l (off6 i v19 v27 k) rfl (keyAt_val (by omega) x) (Nat.zero_add _).symm
    · exact read_at _ _ _ _ _ _ 1 t l rfl rfl (Nat.zero_add _).symm (Nat.zero_add _).symm
  case hm => intro t; exact read_at _ _ _ _ _ _ 1 (0 : Fin 8) t rfl rfl (Nat.zero_add _).symm (Nat.zero_add _).symm
  case hal => intro t; exact read_at _ _ _ _ _ _ 1 (0 : Fin 8) t rfl rfl (Nat.zero_add _).symm (Nat.zero_add _).symm
  case hP => intro x t; exact read_at _ _ _ _ _ _ 1 x t rfl rfl (Nat.zero_add _).symm (Nat.zero_add _).symm
  case hacc => intro d t; exact read_at _ _ _ _ _ _ 1 d t rfl rfl (Nat.zero_add _).symm (Nat.zero_add _).symm
  case hV =>
    intro d x
    exact read_at _ _ _ _ _ _ 1 d (keyAt _ x) (off7 i v19 v27 k) rfl (Nat.zero_add _).symm (keyAt_val (by omega) x)

set_option maxHeartbeats 1000000 in
/-- A trip of what is left of head 0's loop. -/
theorem trip3_0 (v107 : BitVec 32) (k : Fin (k0_t3_loop i v19 v27).trips) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) :
    hd 0
      (View.read (Elt Ideal) arg7.view (arg7.view.writes (Elt Ideal) f7 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).1 f7 f8 f9 f10)))
      (View.read (Elt Ideal) arg8.view (arg8.view.writes (Elt Ideal) f8 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.1 f7 f8 f9 f10)))
      (View.read (Elt Ideal) arg9.view (arg9.view.writes (Elt Ideal) f9 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.1 f7 f8 f9 f10)))
      (View.read (Elt Ideal) arg10.view (arg10.view.writes (Elt Ideal) f10 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.2.1 f7 f8 f9 f10)))
    = (hd 0 (View.read (Elt Ideal) arg7.view f7) (View.read (Elt Ideal) arg8.view f8) (View.read (Elt Ideal) arg9.view f9) (View.read (Elt Ideal) arg10.view f10)).step (scores (View.read (Elt Ideal) arg3.view X3) (View.read (Elt Ideal) arg4.view X4) 0 ((i 1).val - (both i v19 v27 + k.val) - 1))
        (vals (View.read (Elt Ideal) arg5.view X5) 0 ((i 1).val - (both i v19 v27 + k.val))) := by
  have hq := q_lt i
  have hk := lt3 i v19 v27 k
  unfold trip_k0_t3
  dsimp only
  refine Eq.trans (Hd.ext ?p ?al ?m ?acc) (step_eq
    (View.readAt (Elt Ideal) arg4.view (Rect.unit (s := S2x16384x128) (k0_off12 i v19 v27 k) S1x1024x128.size (k0_off12_inb i v19 v27 hw k)).toLoadRect X4)
    (View.readAt (Elt Ideal) arg3.view (Rect.unit (s := S2x1024x128) ![0, 0, 0] S1x1024x128.size inb_S2x1024x128_S1x1024x128_0_0_0).toLoadRect X3)
    (View.readAt (Elt Ideal) arg9.view (Rect.unit (s := S2x8x1024) ![0, 0, 0] S1x8x1024.size inb_S2x8x1024_S1x8x1024_0_0_0).toLoadRect f9)
    (View.readAt (Elt Ideal) arg8.view (Rect.unit (s := S2x8x1024) ![0, 0, 0] S1x8x1024.size inb_S2x8x1024_S1x8x1024_0_0_0).toLoadRect f8)
    (View.readAt (Elt Ideal) arg7.view (Rect.unit (s := S2x1024x1024) ![0, 0, 0] S1x1024x1024.size inb_S2x1024x1024_S1x1024x1024_0_0_0).toLoadRect f7)
    (View.readAt (Elt Ideal) arg10.view (Rect.unit (s := S2x128x1024) ![0, 0, 0] S1x128x1024.size inb_S2x128x1024_S1x128x1024_0_0_0).toLoadRect f10)
    (View.readAt (Elt Ideal) arg5.view (Rect.unit (s := S2x128x16384) (k0_off13 i v19 v27 k) S1x128x1024.size (k0_off13_inb i v19 v27 hw k)).toLoadRect X5)
    _ _ _ ?hS ?hm ?hal ?hP ?hacc ?hV)
  case p => funext x t; exact (read_in _ _ _ _ _ _ _ _ (0 : Fin 1) x t rfl rfl (Nat.zero_add _).symm (Nat.zero_add _).symm)
  case al => funext t; exact (read_in _ _ _ _ _ _ _ _ (0 : Fin 1) (0 : Fin 8) t rfl rfl (Nat.zero_add _).symm (Nat.zero_add _).symm)
  case m => funext t; exact (read_in _ _ _ _ _ _ _ _ (0 : Fin 1) (0 : Fin 8) t rfl rfl (Nat.zero_add _).symm (Nat.zero_add _).symm)
  case acc => funext d t; exact (read_in _ _ _ _ _ _ _ _ (0 : Fin 1) d t rfl rfl (Nat.zero_add _).symm (Nat.zero_add _).symm)
  case hS =>
    intro x t
    refine Finset.sum_congr rfl fun l _ => congrArg₂ (· * ·) ?_ ?_
    · exact read_at _ _ _ _ _ _ 0 (keyAt _ x) l (off12 i v19 v27 k) rfl (keyAt_val (by omega) x) (Nat.zero_add _).symm
    · exact read_at _ _ _ _ _ _ 0 t l rfl rfl (Nat.zero_add _).symm (Nat.zero_add _).symm
  case hm => intro t; exact read_at _ _ _ _ _ _ 0 (0 : Fin 8) t rfl rfl (Nat.zero_add _).symm (Nat.zero_add _).symm
  case hal => intro t; exact read_at _ _ _ _ _ _ 0 (0 : Fin 8) t rfl rfl (Nat.zero_add _).symm (Nat.zero_add _).symm
  case hP => intro x t; exact read_at _ _ _ _ _ _ 0 x t rfl rfl (Nat.zero_add _).symm (Nat.zero_add _).symm
  case hacc => intro d t; exact read_at _ _ _ _ _ _ 0 d t rfl rfl (Nat.zero_add _).symm (Nat.zero_add _).symm
  case hV =>
    intro d x
    exact read_at _ _ _ _ _ _ 0 d (keyAt _ x) (off13 i v19 v27 k) rfl (Nat.zero_add _).symm (keyAt_val (by omega) x)

set_option maxHeartbeats 1000000 in
/-- It leaves head 1 alone. -/
theorem trip3_1 (v107 : BitVec 32) (k : Fin (k0_t3_loop i v19 v27).trips) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) :
    hd 1
      (View.read (Elt Ideal) arg7.view (arg7.view.writes (Elt Ideal) f7 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).1 f7 f8 f9 f10)))
      (View.read (Elt Ideal) arg8.view (arg8.view.writes (Elt Ideal) f8 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.1 f7 f8 f9 f10)))
      (View.read (Elt Ideal) arg9.view (arg9.view.writes (Elt Ideal) f9 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.1 f7 f8 f9 f10)))
      (View.read (Elt Ideal) arg10.view (arg10.view.writes (Elt Ideal) f10 ((trip_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.2.1 f7 f8 f9 f10)))
    = hd 1 (View.read (Elt Ideal) arg7.view f7) (View.read (Elt Ideal) arg8.view f8) (View.read (Elt Ideal) arg9.view f9) (View.read (Elt Ideal) arg10.view f10) := by
  unfold trip_k0_t3
  dsimp only
  refine Hd.ext ?p ?al ?m ?acc
  case p => funext x t; exact (read_out _ _ _ _ _ _ _ _ rfl (by decide))
  case al => funext t; exact (read_out _ _ _ _ _ _ _ _ rfl (by decide))
  case m => funext t; exact (read_out _ _ _ _ _ _ _ _ rfl (by decide))
  case acc => funext d t; exact (read_out _ _ _ _ _ _ _ _ rfl (by decide))

set_option maxHeartbeats 1000000 in
/-- A trip of what is left of head 1's loop. -/
theorem trip5_1 (v107 : BitVec 32) (k : Fin (k0_t5_loop i v19 v27).trips) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) :
    hd 1
      (View.read (Elt Ideal) arg7.view (arg7.view.writes (Elt Ideal) f7 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).1 f7 f8 f9 f10)))
      (View.read (Elt Ideal) arg8.view (arg8.view.writes (Elt Ideal) f8 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.1 f7 f8 f9 f10)))
      (View.read (Elt Ideal) arg9.view (arg9.view.writes (Elt Ideal) f9 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.1 f7 f8 f9 f10)))
      (View.read (Elt Ideal) arg10.view (arg10.view.writes (Elt Ideal) f10 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.2.1 f7 f8 f9 f10)))
    = (hd 1 (View.read (Elt Ideal) arg7.view f7) (View.read (Elt Ideal) arg8.view f8) (View.read (Elt Ideal) arg9.view f9) (View.read (Elt Ideal) arg10.view f10)).step (scores (View.read (Elt Ideal) arg3.view X3) (View.read (Elt Ideal) arg4.view X4) 1 ((i 1).val - (both i v19 v27 + k.val) - 1))
        (vals (View.read (Elt Ideal) arg5.view X5) 1 ((i 1).val - (both i v19 v27 + k.val))) := by
  have hq := q_lt i
  have hk := lt5 i v19 v27 k
  unfold trip_k0_t5
  dsimp only
  refine Eq.trans (Hd.ext ?p ?al ?m ?acc) (step_eq
    (View.readAt (Elt Ideal) arg4.view (Rect.unit (s := S2x16384x128) (k0_off16 i v19 v27 k) S1x1024x128.size (k0_off16_inb i v19 v27 hw k)).toLoadRect X4)
    (View.readAt (Elt Ideal) arg3.view (Rect.unit (s := S2x1024x128) ![1, 0, 0] S1x1024x128.size inb_S2x1024x128_S1x1024x128_1_0_0).toLoadRect X3)
    (View.readAt (Elt Ideal) arg9.view (Rect.unit (s := S2x8x1024) ![1, 0, 0] S1x8x1024.size inb_S2x8x1024_S1x8x1024_1_0_0).toLoadRect f9)
    (View.readAt (Elt Ideal) arg8.view (Rect.unit (s := S2x8x1024) ![1, 0, 0] S1x8x1024.size inb_S2x8x1024_S1x8x1024_1_0_0).toLoadRect f8)
    (View.readAt (Elt Ideal) arg7.view (Rect.unit (s := S2x1024x1024) ![1, 0, 0] S1x1024x1024.size inb_S2x1024x1024_S1x1024x1024_1_0_0).toLoadRect f7)
    (View.readAt (Elt Ideal) arg10.view (Rect.unit (s := S2x128x1024) ![1, 0, 0] S1x128x1024.size inb_S2x128x1024_S1x128x1024_1_0_0).toLoadRect f10)
    (View.readAt (Elt Ideal) arg5.view (Rect.unit (s := S2x128x16384) (k0_off17 i v19 v27 k) S1x128x1024.size (k0_off17_inb i v19 v27 hw k)).toLoadRect X5)
    _ _ _ ?hS ?hm ?hal ?hP ?hacc ?hV)
  case p => funext x t; exact (read_in _ _ _ _ _ _ _ _ (0 : Fin 1) x t rfl rfl (Nat.zero_add _).symm (Nat.zero_add _).symm)
  case al => funext t; exact (read_in _ _ _ _ _ _ _ _ (0 : Fin 1) (0 : Fin 8) t rfl rfl (Nat.zero_add _).symm (Nat.zero_add _).symm)
  case m => funext t; exact (read_in _ _ _ _ _ _ _ _ (0 : Fin 1) (0 : Fin 8) t rfl rfl (Nat.zero_add _).symm (Nat.zero_add _).symm)
  case acc => funext d t; exact (read_in _ _ _ _ _ _ _ _ (0 : Fin 1) d t rfl rfl (Nat.zero_add _).symm (Nat.zero_add _).symm)
  case hS =>
    intro x t
    refine Finset.sum_congr rfl fun l _ => congrArg₂ (· * ·) ?_ ?_
    · exact read_at _ _ _ _ _ _ 1 (keyAt _ x) l (off16 i v19 v27 k) rfl (keyAt_val (by omega) x) (Nat.zero_add _).symm
    · exact read_at _ _ _ _ _ _ 1 t l rfl rfl (Nat.zero_add _).symm (Nat.zero_add _).symm
  case hm => intro t; exact read_at _ _ _ _ _ _ 1 (0 : Fin 8) t rfl rfl (Nat.zero_add _).symm (Nat.zero_add _).symm
  case hal => intro t; exact read_at _ _ _ _ _ _ 1 (0 : Fin 8) t rfl rfl (Nat.zero_add _).symm (Nat.zero_add _).symm
  case hP => intro x t; exact read_at _ _ _ _ _ _ 1 x t rfl rfl (Nat.zero_add _).symm (Nat.zero_add _).symm
  case hacc => intro d t; exact read_at _ _ _ _ _ _ 1 d t rfl rfl (Nat.zero_add _).symm (Nat.zero_add _).symm
  case hV =>
    intro d x
    exact read_at _ _ _ _ _ _ 1 d (keyAt _ x) (off17 i v19 v27 k) rfl (Nat.zero_add _).symm (keyAt_val (by omega) x)

set_option maxHeartbeats 1000000 in
/-- It leaves head 0 alone. -/
theorem trip5_0 (v107 : BitVec 32) (k : Fin (k0_t5_loop i v19 v27).trips) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) :
    hd 0
      (View.read (Elt Ideal) arg7.view (arg7.view.writes (Elt Ideal) f7 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).1 f7 f8 f9 f10)))
      (View.read (Elt Ideal) arg8.view (arg8.view.writes (Elt Ideal) f8 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.1 f7 f8 f9 f10)))
      (View.read (Elt Ideal) arg9.view (arg9.view.writes (Elt Ideal) f9 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.1 f7 f8 f9 f10)))
      (View.read (Elt Ideal) arg10.view (arg10.view.writes (Elt Ideal) f10 ((trip_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 k).2.2.2.1 f7 f8 f9 f10)))
    = hd 0 (View.read (Elt Ideal) arg7.view f7) (View.read (Elt Ideal) arg8.view f8) (View.read (Elt Ideal) arg9.view f9) (View.read (Elt Ideal) arg10.view f10) := by
  unfold trip_k0_t5
  dsimp only
  refine Hd.ext ?p ?al ?m ?acc
  case p => funext x t; exact (read_out _ _ _ _ _ _ _ _ rfl (by decide))
  case al => funext t; exact (read_out _ _ _ _ _ _ _ _ rfl (by decide))
  case m => funext t; exact (read_out _ _ _ _ _ _ _ _ rfl (by decide))
  case acc => funext d t; exact (read_out _ _ _ _ _ _ _ _ rfl (by decide))

end Trips

end Cert.Proof.Attn

end
-- ==== Proof.Loops.lean ====
/- The loops of the body, trip by trip from their beginning: on the head it treats, a loop is `steps`
   over the blocks it visits. -/
module

public import proofs.«01_k».proof.Proof.Trips

@[expose] public section

set_option maxRecDepth 16384

noncomputable section

namespace Cert.Proof.Attn

open Cert.KernelIdeal Cert.KernelIdeal.Gen
open Idealize.ShloMosaic Idealize.ShloMosaic.TcCoe
open Cert.Proof.Online (Hd)

section Loops
variable (𝒱 : Variants) (c : Dev nD) (bd : Option 𝒱.V) (i : grid0.Coords) (arg2 : Memref sig .tc .smem S256 .i32) (harg2 : arg2.IsWhole)
  (arg3 : Memref sig .tc .vmem S2x1024x128 .bf16) (harg3 : arg3.IsWhole) (arg4 : Memref sig .tc .vmem S2x16384x128 .bf16) (harg4 : arg4.IsWhole)
  (arg5 : Memref sig .tc .vmem S2x128x16384 .bf16) (harg5 : arg5.IsWhole) (arg6 : Memref sig .tc .vmem S1024x128 .f32) (harg6 : arg6.IsWhole)
  (arg7 : Memref sig .tc .vmem S2x1024x1024 .bf16) (harg7 : arg7.IsWhole) (arg8 : Memref sig .tc .vmem S2x8x1024 .f32) (harg8 : arg8.IsWhole)
  (arg9 : Memref sig .tc .vmem S2x8x1024 .f32) (harg9 : arg9.IsWhole) (arg10 : Memref sig .tc .vmem S2x128x1024 .f32) (harg10 : arg10.IsWhole)
  (v9 v19 v21 v27 : BitVec 32) (hw : k0_chk1 i v19 v27) (v29 : BitVec 32) (v101 : FVec Ideal S8x1024 .f32)
  (X3 : BufTy.Contents (Elt Ideal) arg3.view.ty) (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty)
  (G9 : BufTy.Contents (Elt Ideal) arg9.view.ty) (G10 : BufTy.Contents (Elt Ideal) arg10.view.ty)

set_option maxHeartbeats 1000000 in
theorem loop1_0 : ∀ k : ℕ, k ≤ (k0_t1_loop i v19 v27).trips →
    hd 0
      (View.read (Elt Ideal) arg7.view (arg7.view.writes (Elt Ideal) G7 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).1))
      (View.read (Elt Ideal) arg8.view (arg8.view.writes (Elt Ideal) G8 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).2.1))
      (View.read (Elt Ideal) arg9.view (arg9.view.writes (Elt Ideal) G9 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).2.2.1))
      (View.read (Elt Ideal) arg10.view (arg10.view.writes (Elt Ideal) G10 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).2.2.2))
    = Online.steps (scores (View.read (Elt Ideal) arg3.view X3) (View.read (Elt Ideal) arg4.view X4) 0) (vals (View.read (Elt Ideal) arg5.view X5) 0) ((i 1).val) (hd 0 (View.read (Elt Ideal) arg7.view G7) (View.read (Elt Ideal) arg8.view G8) (View.read (Elt Ideal) arg9.view G9) (View.read (Elt Ideal) arg10.view G10)) k
  | 0, _ => rfl
  | k + 1, hk => by
      have ih := loop1_0 k (by omega)
      have e := pb_k0_t1_succ (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 ⟨k, by omega⟩
      dsimp only at e
      rw [e]
      dsimp only
      rw [View.writes_append, View.writes_append, View.writes_append, View.writes_append]
      refine (trip1_0 𝒱 c bd i arg2 harg2 arg3 harg3 arg4 harg4 arg5 harg5 arg6 harg6 arg7 harg7 arg8 harg8 arg9 harg9 arg10 harg10 v9 v19 v21 v27 hw v29 v101 X3 X4 X5 ⟨k, by omega⟩ _ _ _ _).trans ?_
      rw [ih]
      simp only [Nat.zero_add]
      rfl

set_option maxHeartbeats 1000000 in
theorem loop1_1 : ∀ k : ℕ, k ≤ (k0_t1_loop i v19 v27).trips →
    hd 1
      (View.read (Elt Ideal) arg7.view (arg7.view.writes (Elt Ideal) G7 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).1))
      (View.read (Elt Ideal) arg8.view (arg8.view.writes (Elt Ideal) G8 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).2.1))
      (View.read (Elt Ideal) arg9.view (arg9.view.writes (Elt Ideal) G9 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).2.2.1))
      (View.read (Elt Ideal) arg10.view (arg10.view.writes (Elt Ideal) G10 (pb_k0_t1 (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 k).2.2.2))
    = Online.steps (scores (View.read (Elt Ideal) arg3.view X3) (View.read (Elt Ideal) arg4.view X4) 1) (vals (View.read (Elt Ideal) arg5.view X5) 1) ((i 1).val) (hd 1 (View.read (Elt Ideal) arg7.view G7) (View.read (Elt Ideal) arg8.view G8) (View.read (Elt Ideal) arg9.view G9) (View.read (Elt Ideal) arg10.view G10)) k
  | 0, _ => rfl
  | k + 1, hk => by
      have ih := loop1_1 k (by omega)
      have e := pb_k0_t1_succ (F := Ideal) 𝒱 c bd i arg2 harg2 arg3 harg3 arg4 harg4 arg5 harg5 arg6 harg6 arg7 harg7 arg8 harg8 arg9 harg9 arg10 harg10 v9 v19 v21 v27 hw v29 v101 X3 X4 X5 G7 G8 G9 G10 ⟨k, by omega⟩
      dsimp only at e
      rw [e]
      dsimp only
      rw [View.writes_append, View.writes_append, View.writes_append, View.writes_append]
      refine (trip1_1 𝒱 c bd i arg2 harg2 arg3 harg3 arg4 harg4 arg5 harg5 arg6 harg6 arg7 harg7 arg8 harg8 arg9 harg9 arg10 harg10 v9 v19 v21 v27 hw v29 v101 X3 X4 X5 ⟨k, by omega⟩ _ _ _ _).trans ?_
      rw [ih]
      simp only [Nat.zero_add]
      rfl

set_option maxHeartbeats 1000000 in
theorem loop3_0 (v107 : BitVec 32) : ∀ k : ℕ, k ≤ (k0_t3_loop i v19 v27).trips →
    hd 0
      (View.read (Elt Ideal) arg7.view (arg7.view.writes (Elt Ideal) G7 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).1))
      (View.read (Elt Ideal) arg8.view (arg8.view.writes (Elt Ideal) G8 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.1))
      (View.read (Elt Ideal) arg9.view (arg9.view.writes (Elt Ideal) G9 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.1))
      (View.read (Elt Ideal) arg10.view (arg10.view.writes (Elt Ideal) G10 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.2))
    = Online.steps (scores (View.read (Elt Ideal) arg3.view X3) (View.read (Elt Ideal) arg4.view X4) 0) (vals (View.read (Elt Ideal) arg5.view X5) 0) ((i 1).val - both i v19 v27) (hd 0 (View.read (Elt Ideal) arg7.view G7) (View.read (Elt Ideal) arg8.view G8) (View.read (Elt Ideal) arg9.view G9) (View.read (Elt Ideal) arg10.view G10)) k
  | 0, _ => rfl
  | k + 1, hk => by
      have ih := loop3_0 v107 k (by omega)
      have e := pb_k0_t3_succ (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 ⟨k, by omega⟩
      dsimp only at e
      rw [e]
      dsimp only
      rw [View.writes_append, View.writes_append, View.writes_append, View.writes_append]
      refine (trip3_0 𝒱 c bd i arg2 harg2 arg3 harg3 arg4 harg4 arg5 harg5 arg6 harg6 arg7 harg7 arg8 harg8 arg9 harg9 arg10 harg10 v9 v19 v21 v27 hw v29 v101 X3 X4 X5 v107 ⟨k, by omega⟩ _ _ _ _).trans ?_
      rw [ih]
      simp only [← Nat.sub_sub]
      rfl

set_option maxHeartbeats 1000000 in
theorem loop3_1 (v107 : BitVec 32) : ∀ k : ℕ, k ≤ (k0_t3_loop i v19 v27).trips →
    hd 1
      (View.read (Elt Ideal) arg7.view (arg7.view.writes (Elt Ideal) G7 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).1))
      (View.read (Elt Ideal) arg8.view (arg8.view.writes (Elt Ideal) G8 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.1))
      (View.read (Elt Ideal) arg9.view (arg9.view.writes (Elt Ideal) G9 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.1))
      (View.read (Elt Ideal) arg10.view (arg10.view.writes (Elt Ideal) G10 (pb_k0_t3 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.2))
    = hd 1 (View.read (Elt Ideal) arg7.view G7) (View.read (Elt Ideal) arg8.view G8) (View.read (Elt Ideal) arg9.view G9) (View.read (Elt Ideal) arg10.view G10)
  | 0, _ => rfl
  | k + 1, hk => by
      have ih := loop3_1 v107 k (by omega)
      have e := pb_k0_t3_succ (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 ⟨k, by omega⟩
      dsimp only at e
      rw [e]
      dsimp only
      rw [View.writes_append, View.writes_append, View.writes_append, View.writes_append]
      exact (trip3_1 𝒱 c bd i arg2 harg2 arg3 harg3 arg4 harg4 arg5 harg5 arg6 harg6 arg7 harg7 arg8 harg8 arg9 harg9 arg10 harg10 v9 v19 v21 v27 hw v29 v101 X3 X4 X5 v107 ⟨k, by omega⟩ _ _ _ _).trans ih

set_option maxHeartbeats 1000000 in
theorem loop5_1 (v107 : BitVec 32) : ∀ k : ℕ, k ≤ (k0_t5_loop i v19 v27).trips →
    hd 1
      (View.read (Elt Ideal) arg7.view (arg7.view.writes (Elt Ideal) G7 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).1))
      (View.read (Elt Ideal) arg8.view (arg8.view.writes (Elt Ideal) G8 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.1))
      (View.read (Elt Ideal) arg9.view (arg9.view.writes (Elt Ideal) G9 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.1))
      (View.read (Elt Ideal) arg10.view (arg10.view.writes (Elt Ideal) G10 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.2))
    = Online.steps (scores (View.read (Elt Ideal) arg3.view X3) (View.read (Elt Ideal) arg4.view X4) 1) (vals (View.read (Elt Ideal) arg5.view X5) 1) ((i 1).val - both i v19 v27) (hd 1 (View.read (Elt Ideal) arg7.view G7) (View.read (Elt Ideal) arg8.view G8) (View.read (Elt Ideal) arg9.view G9) (View.read (Elt Ideal) arg10.view G10)) k
  | 0, _ => rfl
  | k + 1, hk => by
      have ih := loop5_1 v107 k (by omega)
      have e := pb_k0_t5_succ (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 ⟨k, by omega⟩
      dsimp only at e
      rw [e]
      dsimp only
      rw [View.writes_append, View.writes_append, View.writes_append, View.writes_append]
      refine (trip5_1 𝒱 c bd i arg2 harg2 arg3 harg3 arg4 harg4 arg5 harg5 arg6 harg6 arg7 harg7 arg8 harg8 arg9 harg9 arg10 harg10 v9 v19 v21 v27 hw v29 v101 X3 X4 X5 v107 ⟨k, by omega⟩ _ _ _ _).trans ?_
      rw [ih]
      simp only [← Nat.sub_sub]
      rfl

set_option maxHeartbeats 1000000 in
theorem loop5_0 (v107 : BitVec 32) : ∀ k : ℕ, k ≤ (k0_t5_loop i v19 v27).trips →
    hd 0
      (View.read (Elt Ideal) arg7.view (arg7.view.writes (Elt Ideal) G7 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).1))
      (View.read (Elt Ideal) arg8.view (arg8.view.writes (Elt Ideal) G8 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.1))
      (View.read (Elt Ideal) arg9.view (arg9.view.writes (Elt Ideal) G9 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.1))
      (View.read (Elt Ideal) arg10.view (arg10.view.writes (Elt Ideal) G10 (pb_k0_t5 (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 k).2.2.2))
    = hd 0 (View.read (Elt Ideal) arg7.view G7) (View.read (Elt Ideal) arg8.view G8) (View.read (Elt Ideal) arg9.view G9) (View.read (Elt Ideal) arg10.view G10)
  | 0, _ => rfl
  | k + 1, hk => by
      have ih := loop5_0 v107 k (by omega)
      have e := pb_k0_t5_succ (F := Ideal) 𝒱 c bd i arg2 harg2 arg3 harg3 arg4 harg4 arg5 harg5 arg6 harg6 arg7 harg7 arg8 harg8 arg9 harg9 arg10 harg10 v9 v19 v21 v27 hw v29 v101 v107 X3 X4 X5 G7 G8 G9 G10 ⟨k, by omega⟩
      dsimp only at e
      rw [e]
      dsimp only
      rw [View.writes_append, View.writes_append, View.writes_append, View.writes_append]
      exact (trip5_0 𝒱 c bd i arg2 harg2 arg3 harg3 arg4 harg4 arg5 harg5 arg6 harg6 arg7 harg7 arg8 harg8 arg9 harg9 arg10 harg10 v9 v19 v21 v27 hw v29 v101 X3 X4 X5 v107 ⟨k, by omega⟩ _ _ _ _).trans ih

end Loops

end Cert.Proof.Attn

end
-- ==== Proof.Start.lean ====
/- The diagonal block, with which a head starts, and the last block, with which it ends, at an index. On the
   diagonal a key after the query is masked to −∞. -/
module

public import proofs.«01_k».proof.Proof.Loops
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe
open Cert.Proof.Online (Hd)

/-- The scores of the diagonal block. -/
def masked (S : Fin 1024 → Fin 1024 → EReal) (x t : Fin 1024) : EReal := if x ≤ t then S x t else ⊥

theorem mask_eq : (Named.named (F := Ideal) κ "mask" (φ := .f32) 4048155338#32 : EReal) = ⊥ := rfl

variable (a b : Vec Ideal S1x1024x128 .bf16) (m al : Vec Ideal S1x8x1024 .f32) (P : Vec Ideal S1x1024x1024 .bf16)
  (acc : Vec Ideal S1x128x1024 .f32) (V : Vec Ideal S1x128x1024 .bf16)

theorem pay81_at (x t : Fin 1024) : k0_pay81 k0_pay77 a b (ix2 x t)
    = masked (fun x t => ∑ l : Fin 128, a (ix3 (0 : Fin 1) x l) * b (ix3 (0 : Fin 1) t l)) x t := by
  have e : k0_pay81 k0_pay77 a b (ix2 x t) = Scalar.select (IntOp.cmpi .sle (BitVec.ofNat 32 x.val) (BitVec.ofNat 32 t.val))
      (∑ l : Fin 128, a (ix3 (0 : Fin 1) x l) * b (ix3 (0 : Fin 1) t l)) (Named.named (F := Ideal) κ "mask" (φ := .f32) 4048155338#32) := by
    pointwise [k0_pay81, k0_pay77]
  rw [e, mask_eq]
  unfold masked
  have hx := x.isLt
  have ht := t.isLt
  by_cases h : x ≤ t
  · rw [if_pos h, WordCmp.select_of_eq_one ((WordCmp.cmpi_sle_ofNat_eq_one_iff (by omega) (by omega)).2 h)]
  · rw [if_neg h, WordCmp.select_of_eq_zero ((WordCmp.cmpi_sle_ofNat_eq_zero_iff (by omega) (by omega)).2 h)]

theorem pay84_at (t : Fin 1024) (r : Fin 8) : k0_pay84 k0_pay77 a b m (ix3 (0 : Fin 1) r t)
    = max (m (ix3 (0 : Fin 1) r t)) (Finset.fold max ⊥ (fun x : Fin 1024 => k0_pay81 k0_pay77 a b (ix2 x t)) Finset.univ) := by
  rw [← neg_inf]
  pointwise [k0_pay84, k0_pay83, k0_pay82]

theorem pay85_at (x t : Fin 1024) : k0_pay85 k0_pay77 a b m (ix3 (0 : Fin 1) x t)
    = Ideal.exp2 (k0_pay81 k0_pay77 a b (ix2 x t) - max (m (ix3 (0 : Fin 1) (0 : Fin 8) t)) (Finset.fold max ⊥ (fun x : Fin 1024 => k0_pay81 k0_pay77 a b (ix2 x t)) Finset.univ)) := by
  rw [← neg_inf]
  pointwise [k0_pay85, k0_pay83, k0_pay82]
  rfl

theorem pay87_at (t : Fin 1024) (r : Fin 8) : k0_pay87 (k0_pay86 k0_pay77 a b m) (ix3 (0 : Fin 1) r t)
    = Ideal.exp2 (m (ix3 (0 : Fin 1) r t) - max (m (ix3 (0 : Fin 1) r t)) (Finset.fold max ⊥ (fun x : Fin 1024 => k0_pay81 k0_pay77 a b (ix2 x t)) Finset.univ)) := by
  rw [← neg_inf]
  pointwise [k0_pay87, k0_pay86, k0_pay83, k0_pay82]
  rfl

/-- A head after the diagonal block is `Hd.start`. -/
theorem start_eq (S : Fin 1024 → Fin 1024 → EReal) (C : Fin 128 → Fin 1024 → EReal)
    (hS : ∀ x t, ∑ l : Fin 128, a (ix3 (0 : Fin 1) x l) * b (ix3 (0 : Fin 1) t l) = S x t)
    (hm : ∀ t, m (ix3 (0 : Fin 1) (0 : Fin 8) t) = ⊥) (hC : ∀ d t, C d t = 0) :
    (⟨fun x t => k0_pay85 k0_pay77 a b m (ix3 (0 : Fin 1) x t), fun t => k0_pay87 (k0_pay86 k0_pay77 a b m) (ix3 (0 : Fin 1) (0 : Fin 8) t),
      fun t => k0_pay84 k0_pay77 a b m (ix3 (0 : Fin 1) (0 : Fin 8) t), C⟩ : Hd) = Hd.start (masked S) := by
  refine Hd.ext ?_ ?_ ?_ ?_
  · funext x t; show k0_pay85 k0_pay77 a b m _ = _; simp only [pay85_at, pay81_at, hS, hm]; rfl
  · funext t; show k0_pay87 (k0_pay86 k0_pay77 a b m) _ = _; simp only [pay87_at, pay81_at, hS, hm]; rfl
  · funext t; show k0_pay84 k0_pay77 a b m _ = _; simp only [pay84_at, pay81_at, hS, hm]; rfl
  · funext d t; exact hC d t

/-- The accumulator with the last block's values in it. -/
theorem pay108_at (d : Fin 128) (t : Fin 1024) : k0_pay108 (k0_pay105 P) (k0_pay106 al) (k0_pay107 acc) V (ix3 (0 : Fin 1) d t)
    = al (ix3 (0 : Fin 1) (0 : Fin 8) t) * acc (ix3 (0 : Fin 1) d t) + ∑ x : Fin 1024, V (ix3 (0 : Fin 1) d x) * P (ix3 (0 : Fin 1) x t) := by
  pointwise [k0_pay108, k0_pay105, k0_pay106, k0_pay107]

theorem pay110_at (d : Fin 128) (t : Fin 1024) : k0_pay1 (k0_pay110 P al acc V) (ix3 (0 : Fin 1) d t)
    = al (ix3 (0 : Fin 1) (0 : Fin 8) t) * acc (ix3 (0 : Fin 1) d t) + ∑ x : Fin 1024, V (ix3 (0 : Fin 1) d x) * P (ix3 (0 : Fin 1) x t) := by
  pointwise [k0_pay1, k0_pay110]

theorem pay109_at (c : Vec Ideal S1x128x1024 .f32) (t : Fin 1024) (d : Fin 128) : k0_pay109 c (ix2 t d)
    = Ideal.div (c (ix3 (0 : Fin 1) d t)) (c (ix3 (0 : Fin 1) (64 : Fin 128) t)) := by
  pointwise [k0_pay109]

/-- The lane of its own head that an output lane holds. -/
def lane (d : Fin 128) : Fin 128 := ⟨d.val % 64, by omega⟩

theorem pay2_at (c e : Vec Ideal S1x128x1024 .f32) (t : Fin 1024) (d : Fin 128) :
    k0_pay2 (iota Kind.tc S1024x128 32 [1] iota_S1024x128_d1_w32) (k0_pay109 c) e (ix2 t d)
    = if d.val < 64 then Ideal.div (c (ix3 (0 : Fin 1) (lane d) t)) (c (ix3 (0 : Fin 1) (64 : Fin 128) t))
      else Ideal.div (e (ix3 (0 : Fin 1) (lane d) t)) (e (ix3 (0 : Fin 1) (64 : Fin 128) t)) := by
  have q : k0_pay2 (iota Kind.tc S1024x128 32 [1] iota_S1024x128_d1_w32) (k0_pay109 c) e (ix2 t d)
      = Scalar.select (IntOp.cmpi .slt (BitVec.ofNat 32 d.val) (BitVec.ofNat 32 64))
        (Ideal.div (c (ix3 (0 : Fin 1) d t)) (c (ix3 (0 : Fin 1) (64 : Fin 128) t)))
        (Ideal.div (e (ix3 (0 : Fin 1) ⟨(d.val + 128 - 64) % 128, Nat.mod_lt _ (by norm_num)⟩ t)) (e (ix3 (0 : Fin 1) (64 : Fin 128) t))) := by
    pointwise [k0_pay2, k0_pay109]
    try rfl
  rw [q]
  have hd := d.isLt
  by_cases h : d.val < 64
  · rw [if_pos h, WordCmp.select_of_eq_one ((WordCmp.cmpi_slt_ofNat_eq_one_iff (by omega) (by omega)).2 h)]
    have : lane d = d := Fin.ext (Nat.mod_eq_of_lt h)
    rw [this]
  · rw [if_neg h, WordCmp.select_of_eq_zero ((WordCmp.cmpi_slt_ofNat_eq_zero_iff (by omega) (by omega)).2 h)]
    have : (⟨(d.val + 128 - 64) % 128, Nat.mod_lt _ (by norm_num)⟩ : Fin 128) = lane d := Fin.ext (by
      show (d.val + 128 - 64) % 128 = d.val % 64
      omega)
    rw [this]

theorem pay79_at (r : Fin 8) (h : Fin 2) (t : Fin 1024) : k0_pay79 (k0_pay78 (F := Ideal)) (ix3 h r t) = ⊥ := by
  rw [← mask_eq]
  pointwise [k0_pay79, k0_pay78]

theorem pay80_at (h : Fin 2) (d : Fin 128) (t : Fin 1024) : k0_pay80 (F := Ideal) (ix3 h d t) = 0 := by
  pointwise [k0_pay80]

theorem diag_int (i : grid0.Coords) : Affine.IsInt (Scalar.muli (qWord i) 1024#32) (1024 * ((i 1).val : ℕ) : Int) := by
  have := q_lt i
  exact Affine.muli (qWord_int i) k_int (by omega)

theorem off2 (i : grid0.Coords) : k0_off2 i = ![0, 1024 * (i 1).val, 0] := by
  have h := toNat_eq (Affine.indexCast (diag_int i))
  rw [← h]; rfl

theorem off3 (i : grid0.Coords) : k0_off3 i = ![1, 1024 * (i 1).val, 0] := by
  have h := toNat_eq (Affine.indexCast (diag_int i))
  rw [← h]; rfl

end Cert.Proof.Attn

end
-- ==== Proof.Value.lean ====
/- What the body leaves in the output's buffer, at an index: the quotient of two lanes of a head's accumulator,
   the head having gone from the diagonal block down to its first block. -/
module

public import proofs.«01_k».proof.Proof.Start

@[expose] public section

set_option maxRecDepth 16384

noncomputable section

namespace Cert.Proof.Attn

open Cert.KernelIdeal Cert.KernelIdeal.Gen
open Idealize.ShloMosaic Idealize.ShloMosaic.TcCoe
open Cert.Proof.Online (Hd)

section Body
variable (c : Dev nD) (i : grid0.Coords)
    (M0 : Memref sig .tc .smem S256 .i32) (h0 : M0.IsWhole)
    (M1 : Memref sig .tc .vmem S2x1024x128 .bf16) (h1 : M1.IsWhole)
    (M2 : Memref sig .tc .vmem S2x16384x128 .bf16) (h2 : M2.IsWhole)
    (M3 : Memref sig .tc .vmem S2x128x16384 .bf16) (h3 : M3.IsWhole)
    (M4 : Memref sig .tc .vmem S1024x128 .f32) (h4 : M4.IsWhole)
    (x0 : Vec Ideal S256 .i32) (x1 : Vec Ideal S2x1024x128 .bf16) (x2 : Vec Ideal S2x16384x128 .bf16) (x3 : Vec Ideal S2x128x16384 .bf16)
    (hchk : ∀ v w : BitVec 32, k0_chk1 i v w)

/-- The two words of `first_block` the body reads. -/
abbrev word0 : BitVec 32 := bodyRun.sl.r (F := Ideal) c i M0 h0 x0
abbrev word1 : BitVec 32 := bodyRun.sl.r_1 (F := Ideal) c i M0 h0 x0

/-- Scratch buffer 0 before the loops. -/
def a0 := (Memref.whole cc0_scratch0).view.writes (Elt Ideal) (Memref.whole cc0_scratch0).view.junk (bodyRun.sl.S0_2 c i M1 h1 M2 h2 x1 x2)
/-- Scratch buffer 1 before the loops. -/
def a1 := (Memref.whole cc0_scratch1).view.writes (Elt Ideal) (Memref.whole cc0_scratch1).view.junk (bodyRun.sl.S1_2 c i M1 h1 M2 h2 x1 x2)
/-- Scratch buffer 2 before the loops. -/
def a2 := (Memref.whole cc0_scratch2).view.writes (Elt Ideal) (Memref.whole cc0_scratch2).view.junk (bodyRun.sl.S2_3 c i M1 h1 M2 h2 x1 x2)
/-- Scratch buffer 3 before the loops. -/
def a3 : BufTy.Contents (Elt Ideal) (Memref.whole cc0_scratch3).view.ty := (Memref.whole cc0_scratch3).view.writes (Elt Ideal) (Memref.whole cc0_scratch3).view.junk (bodyRun.sl.S3_1)

/-- The stores of loop 1. -/
def p1 := pb_k0_t1 (F := Ideal) 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _)
    (bodyRun.sl.v9 i) (word0 c i M0 h0 x0) 0#32 (word1 c i M0 h0 x0) (hchk _ _) 0#32 none8 (h1.unread x1) (h2.unread x2) (h3.unread x3)
    (a0 c i M1 h1 M2 h2 x1 x2) (a1 c i M1 h1 M2 h2 x1 x2) (a2 c i M1 h1 M2 h2 x1 x2) a3
    (Scf.trips (k0_t1_loop i (word0 c i M0 h0 x0) (word1 c i M0 h0 x0)).lb (k0_t1_loop i (word0 c i M0 h0 x0) (word1 c i M0 h0 x0)).ub (k0_t1_loop i (word0 c i M0 h0 x0) (word1 c i M0 h0 x0)).st)

/-- Scratch buffer 0 after the loop both heads run. -/
def b0 := (Memref.whole cc0_scratch0).view.writes (Elt Ideal) (Memref.whole cc0_scratch0).view.junk ((p1 c i M0 h0 M1 h1 M2 h2 M3 h3 M4 h4 x0 x1 x2 x3 hchk).1 ++ (bodyRun.sl.S0_2 c i M1 h1 M2 h2 x1 x2))
/-- Scratch buffer 1 after the loop both heads run. -/
def b1 := (Memref.whole cc0_scratch1).view.writes (Elt Ideal) (Memref.whole cc0_scratch1).view.junk ((p1 c i M0 h0 M1 h1 M2 h2 M3 h3 M4 h4 x0 x1 x2 x3 hchk).2.1 ++ (bodyRun.sl.S1_2 c i M1 h1 M2 h2 x1 x2))
/-- Scratch buffer 2 after the loop both heads run. -/
def b2 := (Memref.whole cc0_scratch2).view.writes (Elt Ideal) (Memref.whole cc0_scratch2).view.junk ((p1 c i M0 h0 M1 h1 M2 h2 M3 h3 M4 h4 x0 x1 x2 x3 hchk).2.2.1 ++ (bodyRun.sl.S2_3 c i M1 h1 M2 h2 x1 x2))
/-- Scratch buffer 3 after the loop both heads run. -/
def b3 := (Memref.whole cc0_scratch3).view.writes (Elt Ideal) (Memref.whole cc0_scratch3).view.junk ((p1 c i M0 h0 M1 h1 M2 h2 M3 h3 M4 h4 x0 x1 x2 x3 hchk).2.2.2 ++ (bodyRun.sl.S3_1))

/-- The stores of loop 3. -/
def p3 := pb_k0_t3 (F := Ideal) 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _)
    (bodyRun.sl.v9 i) (word0 c i M0 h0 x0) 0#32 (word1 c i M0 h0 x0) (hchk _ _) 0#32 none8 (bodyRun.sl.v107 (F := Ideal) c i M0 h0 x0) (h1.unread x1) (h2.unread x2) (h3.unread x3)
    (b0 c i M0 h0 M1 h1 M2 h2 M3 h3 M4 h4 x0 x1 x2 x3 hchk) (b1 c i M0 h0 M1 h1 M2 h2 M3 h3 M4 h4 x0 x1 x2 x3 hchk) (b2 c i M0 h0 M1 h1 M2 h2 M3 h3 M4 h4 x0 x1 x2 x3 hchk) (b3 c i M0 h0 M1 h1 M2 h2 M3 h3 M4 h4 x0 x1 x2 x3 hchk)
    (Scf.trips (k0_t3_loop i (word0 c i M0 h0 x0) (word1 c i M0 h0 x0)).lb (k0_t3_loop i (word0 c i M0 h0 x0) (word1 c i M0 h0 x0)).ub (k0_t3_loop i (word0 c i M0 h0 x0) (word1 c i M0 h0 x0)).st)

/-- Scratch buffer 0 after head 0's. -/
def c0 := (Memref.whole cc0_scratch0).view.writes (Elt Ideal) (Memref.whole cc0_scratch0).view.junk ((p3 c i M0 h0 M1 h1 M2 h2 M3 h3 M4 h4 x0 x1 x2 x3 hchk).1 ++ ((p1 c i M0 h0 M1 h1 M2 h2 M3 h3 M4 h4 x0 x1 x2 x3 hchk).1 ++ (bodyRun.sl.S0_2 c i M1 h1 M2 h2 x1 x2)))
/-- Scratch buffer 1 after head 0's. -/
def c1 := (Memref.whole cc0_scratch1).view.writes (Elt Ideal) (Memref.whole cc0_scratch1).view.junk ((p3 c i M0 h0 M1 h1 M2 h2 M3 h3 M4 h4 x0 x1 x2 x3 hchk).2.1 ++ ((p1 c i M0 h0 M1 h1 M2 h2 M3 h3 M4 h4 x0 x1 x2 x3 hchk).2.1 ++ (bodyRun.sl.S1_2 c i M1 h1 M2 h2 x1 x2)))
/-- Scratch buffer 2 after head 0's. -/
def c2 := (Memref.whole cc0_scratch2).view.writes (Elt Ideal) (Memref.whole cc0_scratch2).view.junk ((p3 c i M0 h0 M1 h1 M2 h2 M3 h3 M4 h4 x0 x1 x2 x3 hchk).2.2.1 ++ ((p1 c i M0 h0 M1 h1 M2 h2 M3 h3 M4 h4 x0 x1 x2 x3 hchk).2.2.1 ++ (bodyRun.sl.S2_3 c i M1 h1 M2 h2 x1 x2)))
/-- Scratch buffer 3 after head 0's. -/
def c3 := (Memref.whole cc0_scratch3).view.writes (Elt Ideal) (Memref.whole cc0_scratch3).view.junk ((p3 c i M0 h0 M1 h1 M2 h2 M3 h3 M4 h4 x0 x1 x2 x3 hchk).2.2.2 ++ ((p1 c i M0 h0 M1 h1 M2 h2 M3 h3 M4 h4 x0 x1 x2 x3 hchk).2.2.2 ++ (bodyRun.sl.S3_1)))

/-- The stores of loop 5. -/
def p5 := pb_k0_t5 (F := Ideal) 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _)
    (bodyRun.sl.v9 i) (word0 c i M0 h0 x0) 0#32 (word1 c i M0 h0 x0) (hchk _ _) 0#32 none8 (bodyRun.sl.v107 (F := Ideal) c i M0 h0 x0) (h1.unread x1) (h2.unread x2) (h3.unread x3)
    (c0 c i M0 h0 M1 h1 M2 h2 M3 h3 M4 h4 x0 x1 x2 x3 hchk) (c1 c i M0 h0 M1 h1 M2 h2 M3 h3 M4 h4 x0 x1 x2 x3 hchk) (c2 c i M0 h0 M1 h1 M2 h2 M3 h3 M4 h4 x0 x1 x2 x3 hchk) (c3 c i M0 h0 M1 h1 M2 h2 M3 h3 M4 h4 x0 x1 x2 x3 hchk)
    (Scf.trips (k0_t5_loop i (word0 c i M0 h0 x0) (word1 c i M0 h0 x0)).lb (k0_t5_loop i (word0 c i M0 h0 x0) (word1 c i M0 h0 x0)).ub (k0_t5_loop i (word0 c i M0 h0 x0) (word1 c i M0 h0 x0)).st)

/-- Scratch buffer 0 after head 1's. -/
def d0 := (Memref.whole cc0_scratch0).view.writes (Elt Ideal) (Memref.whole cc0_scratch0).view.junk ((p5 c i M0 h0 M1 h1 M2 h2 M3 h3 M4 h4 x0 x1 x2 x3 hchk).1 ++ ((p3 c i M0 h0 M1 h1 M2 h2 M3 h3 M4 h4 x0 x1 x2 x3 hchk).1 ++ ((p1 c i M0 h0 M1 h1 M2 h2 M3 h3 M4 h4 x0 x1 x2 x3 hchk).1 ++ (bodyRun.sl.S0_2 c i M1 h1 M2 h2 x1 x2))))
/-- Scratch buffer 1 after head 1's. -/
def d1 := (Memref.whole cc0_scratch1).view.writes (Elt Ideal) (Memref.whole cc0_scratch1).view.junk ((p5 c i M0 h0 M1 h1 M2 h2 M3 h3 M4 h4 x0 x1 x2 x3 hchk).2.1 ++ ((p3 c i M0 h0 M1 h1 M2 h2 M3 h3 M4 h4 x0 x1 x2 x3 hchk).2.1 ++ ((p1 c i M0 h0 M1 h1 M2 h2 M3 h3 M4 h4 x0 x1 x2 x3 hchk).2.1 ++ (bodyRun.sl.S1_2 c i M1 h1 M2 h2 x1 x2))))
/-- Scratch buffer 2 after head 1's. -/
def d2 := (Memref.whole cc0_scratch2).view.writes (Elt Ideal) (Memref.whole cc0_scratch2).view.junk ((p5 c i M0 h0 M1 h1 M2 h2 M3 h3 M4 h4 x0 x1 x2 x3 hchk).2.2.1 ++ ((p3 c i M0 h0 M1 h1 M2 h2 M3 h3 M4 h4 x0 x1 x2 x3 hchk).2.2.1 ++ ((p1 c i M0 h0 M1 h1 M2 h2 M3 h3 M4 h4 x0 x1 x2 x3 hchk).2.2.1 ++ (bodyRun.sl.S2_3 c i M1 h1 M2 h2 x1 x2))))
/-- Scratch buffer 3 after head 1's. -/
def d3 := (Memref.whole cc0_scratch3).view.writes (Elt Ideal) (Memref.whole cc0_scratch3).view.junk ((p5 c i M0 h0 M1 h1 M2 h2 M3 h3 M4 h4 x0 x1 x2 x3 hchk).2.2.2 ++ ((p3 c i M0 h0 M1 h1 M2 h2 M3 h3 M4 h4 x0 x1 x2 x3 hchk).2.2.2 ++ ((p1 c i M0 h0 M1 h1 M2 h2 M3 h3 M4 h4 x0 x1 x2 x3 hchk).2.2.2 ++ (bodyRun.sl.S3_1))))

theorem v123_eq : bodyRun.sl.v123 (F := Ideal) c i M0 h0 M1 h1 M2 h2 M3 h3 M4 h4 x0 x1 x2 x3 hchk
    = View.readAt (Elt Ideal) (Memref.whole cc0_scratch0).view (Rect.unit (s := S2x1024x1024) ![0, 0, 0] S1x1024x1024.size inb_S2x1024x1024_S1x1024x1024_0_0_0).toLoadRect
      (d0 c i M0 h0 M1 h1 M2 h2 M3 h3 M4 h4 x0 x1 x2 x3 hchk) := by
  delta bodyRun.sl.v123 d0 d1 d2 d3 p5 c0 c1 c2 c3 p3 b0 b1 b2 b3 p1 a0 a1 a2 a3 word0 word1 View.readCov
  with_reducible exact id (Eq.refl _)

theorem v125_eq : bodyRun.sl.v125 (F := Ideal) c i M0 h0 M1 h1 M2 h2 M3 h3 M4 h4 x0 x1 x2 x3 hchk
    = View.readAt (Elt Ideal) (Memref.whole cc0_scratch1).view (Rect.unit (s := S2x8x1024) ![0, 0, 0] S1x8x1024.size inb_S2x8x1024_S1x8x1024_0_0_0).toLoadRect
      (d1 c i M0 h0 M1 h1 M2 h2 M3 h3 M4 h4 x0 x1 x2 x3 hchk) := by
  delta bodyRun.sl.v125 d0 d1 d2 d3 p5 c0 c1 c2 c3 p3 b0 b1 b2 b3 p1 a0 a1 a2 a3 word0 word1 View.readCov
  with_reducible exact id (Eq.refl _)

theorem v130_eq : bodyRun.sl.v130 (F := Ideal) c i M0 h0 M1 h1 M2 h2 M3 h3 M4 h4 x0 x1 x2 x3 hchk
    = View.readAt (Elt Ideal) (Memref.whole cc0_scratch3).view (Rect.unit (s := S2x128x1024) ![0, 0, 0] S1x128x1024.size inb_S2x128x1024_S1x128x1024_0_0_0).toLoadRect
      (d3 c i M0 h0 M1 h1 M2 h2 M3 h3 M4 h4 x0 x1 x2 x3 hchk) := by
  delta bodyRun.sl.v130 d0 d1 d2 d3 p5 c0 c1 c2 c3 p3 b0 b1 b2 b3 p1 a0 a1 a2 a3 word0 word1 View.readCov
  with_reducible exact id (Eq.refl _)

theorem v148_eq : bodyRun.sl.v148 (F := Ideal) c i M0 h0 M1 h1 M2 h2 M3 h3 M4 h4 x0 x1 x2 x3 hchk
    = View.readAt (Elt Ideal) (Memref.whole cc0_scratch0).view (Rect.unit (s := S2x1024x1024) ![1, 0, 0] S1x1024x1024.size inb_S2x1024x1024_S1x1024x1024_1_0_0).toLoadRect
      (d0 c i M0 h0 M1 h1 M2 h2 M3 h3 M4 h4 x0 x1 x2 x3 hchk) := by
  delta bodyRun.sl.v148 d0 d1 d2 d3 p5 c0 c1 c2 c3 p3 b0 b1 b2 b3 p1 a0 a1 a2 a3 word0 word1 View.readCov
  with_reducible exact id (Eq.refl _)

theorem v150_eq : bodyRun.sl.v150 (F := Ideal) c i M0 h0 M1 h1 M2 h2 M3 h3 M4 h4 x0 x1 x2 x3 hchk
    = View.readAt (Elt Ideal) (Memref.whole cc0_scratch1).view (Rect.unit (s := S2x8x1024) ![1, 0, 0] S1x8x1024.size inb_S2x8x1024_S1x8x1024_1_0_0).toLoadRect
      (d1 c i M0 h0 M1 h1 M2 h2 M3 h3 M4 h4 x0 x1 x2 x3 hchk) := by
  delta bodyRun.sl.v150 d0 d1 d2 d3 p5 c0 c1 c2 c3 p3 b0 b1 b2 b3 p1 a0 a1 a2 a3 word0 word1 View.readCov
  with_reducible exact id (Eq.refl _)

end Body

end Cert.Proof.Attn

end
-- ==== Proof.Heads.lean ====
/- The body's heads, from the diagonal block down to their first blocks, and what the body leaves in the output's
   buffer: the quotient of two lanes of a head's accumulator. -/
module

public import proofs.«01_k».proof.Proof.Value

@[expose] public section

set_option maxRecDepth 16384

noncomputable section

namespace Cert.Proof.Online

/-- Two runs of trips, one after the other. -/
theorem steps_add (S : ℕ → Fin 1024 → Fin 1024 → EReal) (V : ℕ → Fin 128 → Fin 1024 → EReal) (q : ℕ) (h : Hd) (a : ℕ) :
    ∀ b, steps S V (q - a) (steps S V q h a) b = steps S V q h (a + b)
  | 0 => rfl
  | b + 1 => by
      show Hd.step _ _ (steps S V (q - a) (steps S V q h a) b) = Hd.step _ _ (steps S V q h (a + b))
      rw [steps_add S V q h a b, Nat.sub_sub q a b]
      rfl

end Cert.Proof.Online

namespace Cert.Proof.Attn

open Cert.KernelIdeal Cert.KernelIdeal.Gen
open Idealize.ShloMosaic Idealize.ShloMosaic.TcCoe
open Cert.Proof.Online (Hd)

section Any
variable {s7 s8 s9 s10 : Space} (v7 : View sig .tc s7 S2x1024x1024 .bf16) (v8 : View sig .tc s8 S2x8x1024 .f32) (v9 : View sig .tc s9 S2x8x1024 .f32)
  (v10 : View sig .tc s10 S2x128x1024 .f32)
  (f7 : v7.ty.Contents (Elt Ideal)) (f8 : v8.ty.Contents (Elt Ideal)) (f9 : v9.ty.Contents (Elt Ideal)) (f10 : v10.ty.Contents (Elt Ideal))
  (w0 w1 : Vec Ideal S1x1024x1024 .bf16) (u0 u1 : Vec Ideal S1x8x1024 .f32) (y0 y1 : Vec Ideal S1x8x1024 .f32)
  (L7 : List (View.Piece (Elt Ideal) S2x1024x1024 .bf16)) (L8 L9 : List (View.Piece (Elt Ideal) S2x8x1024 .f32)) (L10 : List (View.Piece (Elt Ideal) S2x128x1024 .f32))
  (A : S2x128x1024.Idx → EReal)

/-- Head 0 from buffers whose two slices were stored. -/
theorem hd_first : hd 0 (View.read (Elt Ideal) v7 (v7.writes (Elt Ideal) f7 (⟨(Rect.unit (s := S2x1024x1024) ![1, 0, 0] S1x1024x1024.size inb_S2x1024x1024_S1x1024x1024_1_0_0), w1⟩ :: ⟨(Rect.unit (s := S2x1024x1024) ![0, 0, 0] S1x1024x1024.size inb_S2x1024x1024_S1x1024x1024_0_0_0), w0⟩ :: L7)))
      (View.read (Elt Ideal) v8 (v8.writes (Elt Ideal) f8 (⟨(Rect.unit (s := S2x8x1024) ![1, 0, 0] S1x8x1024.size inb_S2x8x1024_S1x8x1024_1_0_0), u1⟩ :: ⟨(Rect.unit (s := S2x8x1024) ![0, 0, 0] S1x8x1024.size inb_S2x8x1024_S1x8x1024_0_0_0), u0⟩ :: L8)))
      (View.read (Elt Ideal) v9 (v9.writes (Elt Ideal) f9 (⟨(Rect.unit (s := S2x8x1024) ![1, 0, 0] S1x8x1024.size inb_S2x8x1024_S1x8x1024_1_0_0), y1⟩ :: ⟨(Rect.unit (s := S2x8x1024) ![0, 0, 0] S1x8x1024.size inb_S2x8x1024_S1x8x1024_0_0_0), y0⟩ :: L9))) A
    = ⟨fun x t => w0 (ix3 0 x t), fun t => u0 (ix3 0 0 t), fun t => y0 (ix3 0 0 t), fun d t => A (ix3 0 d t)⟩ := by
  refine Hd.ext ?_ ?_ ?_ rfl
  · funext x t; exact (read_out _ _ _ _ _ _ _ _ rfl (by decide)).trans (read_in _ _ _ _ _ _ _ _ (0 : Fin 1) x t rfl rfl (Nat.zero_add _).symm (Nat.zero_add _).symm)
  · funext t; exact (read_out _ _ _ _ _ _ _ _ rfl (by decide)).trans (read_in _ _ _ _ _ _ _ _ (0 : Fin 1) (0 : Fin 8) t rfl rfl (Nat.zero_add _).symm (Nat.zero_add _).symm)
  · funext t; exact (read_out _ _ _ _ _ _ _ _ rfl (by decide)).trans (read_in _ _ _ _ _ _ _ _ (0 : Fin 1) (0 : Fin 8) t rfl rfl (Nat.zero_add _).symm (Nat.zero_add _).symm)

/-- Head 1 from buffers whose slice was stored last. -/
theorem hd_second : hd 1 (View.read (Elt Ideal) v7 (v7.writes (Elt Ideal) f7 (⟨(Rect.unit (s := S2x1024x1024) ![1, 0, 0] S1x1024x1024.size inb_S2x1024x1024_S1x1024x1024_1_0_0), w1⟩ :: L7)))
      (View.read (Elt Ideal) v8 (v8.writes (Elt Ideal) f8 (⟨(Rect.unit (s := S2x8x1024) ![1, 0, 0] S1x8x1024.size inb_S2x8x1024_S1x8x1024_1_0_0), u1⟩ :: L8)))
      (View.read (Elt Ideal) v9 (v9.writes (Elt Ideal) f9 (⟨(Rect.unit (s := S2x8x1024) ![1, 0, 0] S1x8x1024.size inb_S2x8x1024_S1x8x1024_1_0_0), y1⟩ :: L9))) A
    = ⟨fun x t => w1 (ix3 0 x t), fun t => u1 (ix3 0 0 t), fun t => y1 (ix3 0 0 t), fun d t => A (ix3 1 d t)⟩ := by
  refine Hd.ext ?_ ?_ ?_ rfl
  · funext x t; exact read_in _ _ _ _ _ _ _ _ (0 : Fin 1) x t rfl rfl (Nat.zero_add _).symm (Nat.zero_add _).symm
  · funext t; exact read_in _ _ _ _ _ _ _ _ (0 : Fin 1) (0 : Fin 8) t rfl rfl (Nat.zero_add _).symm (Nat.zero_add _).symm
  · funext t; exact read_in _ _ _ _ _ _ _ _ (0 : Fin 1) (0 : Fin 8) t rfl rfl (Nat.zero_add _).symm (Nat.zero_add _).symm

variable (inb9 : ∀ a, (![0, 0, 0] : Fin 3 → ℕ) a + S2x8x1024.size a ≤ S2x8x1024.size a) (inb10 : ∀ a, (![0, 0, 0] : Fin 3 → ℕ) a + S2x128x1024.size a ≤ S2x128x1024.size a)

/-- A buffer stored as a whole. -/
theorem max_whole (h : Fin 2) (r : Fin 8) (t : Fin 1024) (w : Vec Ideal S2x8x1024 .f32) :
    View.read (Elt Ideal) v9 (v9.writes (Elt Ideal) f9 (⟨Rect.unit (s := S2x8x1024) ![0, 0, 0] S2x8x1024.size inb9, w⟩ :: L9)) (ix3 h r t) = w (ix3 h r t) :=
  read_in _ _ _ _ _ _ _ _ h r t rfl (Nat.zero_add _).symm (Nat.zero_add _).symm (Nat.zero_add _).symm

theorem acc_whole (h : Fin 2) (d : Fin 128) (t : Fin 1024) (w : Vec Ideal S2x128x1024 .f32) :
    View.read (Elt Ideal) v10 (v10.writes (Elt Ideal) f10 (⟨Rect.unit (s := S2x128x1024) ![0, 0, 0] S2x128x1024.size inb10, w⟩ :: L10)) (ix3 h d t) = w (ix3 h d t) :=
  read_in _ _ _ _ _ _ _ _ h d t rfl (Nat.zero_add _).symm (Nat.zero_add _).symm (Nat.zero_add _).symm

/-- The running maximum a head starts from: what was stored over the whole buffer. -/
theorem max_first (r : Fin 8) (t : Fin 1024) (w : Vec Ideal S2x8x1024 .f32) :
    View.readAt (Elt Ideal) v9 (Rect.unit (s := S2x8x1024) ![0, 0, 0] S1x8x1024.size inb_S2x8x1024_S1x8x1024_0_0_0).toLoadRect (v9.writes (Elt Ideal) f9 (⟨Rect.unit (s := S2x8x1024) ![0, 0, 0] S2x8x1024.size inb9, w⟩ :: L9)) (ix3 0 r t) = w (ix3 0 r t) :=
  (read_at _ _ _ _ _ _ 0 r t rfl rfl (Nat.zero_add _).symm (Nat.zero_add _).symm).trans (max_whole v9 f9 L9 inb9 0 r t w)

theorem max_second (r : Fin 8) (t : Fin 1024) (w : Vec Ideal S2x8x1024 .f32) :
    View.readAt (Elt Ideal) v9 (Rect.unit (s := S2x8x1024) ![1, 0, 0] S1x8x1024.size inb_S2x8x1024_S1x8x1024_1_0_0).toLoadRect (v9.writes (Elt Ideal) f9 (⟨(Rect.unit (s := S2x8x1024) ![0, 0, 0] S1x8x1024.size inb_S2x8x1024_S1x8x1024_0_0_0), y0⟩ :: ⟨Rect.unit (s := S2x8x1024) ![0, 0, 0] S2x8x1024.size inb9, w⟩ :: L9)) (ix3 0 r t) = w (ix3 1 r t) :=
  (read_at _ _ _ _ _ _ 1 r t rfl rfl (Nat.zero_add _).symm (Nat.zero_add _).symm).trans ((read_out _ _ _ _ _ _ _ _ rfl (by decide)).trans (max_whole v9 f9 L9 inb9 1 r t w))

/-- A head's slice of the accumulator, stored last or below the other head's. -/
theorem acc_first (d : Fin 128) (t : Fin 1024) (w : Vec Ideal S1x128x1024 .f32) :
    View.readAt (Elt Ideal) v10 (Rect.unit (s := S2x128x1024) ![0, 0, 0] S1x128x1024.size inb_S2x128x1024_S1x128x1024_0_0_0).toLoadRect (v10.writes (Elt Ideal) f10 (⟨(Rect.unit (s := S2x128x1024) ![0, 0, 0] S1x128x1024.size inb_S2x128x1024_S1x128x1024_0_0_0), w⟩ :: L10)) (ix3 0 d t) = w (ix3 0 d t) :=
  (read_at _ _ _ _ _ _ 0 d t rfl rfl (Nat.zero_add _).symm (Nat.zero_add _).symm).trans (read_in _ _ _ _ _ _ _ _ (0 : Fin 1) d t rfl rfl (Nat.zero_add _).symm (Nat.zero_add _).symm)

theorem acc_second (d : Fin 128) (t : Fin 1024) (w : Vec Ideal S1x128x1024 .f32) :
    View.readAt (Elt Ideal) v10 (Rect.unit (s := S2x128x1024) ![1, 0, 0] S1x128x1024.size inb_S2x128x1024_S1x128x1024_1_0_0).toLoadRect (v10.writes (Elt Ideal) f10 (⟨(Rect.unit (s := S2x128x1024) ![1, 0, 0] S1x128x1024.size inb_S2x128x1024_S1x128x1024_1_0_0), w⟩ :: L10)) (ix3 0 d t) = w (ix3 0 d t) :=
  (read_at _ _ _ _ _ _ 1 d t rfl rfl (Nat.zero_add _).symm (Nat.zero_add _).symm).trans (read_in _ _ _ _ _ _ _ _ (0 : Fin 1) d t rfl rfl (Nat.zero_add _).symm (Nat.zero_add _).symm)

theorem acc_below (d : Fin 128) (t : Fin 1024) (w : Vec Ideal S1x128x1024 .f32) :
    View.readAt (Elt Ideal) v10 (Rect.unit (s := S2x128x1024) ![1, 0, 0] S1x128x1024.size inb_S2x128x1024_S1x128x1024_1_0_0).toLoadRect (v10.writes (Elt Ideal) f10 (⟨(Rect.unit (s := S2x128x1024) ![0, 0, 0] S1x128x1024.size inb_S2x128x1024_S1x128x1024_0_0_0), w⟩ :: L10)) (ix3 0 d t)
      = View.read (Elt Ideal) v10 (v10.writes (Elt Ideal) f10 L10) (ix3 1 d t) :=
  (read_at _ _ _ _ _ _ 1 d t rfl rfl (Nat.zero_add _).symm (Nat.zero_add _).symm).trans (read_out _ _ _ _ _ _ _ _ rfl (by decide))
end Any

/-- Head 1's block operations are head 0's, under other names. -/
theorem start_eq1 (a b : Vec Ideal S1x1024x128 .bf16) (m : Vec Ideal S1x8x1024 .f32) (S : Fin 1024 → Fin 1024 → EReal) (C : Fin 128 → Fin 1024 → EReal)
    (hS : ∀ x t, ∑ l : Fin 128, a (ix3 (0 : Fin 1) x l) * b (ix3 (0 : Fin 1) t l) = S x t)
    (hm : ∀ t, m (ix3 (0 : Fin 1) (0 : Fin 8) t) = ⊥) (hC : ∀ d t, C d t = 0) :
    (⟨fun x t => k0_pay92 k0_pay77 a b m (ix3 (0 : Fin 1) x t), fun t => shapeCast S1x8x1024 (k0_pay93 k0_pay77 a b m) shapeCasts_S8x1024_S1x8x1024 (ix3 (0 : Fin 1) (0 : Fin 8) t),
      fun t => k0_pay91 k0_pay77 a b m (ix3 (0 : Fin 1) (0 : Fin 8) t), C⟩ : Hd) = Hd.start (masked S) := by
  rw [← start_eq a b m S C hS hm hC]
  have e88 : k0_pay88 k0_pay77 a b = k0_pay81 k0_pay77 a b := rfl
  have e89 : k0_pay89 m = k0_pay82 m := rfl
  have e90 : k0_pay90 k0_pay77 a b m = k0_pay83 k0_pay77 a b m := by unfold k0_pay90 k0_pay83; rw [e88, e89]
  refine Hd.ext ?_ ?_ ?_ rfl
  · funext x t; show k0_pay92 k0_pay77 a b m _ = k0_pay85 k0_pay77 a b m _; unfold k0_pay92 k0_pay85; rw [e88, e90]
  · funext t; show shapeCast S1x8x1024 (k0_pay93 k0_pay77 a b m) _ _ = k0_pay87 (k0_pay86 k0_pay77 a b m) _; unfold k0_pay93 k0_pay87 k0_pay86; rw [e89, e90]
  · funext t; show k0_pay91 k0_pay77 a b m _ = k0_pay84 k0_pay77 a b m _; unfold k0_pay91 k0_pay84; rw [e90]

section Body
variable (c : Dev nD) (i : grid0.Coords)
    (M0 : Memref sig .tc .smem S256 .i32) (h0 : M0.IsWhole)
    (M1 : Memref sig .tc .vmem S2x1024x128 .bf16) (h1 : M1.IsWhole)
    (M2 : Memref sig .tc .vmem S2x16384x128 .bf16) (h2 : M2.IsWhole)
    (M3 : Memref sig .tc .vmem S2x128x16384 .bf16) (h3 : M3.IsWhole)
    (M4 : Memref sig .tc .vmem S1024x128 .f32) (h4 : M4.IsWhole)
    (x0 : Vec Ideal S256 .i32) (x1 : Vec Ideal S2x1024x128 .bf16) (x2 : Vec Ideal S2x16384x128 .bf16) (x3 : Vec Ideal S2x128x16384 .bf16)
    (hchk : ∀ v w : BitVec 32, k0_chk1 i v w)

/-- Head 0 after the diagonal block. -/
theorem start_0 : hd 0 (View.read (Elt Ideal) (Memref.whole cc0_scratch0).view (a0 c i M1 h1 M2 h2 x1 x2)) (View.read (Elt Ideal) (Memref.whole cc0_scratch1).view (a1 c i M1 h1 M2 h2 x1 x2)) (View.read (Elt Ideal) (Memref.whole cc0_scratch2).view (a2 c i M1 h1 M2 h2 x1 x2)) (View.read (Elt Ideal) (Memref.whole cc0_scratch3).view a3)
    = Hd.start (masked (scores x1 x2 0 (i 1).val)) := by
  have hq := q_lt i
  have hm : ∀ t, ((bodyRun.sl.v51 (F := Ideal) c) : Vec Ideal S1x8x1024 .f32) (ix3 (0 : Fin 1) (0 : Fin 8) t) = (⊥ : EReal) := by
    intro t
    delta bodyRun.sl.v51 View.readCov bodyRun.sl.S2_1
    exact (max_first (Memref.whole cc0_scratch2).view _ _ _ 0 t _).trans (pay79_at 0 0 t)
  have hC : ∀ d t, (View.read (Elt Ideal) (Memref.whole cc0_scratch3).view a3 : Vec Ideal S2x128x1024 .f32) (ix3 (0 : Fin 2) d t) = 0 := by
    intro d t
    delta a3 bodyRun.sl.S3_1
    exact (acc_whole (Memref.whole cc0_scratch3).view _ _ _ 0 d t _).trans (pay80_at 0 d t)
  have hS : ∀ x t, ∑ l : Fin 128, View.readAt (Elt Ideal) M2.view (Rect.unit (s := S2x16384x128) (k0_off2 i) S1x1024x128.size (k0_off2_inb i)).toLoadRect (h2.unread x2) (ix3 (0 : Fin 1) x l)
      * View.readAt (Elt Ideal) M1.view (Rect.unit (s := S2x1024x128) ![0, 0, 0] S1x1024x128.size inb_S2x1024x128_S1x1024x128_0_0_0).toLoadRect (h1.unread x1) (ix3 (0 : Fin 1) t l)
      = scores x1 x2 0 (i 1).val x t := by
    intro x t
    refine Finset.sum_congr rfl fun l _ => congrArg₂ (· * ·) ?_ ?_
    · exact (read_at _ _ _ _ _ _ 0 (keyAt _ x) l (off2 i) rfl (keyAt_val hq x) (Nat.zero_add _).symm).trans (by rw [h2.read_unread])
    · exact (read_at _ _ _ _ _ _ 0 t l rfl rfl (Nat.zero_add _).symm (Nat.zero_add _).symm).trans (by rw [h1.read_unread])
  refine Eq.trans ?_ (start_eq _ _ _ _ _ hS hm hC)
  delta a0 a1 a2 bodyRun.sl.S0_2 bodyRun.sl.S1_2 bodyRun.sl.S2_3 bodyRun.sl.S2_2 bodyRun.sl.r_3
  exact hd_first (Memref.whole cc0_scratch0).view (Memref.whole cc0_scratch1).view (Memref.whole cc0_scratch2).view _ _ _ _ _ _ _ _ _ _ _ _ _

/-- Head 1 after the diagonal block. -/
theorem start_1 : hd 1 (View.read (Elt Ideal) (Memref.whole cc0_scratch0).view (a0 c i M1 h1 M2 h2 x1 x2)) (View.read (Elt Ideal) (Memref.whole cc0_scratch1).view (a1 c i M1 h1 M2 h2 x1 x2)) (View.read (Elt Ideal) (Memref.whole cc0_scratch2).view (a2 c i M1 h1 M2 h2 x1 x2)) (View.read (Elt Ideal) (Memref.whole cc0_scratch3).view a3)
    = Hd.start (masked (scores x1 x2 1 (i 1).val)) := by
  have hq := q_lt i
  have hm : ∀ t, ((bodyRun.sl.v83 (F := Ideal) c i M1 h1 M2 h2 x1 x2) : Vec Ideal S1x8x1024 .f32) (ix3 (0 : Fin 1) (0 : Fin 8) t) = (⊥ : EReal) := by
    intro t
    delta bodyRun.sl.v83 View.readCov bodyRun.sl.S2_1 bodyRun.sl.S2_2
    exact (max_second (Memref.whole cc0_scratch2).view _ _ _ _ 0 t _).trans (pay79_at 0 1 t)
  have hC : ∀ d t, (View.read (Elt Ideal) (Memref.whole cc0_scratch3).view a3 : Vec Ideal S2x128x1024 .f32) (ix3 (1 : Fin 2) d t) = 0 := by
    intro d t
    delta a3 bodyRun.sl.S3_1
    exact (acc_whole (Memref.whole cc0_scratch3).view _ _ _ 1 d t _).trans (pay80_at 1 d t)
  have hS : ∀ x t, ∑ l : Fin 128, View.readAt (Elt Ideal) M2.view (Rect.unit (s := S2x16384x128) (k0_off3 i) S1x1024x128.size (k0_off3_inb i)).toLoadRect (h2.unread x2) (ix3 (0 : Fin 1) x l)
      * View.readAt (Elt Ideal) M1.view (Rect.unit (s := S2x1024x128) ![1, 0, 0] S1x1024x128.size inb_S2x1024x128_S1x1024x128_1_0_0).toLoadRect (h1.unread x1) (ix3 (0 : Fin 1) t l)
      = scores x1 x2 1 (i 1).val x t := by
    intro x t
    refine Finset.sum_congr rfl fun l _ => congrArg₂ (· * ·) ?_ ?_
    · exact (read_at _ _ _ _ _ _ 1 (keyAt _ x) l (off3 i) rfl (keyAt_val hq x) (Nat.zero_add _).symm).trans (by rw [h2.read_unread])
    · exact (read_at _ _ _ _ _ _ 1 t l rfl rfl (Nat.zero_add _).symm (Nat.zero_add _).symm).trans (by rw [h1.read_unread])
  refine Eq.trans ?_ (start_eq1 _ _ _ _ _ hS hm hC)
  delta a0 a1 a2 bodyRun.sl.S0_2 bodyRun.sl.S1_2 bodyRun.sl.S2_3 bodyRun.sl.S2_2 bodyRun.sl.v104 bodyRun.sl.r_4
  exact hd_second (Memref.whole cc0_scratch0).view (Memref.whole cc0_scratch1).view (Memref.whole cc0_scratch2).view _ _ _ _ _ _ _ _ _ _

theorem b0_eq : b0 c i M0 h0 M1 h1 M2 h2 M3 h3 M4 h4 x0 x1 x2 x3 hchk = (Memref.whole cc0_scratch0).view.writes (Elt Ideal) (a0 c i M1 h1 M2 h2 x1 x2) (p1 c i M0 h0 M1 h1 M2 h2 M3 h3 M4 h4 x0 x1 x2 x3 hchk).1 :=
  View.writes_append _ _ _ _

theorem b1_eq : b1 c i M0 h0 M1 h1 M2 h2 M3 h3 M4 h4 x0 x1 x2 x3 hchk = (Memref.whole cc0_scratch1).view.writes (Elt Ideal) (a1 c i M1 h1 M2 h2 x1 x2) (p1 c i M0 h0 M1 h1 M2 h2 M3 h3 M4 h4 x0 x1 x2 x3 hchk).2.1 :=
  View.writes_append _ _ _ _

theorem b2_eq : b2 c i M0 h0 M1 h1 M2 h2 M3 h3 M4 h4 x0 x1 x2 x3 hchk = (Memref.whole cc0_scratch2).view.writes (Elt Ideal) (a2 c i M1 h1 M2 h2 x1 x2) (p1 c i M0 h0 M1 h1 M2 h2 M3 h3 M4 h4 x0 x1 x2 x3 hchk).2.2.1 :=
  View.writes_append _ _ _ _

theorem b3_eq : b3 c i M0 h0 M1 h1 M2 h2 M3 h3 M4 h4 x0 x1 x2 x3 hchk = (Memref.whole cc0_scratch3).view.writes (Elt Ideal) a3 (p1 c i M0 h0 M1 h1 M2 h2 M3 h3 M4 h4 x0 x1 x2 x3 hchk).2.2.2 :=
  View.writes_append _ _ _ _

set_option maxHeartbeats 1000000 in
theorem afterb_0 : hd 0 (View.read (Elt Ideal) (Memref.whole cc0_scratch0).view (b0 c i M0 h0 M1 h1 M2 h2 M3 h3 M4 h4 x0 x1 x2 x3 hchk)) (View.read (Elt Ideal) (Memref.whole cc0_scratch1).view (b1 c i M0 h0 M1 h1 M2 h2 M3 h3 M4 h4 x0 x1 x2 x3 hchk)) (View.read (Elt Ideal) (Memref.whole cc0_scratch2).view (b2 c i M0 h0 M1 h1 M2 h2 M3 h3 M4 h4 x0 x1 x2 x3 hchk)) (View.read (Elt Ideal) (Memref.whole cc0_scratch3).view (b3 c i M0 h0 M1 h1 M2 h2 M3 h3 M4 h4 x0 x1 x2 x3 hchk))
    = Online.steps (scores x1 x2 0) (vals x3 0) (i 1).val (hd 0 (View.read (Elt Ideal) (Memref.whole cc0_scratch0).view (a0 c i M1 h1 M2 h2 x1 x2)) (View.read (Elt Ideal) (Memref.whole cc0_scratch1).view (a1 c i M1 h1 M2 h2 x1 x2)) (View.read (Elt Ideal) (Memref.whole cc0_scratch2).view (a2 c i M1 h1 M2 h2 x1 x2)) (View.read (Elt Ideal) (Memref.whole cc0_scratch3).view a3)) (both i (bodyRun.sl.r (F := Ideal) c i M0 h0 x0) (bodyRun.sl.r_1 (F := Ideal) c i M0 h0 x0)) := by
  have L := loop1_0 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (bodyRun.sl.v9 i) (bodyRun.sl.r (F := Ideal) c i M0 h0 x0) 0#32 (bodyRun.sl.r_1 (F := Ideal) c i M0 h0 x0) (hchk _ _) 0#32 none8 (h1.unread x1) (h2.unread x2) (h3.unread x3) (a0 c i M1 h1 M2 h2 x1 x2) (a1 c i M1 h1 M2 h2 x1 x2) (a2 c i M1 h1 M2 h2 x1 x2) a3
    (Scf.trips (k0_t1_loop i (bodyRun.sl.r (F := Ideal) c i M0 h0 x0) (bodyRun.sl.r_1 (F := Ideal) c i M0 h0 x0)).lb (k0_t1_loop i (bodyRun.sl.r (F := Ideal) c i M0 h0 x0) (bodyRun.sl.r_1 (F := Ideal) c i M0 h0 x0)).ub (k0_t1_loop i (bodyRun.sl.r (F := Ideal) c i M0 h0 x0) (bodyRun.sl.r_1 (F := Ideal) c i M0 h0 x0)).st) le_rfl
  rw [h1.read_unread, h2.read_unread, h3.read_unread] at L
  rw [← trips1 i (bodyRun.sl.r (F := Ideal) c i M0 h0 x0) (bodyRun.sl.r_1 (F := Ideal) c i M0 h0 x0)]
  refine Eq.trans ?_ L
  rw [b0_eq, b1_eq, b2_eq, b3_eq]
  delta p1
  with_reducible rfl

set_option maxHeartbeats 1000000 in
theorem afterb_1 : hd 1 (View.read (Elt Ideal) (Memref.whole cc0_scratch0).view (b0 c i M0 h0 M1 h1 M2 h2 M3 h3 M4 h4 x0 x1 x2 x3 hchk)) (View.read (Elt Ideal) (Memref.whole cc0_scratch1).view (b1 c i M0 h0 M1 h1 M2 h2 M3 h3 M4 h4 x0 x1 x2 x3 hchk)) (View.read (Elt Ideal) (Memref.whole cc0_scratch2).view (b2 c i M0 h0 M1 h1 M2 h2 M3 h3 M4 h4 x0 x1 x2 x3 hchk)) (View.read (Elt Ideal) (Memref.whole cc0_scratch3).view (b3 c i M0 h0 M1 h1 M2 h2 M3 h3 M4 h4 x0 x1 x2 x3 hchk))
    = Online.steps (scores x1 x2 1) (vals x3 1) (i 1).val (hd 1 (View.read (Elt Ideal) (Memref.whole cc0_scratch0).view (a0 c i M1 h1 M2 h2 x1 x2)) (View.read (Elt Ideal) (Memref.whole cc0_scratch1).view (a1 c i M1 h1 M2 h2 x1 x2)) (View.read (Elt Ideal) (Memref.whole cc0_scratch2).view (a2 c i M1 h1 M2 h2 x1 x2)) (View.read (Elt Ideal) (Memref.whole cc0_scratch3).view a3)) (both i (bodyRun.sl.r (F := Ideal) c i M0 h0 x0) (bodyRun.sl.r_1 (F := Ideal) c i M0 h0 x0)) := by
  have L := loop1_1 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (bodyRun.sl.v9 i) (bodyRun.sl.r (F := Ideal) c i M0 h0 x0) 0#32 (bodyRun.sl.r_1 (F := Ideal) c i M0 h0 x0) (hchk _ _) 0#32 none8 (h1.unread x1) (h2.unread x2) (h3.unread x3) (a0 c i M1 h1 M2 h2 x1 x2) (a1 c i M1 h1 M2 h2 x1 x2) (a2 c i M1 h1 M2 h2 x1 x2) a3
    (Scf.trips (k0_t1_loop i (bodyRun.sl.r (F := Ideal) c i M0 h0 x0) (bodyRun.sl.r_1 (F := Ideal) c i M0 h0 x0)).lb (k0_t1_loop i (bodyRun.sl.r (F := Ideal) c i M0 h0 x0) (bodyRun.sl.r_1 (F := Ideal) c i M0 h0 x0)).ub (k0_t1_loop i (bodyRun.sl.r (F := Ideal) c i M0 h0 x0) (bodyRun.sl.r_1 (F := Ideal) c i M0 h0 x0)).st) le_rfl
  rw [h1.read_unread, h2.read_unread, h3.read_unread] at L
  rw [← trips1 i (bodyRun.sl.r (F := Ideal) c i M0 h0 x0) (bodyRun.sl.r_1 (F := Ideal) c i M0 h0 x0)]
  refine Eq.trans ?_ L
  rw [b0_eq, b1_eq, b2_eq, b3_eq]
  delta p1
  with_reducible rfl

theorem c0_eq : c0 c i M0 h0 M1 h1 M2 h2 M3 h3 M4 h4 x0 x1 x2 x3 hchk = (Memref.whole cc0_scratch0).view.writes (Elt Ideal) (b0 c i M0 h0 M1 h1 M2 h2 M3 h3 M4 h4 x0 x1 x2 x3 hchk) (p3 c i M0 h0 M1 h1 M2 h2 M3 h3 M4 h4 x0 x1 x2 x3 hchk).1 :=
  View.writes_append _ _ _ _

theorem c1_eq : c1 c i M0 h0 M1 h1 M2 h2 M3 h3 M4 h4 x0 x1 x2 x3 hchk = (Memref.whole cc0_scratch1).view.writes (Elt Ideal) (b1 c i M0 h0 M1 h1 M2 h2 M3 h3 M4 h4 x0 x1 x2 x3 hchk) (p3 c i M0 h0 M1 h1 M2 h2 M3 h3 M4 h4 x0 x1 x2 x3 hchk).2.1 :=
  View.writes_append _ _ _ _

theorem c2_eq : c2 c i M0 h0 M1 h1 M2 h2 M3 h3 M4 h4 x0 x1 x2 x3 hchk = (Memref.whole cc0_scratch2).view.writes (Elt Ideal) (b2 c i M0 h0 M1 h1 M2 h2 M3 h3 M4 h4 x0 x1 x2 x3 hchk) (p3 c i M0 h0 M1 h1 M2 h2 M3 h3 M4 h4 x0 x1 x2 x3 hchk).2.2.1 :=
  View.writes_append _ _ _ _

theorem c3_eq : c3 c i M0 h0 M1 h1 M2 h2 M3 h3 M4 h4 x0 x1 x2 x3 hchk = (Memref.whole cc0_scratch3).view.writes (Elt Ideal) (b3 c i M0 h0 M1 h1 M2 h2 M3 h3 M4 h4 x0 x1 x2 x3 hchk) (p3 c i M0 h0 M1 h1 M2 h2 M3 h3 M4 h4 x0 x1 x2 x3 hchk).2.2.2 :=
  View.writes_append _ _ _ _

set_option maxHeartbeats 1000000 in
theorem afterc_0 : hd 0 (View.read (Elt Ideal) (Memref.whole cc0_scratch0).view (c0 c i M0 h0 M1 h1 M2 h2 M3 h3 M4 h4 x0 x1 x2 x3 hchk)) (View.read (Elt Ideal) (Memref.whole cc0_scratch1).view (c1 c i M0 h0 M1 h1 M2 h2 M3 h3 M4 h4 x0 x1 x2 x3 hchk)) (View.read (Elt Ideal) (Memref.whole cc0_scratch2).view (c2 c i M0 h0 M1 h1 M2 h2 M3 h3 M4 h4 x0 x1 x2 x3 hchk)) (View.read (Elt Ideal) (Memref.whole cc0_scratch3).view (c3 c i M0 h0 M1 h1 M2 h2 M3 h3 M4 h4 x0 x1 x2 x3 hchk))
    = Online.steps (scores x1 x2 0) (vals x3 0) ((i 1).val - both i (bodyRun.sl.r (F := Ideal) c i M0 h0 x0) (bodyRun.sl.r_1 (F := Ideal) c i M0 h0 x0)) (hd 0 (View.read (Elt Ideal) (Memref.whole cc0_scratch0).view (b0 c i M0 h0 M1 h1 M2 h2 M3 h3 M4 h4 x0 x1 x2 x3 hchk)) (View.read (Elt Ideal) (Memref.whole cc0_scratch1).view (b1 c i M0 h0 M1 h1 M2 h2 M3 h3 M4 h4 x0 x1 x2 x3 hchk)) (View.read (Elt Ideal) (Memref.whole cc0_scratch2).view (b2 c i M0 h0 M1 h1 M2 h2 M3 h3 M4 h4 x0 x1 x2 x3 hchk)) (View.read (Elt Ideal) (Memref.whole cc0_scratch3).view (b3 c i M0 h0 M1 h1 M2 h2 M3 h3 M4 h4 x0 x1 x2 x3 hchk))) ((i 1).val - lo i (bodyRun.sl.r (F := Ideal) c i M0 h0 x0) - both i (bodyRun.sl.r (F := Ideal) c i M0 h0 x0) (bodyRun.sl.r_1 (F := Ideal) c i M0 h0 x0)) := by
  have L := loop3_0 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (bodyRun.sl.v9 i) (bodyRun.sl.r (F := Ideal) c i M0 h0 x0) 0#32 (bodyRun.sl.r_1 (F := Ideal) c i M0 h0 x0) (hchk _ _) 0#32 none8 (h1.unread x1) (h2.unread x2) (h3.unread x3) (b0 c i M0 h0 M1 h1 M2 h2 M3 h3 M4 h4 x0 x1 x2 x3 hchk) (b1 c i M0 h0 M1 h1 M2 h2 M3 h3 M4 h4 x0 x1 x2 x3 hchk) (b2 c i M0 h0 M1 h1 M2 h2 M3 h3 M4 h4 x0 x1 x2 x3 hchk) (b3 c i M0 h0 M1 h1 M2 h2 M3 h3 M4 h4 x0 x1 x2 x3 hchk) (bodyRun.sl.v107 (F := Ideal) c i M0 h0 x0)
    (Scf.trips (k0_t3_loop i (bodyRun.sl.r (F := Ideal) c i M0 h0 x0) (bodyRun.sl.r_1 (F := Ideal) c i M0 h0 x0)).lb (k0_t3_loop i (bodyRun.sl.r (F := Ideal) c i M0 h0 x0) (bodyRun.sl.r_1 (F := Ideal) c i M0 h0 x0)).ub (k0_t3_loop i (bodyRun.sl.r (F := Ideal) c i M0 h0 x0) (bodyRun.sl.r_1 (F := Ideal) c i M0 h0 x0)).st) le_rfl
  rw [h1.read_unread, h2.read_unread, h3.read_unread] at L
  rw [← trips3 i (bodyRun.sl.r (F := Ideal) c i M0 h0 x0) (bodyRun.sl.r_1 (F := Ideal) c i M0 h0 x0)]
  refine Eq.trans ?_ L
  rw [c0_eq, c1_eq, c2_eq, c3_eq]
  delta p3
  with_reducible rfl

set_option maxHeartbeats 1000000 in
theorem afterc_1 : hd 1 (View.read (Elt Ideal) (Memref.whole cc0_scratch0).view (c0 c i M0 h0 M1 h1 M2 h2 M3 h3 M4 h4 x0 x1 x2 x3 hchk)) (View.read (Elt Ideal) (Memref.whole cc0_scratch1).view (c1 c i M0 h0 M1 h1 M2 h2 M3 h3 M4 h4 x0 x1 x2 x3 hchk)) (View.read (Elt Ideal) (Memref.whole cc0_scratch2).view (c2 c i M0 h0 M1 h1 M2 h2 M3 h3 M4 h4 x0 x1 x2 x3 hchk)) (View.read (Elt Ideal) (Memref.whole cc0_scratch3).view (c3 c i M0 h0 M1 h1 M2 h2 M3 h3 M4 h4 x0 x1 x2 x3 hchk))
    = hd 1 (View.read (Elt Ideal) (Memref.whole cc0_scratch0).view (b0 c i M0 h0 M1 h1 M2 h2 M3 h3 M4 h4 x0 x1 x2 x3 hchk)) (View.read (Elt Ideal) (Memref.whole cc0_scratch1).view (b1 c i M0 h0 M1 h1 M2 h2 M3 h3 M4 h4 x0 x1 x2 x3 hchk)) (View.read (Elt Ideal) (Memref.whole cc0_scratch2).view (b2 c i M0 h0 M1 h1 M2 h2 M3 h3 M4 h4 x0 x1 x2 x3 hchk)) (View.read (Elt Ideal) (Memref.whole cc0_scratch3).view (b3 c i M0 h0 M1 h1 M2 h2 M3 h3 M4 h4 x0 x1 x2 x3 hchk)) := by
  have L := loop3_1 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (bodyRun.sl.v9 i) (bodyRun.sl.r (F := Ideal) c i M0 h0 x0) 0#32 (bodyRun.sl.r_1 (F := Ideal) c i M0 h0 x0) (hchk _ _) 0#32 none8 (h1.unread x1) (h2.unread x2) (h3.unread x3) (b0 c i M0 h0 M1 h1 M2 h2 M3 h3 M4 h4 x0 x1 x2 x3 hchk) (b1 c i M0 h0 M1 h1 M2 h2 M3 h3 M4 h4 x0 x1 x2 x3 hchk) (b2 c i M0 h0 M1 h1 M2 h2 M3 h3 M4 h4 x0 x1 x2 x3 hchk) (b3 c i M0 h0 M1 h1 M2 h2 M3 h3 M4 h4 x0 x1 x2 x3 hchk) (bodyRun.sl.v107 (F := Ideal) c i M0 h0 x0)
    (Scf.trips (k0_t3_loop i (bodyRun.sl.r (F := Ideal) c i M0 h0 x0) (bodyRun.sl.r_1 (F := Ideal) c i M0 h0 x0)).lb (k0_t3_loop i (bodyRun.sl.r (F := Ideal) c i M0 h0 x0) (bodyRun.sl.r_1 (F := Ideal) c i M0 h0 x0)).ub (k0_t3_loop i (bodyRun.sl.r (F := Ideal) c i M0 h0 x0) (bodyRun.sl.r_1 (F := Ideal) c i M0 h0 x0)).st) le_rfl
  refine Eq.trans ?_ L
  rw [c0_eq, c1_eq, c2_eq, c3_eq]
  delta p3
  with_reducible rfl

theorem d0_eq : d0 c i M0 h0 M1 h1 M2 h2 M3 h3 M4 h4 x0 x1 x2 x3 hchk = (Memref.whole cc0_scratch0).view.writes (Elt Ideal) (c0 c i M0 h0 M1 h1 M2 h2 M3 h3 M4 h4 x0 x1 x2 x3 hchk) (p5 c i M0 h0 M1 h1 M2 h2 M3 h3 M4 h4 x0 x1 x2 x3 hchk).1 :=
  View.writes_append _ _ _ _

theorem d1_eq : d1 c i M0 h0 M1 h1 M2 h2 M3 h3 M4 h4 x0 x1 x2 x3 hchk = (Memref.whole cc0_scratch1).view.writes (Elt Ideal) (c1 c i M0 h0 M1 h1 M2 h2 M3 h3 M4 h4 x0 x1 x2 x3 hchk) (p5 c i M0 h0 M1 h1 M2 h2 M3 h3 M4 h4 x0 x1 x2 x3 hchk).2.1 :=
  View.writes_append _ _ _ _

theorem d2_eq : d2 c i M0 h0 M1 h1 M2 h2 M3 h3 M4 h4 x0 x1 x2 x3 hchk = (Memref.whole cc0_scratch2).view.writes (Elt Ideal) (c2 c i M0 h0 M1 h1 M2 h2 M3 h3 M4 h4 x0 x1 x2 x3 hchk) (p5 c i M0 h0 M1 h1 M2 h2 M3 h3 M4 h4 x0 x1 x2 x3 hchk).2.2.1 :=
  View.writes_append _ _ _ _

theorem d3_eq : d3 c i M0 h0 M1 h1 M2 h2 M3 h3 M4 h4 x0 x1 x2 x3 hchk = (Memref.whole cc0_scratch3).view.writes (Elt Ideal) (c3 c i M0 h0 M1 h1 M2 h2 M3 h3 M4 h4 x0 x1 x2 x3 hchk) (p5 c i M0 h0 M1 h1 M2 h2 M3 h3 M4 h4 x0 x1 x2 x3 hchk).2.2.2 :=
  View.writes_append _ _ _ _

set_option maxHeartbeats 1000000 in
theorem afterd_0 : hd 0 (View.read (Elt Ideal) (Memref.whole cc0_scratch0).view (d0 c i M0 h0 M1 h1 M2 h2 M3 h3 M4 h4 x0 x1 x2 x3 hchk)) (View.read (Elt Ideal) (Memref.whole cc0_scratch1).view (d1 c i M0 h0 M1 h1 M2 h2 M3 h3 M4 h4 x0 x1 x2 x3 hchk)) (View.read (Elt Ideal) (Memref.whole cc0_scratch2).view (d2 c i M0 h0 M1 h1 M2 h2 M3 h3 M4 h4 x0 x1 x2 x3 hchk)) (View.read (Elt Ideal) (Memref.whole cc0_scratch3).view (d3 c i M0 h0 M1 h1 M2 h2 M3 h3 M4 h4 x0 x1 x2 x3 hchk))
    = hd 0 (View.read (Elt Ideal) (Memref.whole cc0_scratch0).view (c0 c i M0 h0 M1 h1 M2 h2 M3 h3 M4 h4 x0 x1 x2 x3 hchk)) (View.read (Elt Ideal) (Memref.whole cc0_scratch1).view (c1 c i M0 h0 M1 h1 M2 h2 M3 h3 M4 h4 x0 x1 x2 x3 hchk)) (View.read (Elt Ideal) (Memref.whole cc0_scratch2).view (c2 c i M0 h0 M1 h1 M2 h2 M3 h3 M4 h4 x0 x1 x2 x3 hchk)) (View.read (Elt Ideal) (Memref.whole cc0_scratch3).view (c3 c i M0 h0 M1 h1 M2 h2 M3 h3 M4 h4 x0 x1 x2 x3 hchk)) := by
  have L := loop5_0 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (bodyRun.sl.v9 i) (bodyRun.sl.r (F := Ideal) c i M0 h0 x0) 0#32 (bodyRun.sl.r_1 (F := Ideal) c i M0 h0 x0) (hchk _ _) 0#32 none8 (h1.unread x1) (h2.unread x2) (h3.unread x3) (c0 c i M0 h0 M1 h1 M2 h2 M3 h3 M4 h4 x0 x1 x2 x3 hchk) (c1 c i M0 h0 M1 h1 M2 h2 M3 h3 M4 h4 x0 x1 x2 x3 hchk) (c2 c i M0 h0 M1 h1 M2 h2 M3 h3 M4 h4 x0 x1 x2 x3 hchk) (c3 c i M0 h0 M1 h1 M2 h2 M3 h3 M4 h4 x0 x1 x2 x3 hchk) (bodyRun.sl.v107 (F := Ideal) c i M0 h0 x0)
    (Scf.trips (k0_t5_loop i (bodyRun.sl.r (F := Ideal) c i M0 h0 x0) (bodyRun.sl.r_1 (F := Ideal) c i M0 h0 x0)).lb (k0_t5_loop i (bodyRun.sl.r (F := Ideal) c i M0 h0 x0) (bodyRun.sl.r_1 (F := Ideal) c i M0 h0 x0)).ub (k0_t5_loop i (bodyRun.sl.r (F := Ideal) c i M0 h0 x0) (bodyRun.sl.r_1 (F := Ideal) c i M0 h0 x0)).st) le_rfl
  refine Eq.trans ?_ L
  rw [d0_eq, d1_eq, d2_eq, d3_eq]
  delta p5
  with_reducible rfl

set_option maxHeartbeats 1000000 in
theorem afterd_1 : hd 1 (View.read (Elt Ideal) (Memref.whole cc0_scratch0).view (d0 c i M0 h0 M1 h1 M2 h2 M3 h3 M4 h4 x0 x1 x2 x3 hchk)) (View.read (Elt Ideal) (Memref.whole cc0_scratch1).view (d1 c i M0 h0 M1 h1 M2 h2 M3 h3 M4 h4 x0 x1 x2 x3 hchk)) (View.read (Elt Ideal) (Memref.whole cc0_scratch2).view (d2 c i M0 h0 M1 h1 M2 h2 M3 h3 M4 h4 x0 x1 x2 x3 hchk)) (View.read (Elt Ideal) (Memref.whole cc0_scratch3).view (d3 c i M0 h0 M1 h1 M2 h2 M3 h3 M4 h4 x0 x1 x2 x3 hchk))
    = Online.steps (scores x1 x2 1) (vals x3 1) ((i 1).val - both i (bodyRun.sl.r (F := Ideal) c i M0 h0 x0) (bodyRun.sl.r_1 (F := Ideal) c i M0 h0 x0)) (hd 1 (View.read (Elt Ideal) (Memref.whole cc0_scratch0).view (c0 c i M0 h0 M1 h1 M2 h2 M3 h3 M4 h4 x0 x1 x2 x3 hchk)) (View.read (Elt Ideal) (Memref.whole cc0_scratch1).view (c1 c i M0 h0 M1 h1 M2 h2 M3 h3 M4 h4 x0 x1 x2 x3 hchk)) (View.read (Elt Ideal) (Memref.whole cc0_scratch2).view (c2 c i M0 h0 M1 h1 M2 h2 M3 h3 M4 h4 x0 x1 x2 x3 hchk)) (View.read (Elt Ideal) (Memref.whole cc0_scratch3).view (c3 c i M0 h0 M1 h1 M2 h2 M3 h3 M4 h4 x0 x1 x2 x3 hchk))) ((i 1).val - lo i (bodyRun.sl.r_1 (F := Ideal) c i M0 h0 x0) - both i (bodyRun.sl.r (F := Ideal) c i M0 h0 x0) (bodyRun.sl.r_1 (F := Ideal) c i M0 h0 x0)) := by
  have L := loop5_1 𝒱₀ c none i M0 h0 M1 h1 M2 h2 M3 h3 M4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (bodyRun.sl.v9 i) (bodyRun.sl.r (F := Ideal) c i M0 h0 x0) 0#32 (bodyRun.sl.r_1 (F := Ideal) c i M0 h0 x0) (hchk _ _) 0#32 none8 (h1.unread x1) (h2.unread x2) (h3.unread x3) (c0 c i M0 h0 M1 h1 M2 h2 M3 h3 M4 h4 x0 x1 x2 x3 hchk) (c1 c i M0 h0 M1 h1 M2 h2 M3 h3 M4 h4 x0 x1 x2 x3 hchk) (c2 c i M0 h0 M1 h1 M2 h2 M3 h3 M4 h4 x0 x1 x2 x3 hchk) (c3 c i M0 h0 M1 h1 M2 h2 M3 h3 M4 h4 x0 x1 x2 x3 hchk) (bodyRun.sl.v107 (F := Ideal) c i M0 h0 x0)
    (Scf.trips (k0_t5_loop i (bodyRun.sl.r (F := Ideal) c i M0 h0 x0) (bodyRun.sl.r_1 (F := Ideal) c i M0 h0 x0)).lb (k0_t5_loop i (bodyRun.sl.r (F := Ideal) c i M0 h0 x0) (bodyRun.sl.r_1 (F := Ideal) c i M0 h0 x0)).ub (k0_t5_loop i (bodyRun.sl.r (F := Ideal) c i M0 h0 x0) (bodyRun.sl.r_1 (F := Ideal) c i M0 h0 x0)).st) le_rfl
  rw [h1.read_unread, h2.read_unread, h3.read_unread] at L
  rw [← trips5 i (bodyRun.sl.r (F := Ideal) c i M0 h0 x0) (bodyRun.sl.r_1 (F := Ideal) c i M0 h0 x0)]
  refine Eq.trans ?_ L
  rw [d0_eq, d1_eq, d2_eq, d3_eq]
  delta p5
  with_reducible rfl

/-- Head 0 after its loops: the diagonal block, then every block down to its first. -/
theorem head_0 : hd 0 (View.read (Elt Ideal) (Memref.whole cc0_scratch0).view (d0 c i M0 h0 M1 h1 M2 h2 M3 h3 M4 h4 x0 x1 x2 x3 hchk)) (View.read (Elt Ideal) (Memref.whole cc0_scratch1).view (d1 c i M0 h0 M1 h1 M2 h2 M3 h3 M4 h4 x0 x1 x2 x3 hchk)) (View.read (Elt Ideal) (Memref.whole cc0_scratch2).view (d2 c i M0 h0 M1 h1 M2 h2 M3 h3 M4 h4 x0 x1 x2 x3 hchk)) (View.read (Elt Ideal) (Memref.whole cc0_scratch3).view (d3 c i M0 h0 M1 h1 M2 h2 M3 h3 M4 h4 x0 x1 x2 x3 hchk))
    = Online.steps (scores x1 x2 0) (vals x3 0) (i 1).val (Hd.start (masked (scores x1 x2 0 (i 1).val))) ((i 1).val - lo i (bodyRun.sl.r (F := Ideal) c i M0 h0 x0)) := by
  have e : both i (bodyRun.sl.r (F := Ideal) c i M0 h0 x0) (bodyRun.sl.r_1 (F := Ideal) c i M0 h0 x0) + ((i 1).val - lo i (bodyRun.sl.r (F := Ideal) c i M0 h0 x0) - both i (bodyRun.sl.r (F := Ideal) c i M0 h0 x0) (bodyRun.sl.r_1 (F := Ideal) c i M0 h0 x0)) = (i 1).val - lo i (bodyRun.sl.r (F := Ideal) c i M0 h0 x0) := by
    have := both_le_left i (bodyRun.sl.r (F := Ideal) c i M0 h0 x0) (bodyRun.sl.r_1 (F := Ideal) c i M0 h0 x0); have := both_le_right i (bodyRun.sl.r (F := Ideal) c i M0 h0 x0) (bodyRun.sl.r_1 (F := Ideal) c i M0 h0 x0); omega
  rw [afterd_0, afterc_0, afterb_0, start_0, Online.steps_add, e]

/-- Head 1 after its loops: the diagonal block, then every block down to its first. -/
theorem head_1 : hd 1 (View.read (Elt Ideal) (Memref.whole cc0_scratch0).view (d0 c i M0 h0 M1 h1 M2 h2 M3 h3 M4 h4 x0 x1 x2 x3 hchk)) (View.read (Elt Ideal) (Memref.whole cc0_scratch1).view (d1 c i M0 h0 M1 h1 M2 h2 M3 h3 M4 h4 x0 x1 x2 x3 hchk)) (View.read (Elt Ideal) (Memref.whole cc0_scratch2).view (d2 c i M0 h0 M1 h1 M2 h2 M3 h3 M4 h4 x0 x1 x2 x3 hchk)) (View.read (Elt Ideal) (Memref.whole cc0_scratch3).view (d3 c i M0 h0 M1 h1 M2 h2 M3 h3 M4 h4 x0 x1 x2 x3 hchk))
    = Online.steps (scores x1 x2 1) (vals x3 1) (i 1).val (Hd.start (masked (scores x1 x2 1 (i 1).val))) ((i 1).val - lo i (bodyRun.sl.r_1 (F := Ideal) c i M0 h0 x0)) := by
  have e : both i (bodyRun.sl.r (F := Ideal) c i M0 h0 x0) (bodyRun.sl.r_1 (F := Ideal) c i M0 h0 x0) + ((i 1).val - lo i (bodyRun.sl.r_1 (F := Ideal) c i M0 h0 x0) - both i (bodyRun.sl.r (F := Ideal) c i M0 h0 x0) (bodyRun.sl.r_1 (F := Ideal) c i M0 h0 x0)) = (i 1).val - lo i (bodyRun.sl.r_1 (F := Ideal) c i M0 h0 x0) := by
    have := both_le_left i (bodyRun.sl.r (F := Ideal) c i M0 h0 x0) (bodyRun.sl.r_1 (F := Ideal) c i M0 h0 x0); have := both_le_right i (bodyRun.sl.r (F := Ideal) c i M0 h0 x0) (bodyRun.sl.r_1 (F := Ideal) c i M0 h0 x0); omega
  rw [afterd_1, afterc_1, afterb_1, start_1, Online.steps_add, e]

end Body

end Cert.Proof.Attn

end
-- ==== Proof.Out.lean ====
/- What the body leaves in the output's buffer, at an index: the quotient of two lanes of what a head ends with. -/
module

public import proofs.«01_k».proof.Proof.Heads

@[expose] public section

set_option maxRecDepth 16384

noncomputable section

namespace Cert.Proof.Attn

open Cert.KernelIdeal Cert.KernelIdeal.Gen
open Idealize.ShloMosaic Idealize.ShloMosaic.TcCoe
open Cert.Proof.Online (Hd)

theorem inb20 (i : grid0.Coords) (v : BitVec 32) : ∀ a, k0_off20 i v a + S1x128x1024.size a ≤ S2x128x16384.size a :=
  values_inb 0 _ (off20 i v) (by omega) (by have := lo_le i v; have := q_lt i; omega)
theorem inb21 (i : grid0.Coords) (v : BitVec 32) : ∀ a, k0_off21 i v a + S1x128x1024.size a ≤ S2x128x16384.size a :=
  values_inb 1 _ (off21 i v) (by omega) (by have := lo_le i v; have := q_lt i; omega)

section Body
variable (c : Dev nD) (i : grid0.Coords)
    (M0 : Memref sig .tc .smem S256 .i32) (h0 : M0.IsWhole)
    (M1 : Memref sig .tc .vmem S2x1024x128 .bf16) (h1 : M1.IsWhole)
    (M2 : Memref sig .tc .vmem S2x16384x128 .bf16) (h2 : M2.IsWhole)
    (M3 : Memref sig .tc .vmem S2x128x16384 .bf16) (h3 : M3.IsWhole)
    (M4 : Memref sig .tc .vmem S1024x128 .f32) (h4 : M4.IsWhole)
    (x0 : Vec Ideal S256 .i32) (x1 : Vec Ideal S2x1024x128 .bf16) (x2 : Vec Ideal S2x16384x128 .bf16) (x3 : Vec Ideal S2x128x16384 .bf16)
    (hchk : ∀ v w : BitVec 32, k0_chk1 i v w)

theorem v141_eq : (bodyRun.sl.v141 (F := Ideal) c i M0 h0 M1 h1 M2 h2 M3 h3 M4 h4 x0 x1 x2 x3 hchk) = k0_pay108 (k0_pay105 (bodyRun.sl.v123 (F := Ideal) c i M0 h0 M1 h1 M2 h2 M3 h3 M4 h4 x0 x1 x2 x3 hchk)) (k0_pay106 (bodyRun.sl.v125 (F := Ideal) c i M0 h0 M1 h1 M2 h2 M3 h3 M4 h4 x0 x1 x2 x3 hchk)) (k0_pay107 (bodyRun.sl.v130 (F := Ideal) c i M0 h0 M1 h1 M2 h2 M3 h3 M4 h4 x0 x1 x2 x3 hchk)) (View.readAt (Elt Ideal) M3.view (Rect.unit (s := S2x128x16384) (k0_off20 i (bodyRun.sl.r (F := Ideal) c i M0 h0 x0)) S1x128x1024.size (inb20 i (bodyRun.sl.r (F := Ideal) c i M0 h0 x0))).toLoadRect (h3.unread x3)) := by
  delta k0_pay108 k0_pay105 k0_pay106 k0_pay107 bodyRun.sl.v141 bodyRun.sl.v138 bodyRun.sl.v133 bodyRun.sl.v137 bodyRun.sl.v132 bodyRun.sl.v136 bodyRun.sl.v131 bodyRun.sl.cst_83
  with_reducible exact id (Eq.refl _)

theorem v163_eq : (bodyRun.sl.v163 (F := Ideal) c i M0 h0 M1 h1 M2 h2 M3 h3 M4 h4 x0 x1 x2 x3 hchk) = k0_pay110 (bodyRun.sl.v148 (F := Ideal) c i M0 h0 M1 h1 M2 h2 M3 h3 M4 h4 x0 x1 x2 x3 hchk) (bodyRun.sl.v150 (F := Ideal) c i M0 h0 M1 h1 M2 h2 M3 h3 M4 h4 x0 x1 x2 x3 hchk) (bodyRun.sl.v155 (F := Ideal) c i M0 h0 M1 h1 M2 h2 M3 h3 M4 h4 x0 x1 x2 x3 hchk) (View.readAt (Elt Ideal) M3.view (Rect.unit (s := S2x128x16384) (k0_off21 i (bodyRun.sl.r_1 (F := Ideal) c i M0 h0 x0)) S1x128x1024.size (inb21 i (bodyRun.sl.r_1 (F := Ideal) c i M0 h0 x0))).toLoadRect (h3.unread x3)) := by
  delta k0_pay110 bodyRun.sl.v163 bodyRun.sl.v158 bodyRun.sl.v162 bodyRun.sl.v157 bodyRun.sl.v161 bodyRun.sl.v156 bodyRun.sl.v154 bodyRun.sl.v151 bodyRun.sl.v149 bodyRun.sl.cst_83
  with_reducible exact id (Eq.refl _)

set_option maxHeartbeats 1000000 in
/-- What head 0 ends with. -/
theorem out_0 (d : Fin 128) (t : Fin 1024) : ((bodyRun.sl.v142 (F := Ideal) c i M0 h0 M1 h1 M2 h2 M3 h3 M4 h4 x0 x1 x2 x3 hchk) : Vec Ideal S1x128x1024 .f32) (ix3 (0 : Fin 1) d t)
    = Hd.out (vals x3 0 (lo i (bodyRun.sl.r (F := Ideal) c i M0 h0 x0))) (hd 0 (View.read (Elt Ideal) (Memref.whole cc0_scratch0).view (d0 c i M0 h0 M1 h1 M2 h2 M3 h3 M4 h4 x0 x1 x2 x3 hchk)) (View.read (Elt Ideal) (Memref.whole cc0_scratch1).view (d1 c i M0 h0 M1 h1 M2 h2 M3 h3 M4 h4 x0 x1 x2 x3 hchk)) (View.read (Elt Ideal) (Memref.whole cc0_scratch2).view (d2 c i M0 h0 M1 h1 M2 h2 M3 h3 M4 h4 x0 x1 x2 x3 hchk)) (View.read (Elt Ideal) (Memref.whole cc0_scratch3).view (d3 c i M0 h0 M1 h1 M2 h2 M3 h3 M4 h4 x0 x1 x2 x3 hchk))) d t := by
  have hq := q_lt i
  have hl := lo_le i (bodyRun.sl.r (F := Ideal) c i M0 h0 x0)
  have e1 : ((bodyRun.sl.v142 (F := Ideal) c i M0 h0 M1 h1 M2 h2 M3 h3 M4 h4 x0 x1 x2 x3 hchk) : Vec Ideal S1x128x1024 .f32) (ix3 (0 : Fin 1) d t) = ((bodyRun.sl.v141 (F := Ideal) c i M0 h0 M1 h1 M2 h2 M3 h3 M4 h4 x0 x1 x2 x3 hchk) : Vec Ideal S1x128x1024 .f32) (ix3 (0 : Fin 1) d t) := by
    delta bodyRun.sl.v142 View.readCov bodyRun.sl.S3_1_1
    exact acc_first (Memref.whole cc0_scratch3).view _ _ d t _
  have ea : ((bodyRun.sl.v125 (F := Ideal) c i M0 h0 M1 h1 M2 h2 M3 h3 M4 h4 x0 x1 x2 x3 hchk) : Vec Ideal S1x8x1024 .f32) (ix3 (0 : Fin 1) (0 : Fin 8) t) = (View.read (Elt Ideal) (Memref.whole cc0_scratch1).view (d1 c i M0 h0 M1 h1 M2 h2 M3 h3 M4 h4 x0 x1 x2 x3 hchk) : Vec Ideal S2x8x1024 .f32) (ix3 0 (0 : Fin 8) t) := by
    rw [v125_eq]; exact read_at (Memref.whole cc0_scratch1).view _ _ _ _ _ 0 (0 : Fin 8) t rfl rfl (Nat.zero_add _).symm (Nat.zero_add _).symm
  have ep : ∀ x, ((bodyRun.sl.v123 (F := Ideal) c i M0 h0 M1 h1 M2 h2 M3 h3 M4 h4 x0 x1 x2 x3 hchk) : Vec Ideal S1x1024x1024 .bf16) (ix3 (0 : Fin 1) x t) = (View.read (Elt Ideal) (Memref.whole cc0_scratch0).view (d0 c i M0 h0 M1 h1 M2 h2 M3 h3 M4 h4 x0 x1 x2 x3 hchk) : Vec Ideal S2x1024x1024 .bf16) (ix3 0 x t) := by
    intro x; rw [v123_eq]; exact read_at (Memref.whole cc0_scratch0).view _ _ _ _ _ 0 x t rfl rfl (Nat.zero_add _).symm (Nat.zero_add _).symm
  have ec : ((bodyRun.sl.v130 (F := Ideal) c i M0 h0 M1 h1 M2 h2 M3 h3 M4 h4 x0 x1 x2 x3 hchk) : Vec Ideal S1x128x1024 .f32) (ix3 (0 : Fin 1) d t) = (View.read (Elt Ideal) (Memref.whole cc0_scratch3).view (d3 c i M0 h0 M1 h1 M2 h2 M3 h3 M4 h4 x0 x1 x2 x3 hchk) : Vec Ideal S2x128x1024 .f32) (ix3 0 d t) := by
    rw [v130_eq]; exact read_at (Memref.whole cc0_scratch3).view _ _ _ _ _ 0 d t rfl rfl (Nat.zero_add _).symm (Nat.zero_add _).symm
  have ev : ∀ x, ((View.readAt (Elt Ideal) M3.view (Rect.unit (s := S2x128x16384) (k0_off20 i (bodyRun.sl.r (F := Ideal) c i M0 h0 x0)) S1x128x1024.size (inb20 i (bodyRun.sl.r (F := Ideal) c i M0 h0 x0))).toLoadRect (h3.unread x3)) : Vec Ideal S1x128x1024 .bf16) (ix3 (0 : Fin 1) d x) = vals x3 0 (lo i (bodyRun.sl.r (F := Ideal) c i M0 h0 x0)) d x := by
    intro x
    exact (read_at _ _ _ _ _ _ 0 d (keyAt _ x) (off20 i (bodyRun.sl.r (F := Ideal) c i M0 h0 x0)) rfl (Nat.zero_add _).symm (keyAt_val (by omega) x)).trans (by rw [h3.read_unread]; rfl)
  rw [e1, v141_eq, pay108_at, ea, ec]
  unfold Hd.out
  refine congrArg₂ (· + ·) rfl (Finset.sum_congr rfl fun x _ => ?_)
  rw [ev, ep]
  rfl

theorem v155_eq : bodyRun.sl.v155 (F := Ideal) c i M0 h0 M1 h1 M2 h2 M3 h3 M4 h4 x0 x1 x2 x3 hchk = View.readAt (Elt Ideal) (Memref.whole cc0_scratch3).view (Rect.unit (s := S2x128x1024) ![1, 0, 0] S1x128x1024.size inb_S2x128x1024_S1x128x1024_1_0_0).toLoadRect
    ((Memref.whole cc0_scratch3).view.writes (Elt Ideal) (Memref.whole cc0_scratch3).view.junk (⟨(Rect.unit (s := S2x128x1024) ![0, 0, 0] S1x128x1024.size inb_S2x128x1024_S1x128x1024_0_0_0), bodyRun.sl.v141 (F := Ideal) c i M0 h0 M1 h1 M2 h2 M3 h3 M4 h4 x0 x1 x2 x3 hchk⟩
      :: ((p5 c i M0 h0 M1 h1 M2 h2 M3 h3 M4 h4 x0 x1 x2 x3 hchk).2.2.2 ++ ((p3 c i M0 h0 M1 h1 M2 h2 M3 h3 M4 h4 x0 x1 x2 x3 hchk).2.2.2 ++ ((p1 c i M0 h0 M1 h1 M2 h2 M3 h3 M4 h4 x0 x1 x2 x3 hchk).2.2.2 ++ (bodyRun.sl.S3_1)))))) := by
  delta bodyRun.sl.v155 View.readCov bodyRun.sl.S3_1_1 p5 c0 c1 c2 c3 p3 b0 b1 b2 b3 p1 a0 a1 a2 a3 word0 word1
  with_reducible exact id (Eq.refl _)

set_option maxHeartbeats 1000000 in
/-- What head 1 ends with. -/
theorem out_1 (d : Fin 128) (t : Fin 1024) : ((bodyRun.sl.v167 (F := Ideal) c i M0 h0 M1 h1 M2 h2 M3 h3 M4 h4 x0 x1 x2 x3 hchk) : Vec Ideal S1x128x1024 .f32) (ix3 (0 : Fin 1) d t)
    = Hd.out (vals x3 1 (lo i (bodyRun.sl.r_1 (F := Ideal) c i M0 h0 x0))) (hd 1 (View.read (Elt Ideal) (Memref.whole cc0_scratch0).view (d0 c i M0 h0 M1 h1 M2 h2 M3 h3 M4 h4 x0 x1 x2 x3 hchk)) (View.read (Elt Ideal) (Memref.whole cc0_scratch1).view (d1 c i M0 h0 M1 h1 M2 h2 M3 h3 M4 h4 x0 x1 x2 x3 hchk)) (View.read (Elt Ideal) (Memref.whole cc0_scratch2).view (d2 c i M0 h0 M1 h1 M2 h2 M3 h3 M4 h4 x0 x1 x2 x3 hchk)) (View.read (Elt Ideal) (Memref.whole cc0_scratch3).view (d3 c i M0 h0 M1 h1 M2 h2 M3 h3 M4 h4 x0 x1 x2 x3 hchk))) d t := by
  have hq := q_lt i
  have hl := lo_le i (bodyRun.sl.r_1 (F := Ideal) c i M0 h0 x0)
  have e1 : ((bodyRun.sl.v167 (F := Ideal) c i M0 h0 M1 h1 M2 h2 M3 h3 M4 h4 x0 x1 x2 x3 hchk) : Vec Ideal S1x128x1024 .f32) (ix3 (0 : Fin 1) d t) = (k0_pay1 (bodyRun.sl.v163 (F := Ideal) c i M0 h0 M1 h1 M2 h2 M3 h3 M4 h4 x0 x1 x2 x3 hchk) : Vec Ideal S1x128x1024 .f32) (ix3 (0 : Fin 1) d t) := by
    delta bodyRun.sl.v167 View.readCov bodyRun.sl.S3_2
    exact acc_second (Memref.whole cc0_scratch3).view _ _ d t _
  have ea : ((bodyRun.sl.v150 (F := Ideal) c i M0 h0 M1 h1 M2 h2 M3 h3 M4 h4 x0 x1 x2 x3 hchk) : Vec Ideal S1x8x1024 .f32) (ix3 (0 : Fin 1) (0 : Fin 8) t) = (View.read (Elt Ideal) (Memref.whole cc0_scratch1).view (d1 c i M0 h0 M1 h1 M2 h2 M3 h3 M4 h4 x0 x1 x2 x3 hchk) : Vec Ideal S2x8x1024 .f32) (ix3 1 (0 : Fin 8) t) := by
    rw [v150_eq]; exact read_at (Memref.whole cc0_scratch1).view _ _ _ _ _ 1 (0 : Fin 8) t rfl rfl (Nat.zero_add _).symm (Nat.zero_add _).symm
  have ep : ∀ x, ((bodyRun.sl.v148 (F := Ideal) c i M0 h0 M1 h1 M2 h2 M3 h3 M4 h4 x0 x1 x2 x3 hchk) : Vec Ideal S1x1024x1024 .bf16) (ix3 (0 : Fin 1) x t) = (View.read (Elt Ideal) (Memref.whole cc0_scratch0).view (d0 c i M0 h0 M1 h1 M2 h2 M3 h3 M4 h4 x0 x1 x2 x3 hchk) : Vec Ideal S2x1024x1024 .bf16) (ix3 1 x t) := by
    intro x; rw [v148_eq]; exact read_at (Memref.whole cc0_scratch0).view _ _ _ _ _ 1 x t rfl rfl (Nat.zero_add _).symm (Nat.zero_add _).symm
  have ec : ((bodyRun.sl.v155 (F := Ideal) c i M0 h0 M1 h1 M2 h2 M3 h3 M4 h4 x0 x1 x2 x3 hchk) : Vec Ideal S1x128x1024 .f32) (ix3 (0 : Fin 1) d t) = (View.read (Elt Ideal) (Memref.whole cc0_scratch3).view (d3 c i M0 h0 M1 h1 M2 h2 M3 h3 M4 h4 x0 x1 x2 x3 hchk) : Vec Ideal S2x128x1024 .f32) (ix3 1 d t) := by
    rw [v155_eq]; delta d3
    exact acc_below (Memref.whole cc0_scratch3).view _ _ d t _
  have ev : ∀ x, ((View.readAt (Elt Ideal) M3.view (Rect.unit (s := S2x128x16384) (k0_off21 i (bodyRun.sl.r_1 (F := Ideal) c i M0 h0 x0)) S1x128x1024.size (inb21 i (bodyRun.sl.r_1 (F := Ideal) c i M0 h0 x0))).toLoadRect (h3.unread x3)) : Vec Ideal S1x128x1024 .bf16) (ix3 (0 : Fin 1) d x) = vals x3 1 (lo i (bodyRun.sl.r_1 (F := Ideal) c i M0 h0 x0)) d x := by
    intro x
    exact (read_at _ _ _ _ _ _ 1 d (keyAt _ x) (off21 i (bodyRun.sl.r_1 (F := Ideal) c i M0 h0 x0)) rfl (Nat.zero_add _).symm (keyAt_val (by omega) x)).trans (by rw [h3.read_unread]; rfl)
  rw [e1, v163_eq, pay110_at, ea, ec]
  unfold Hd.out
  refine congrArg₂ (· + ·) rfl (Finset.sum_congr rfl fun x _ => ?_)
  rw [ev, ep]
  rfl

/-- A head at the end of its run: from query block `q` down to key block `j`. -/
def finish (h : Fin 2) (q j : ℕ) : Hd := Online.steps (scores x1 x2 h) (vals x3 h) q (Hd.start (masked (scores x1 x2 h q))) (q - j)

/-- What the body leaves at row `t` and lane `d` of its block. -/
theorem store_at (t : Fin 1024) (d : Fin 128) :
    (View.read (Elt Ideal) M4.view (M4.view.writes (Elt Ideal) M4.view.junk (bodyRun.sl.H4_1 (F := Ideal) c i M0 h0 M1 h1 M2 h2 M3 h3 M4 h4 x0 x1 x2 x3 hchk)) : Vec Ideal S1024x128 .f32) (ix2 t d)
    = if d.val < 64 then
        Ideal.div (Hd.out (vals x3 0 (lo i (bodyRun.sl.r (F := Ideal) c i M0 h0 x0))) (finish x1 x2 x3 0 (i 1).val (lo i (bodyRun.sl.r (F := Ideal) c i M0 h0 x0))) (lane d) t) (Hd.out (vals x3 0 (lo i (bodyRun.sl.r (F := Ideal) c i M0 h0 x0))) (finish x1 x2 x3 0 (i 1).val (lo i (bodyRun.sl.r (F := Ideal) c i M0 h0 x0))) 64 t)
      else Ideal.div (Hd.out (vals x3 1 (lo i (bodyRun.sl.r_1 (F := Ideal) c i M0 h0 x0))) (finish x1 x2 x3 1 (i 1).val (lo i (bodyRun.sl.r_1 (F := Ideal) c i M0 h0 x0))) (lane d) t) (Hd.out (vals x3 1 (lo i (bodyRun.sl.r_1 (F := Ideal) c i M0 h0 x0))) (finish x1 x2 x3 1 (i 1).val (lo i (bodyRun.sl.r_1 (F := Ideal) c i M0 h0 x0))) 64 t) := by
  have e : (View.read (Elt Ideal) M4.view (M4.view.writes (Elt Ideal) M4.view.junk (bodyRun.sl.H4_1 (F := Ideal) c i M0 h0 M1 h1 M2 h2 M3 h3 M4 h4 x0 x1 x2 x3 hchk)) : Vec Ideal S1024x128 .f32) (ix2 t d)
      = k0_pay2 bodyRun.sl.v13 (bodyRun.sl.v147 (F := Ideal) c i M0 h0 M1 h1 M2 h2 M3 h3 M4 h4 x0 x1 x2 x3 hchk) (bodyRun.sl.v167 (F := Ideal) c i M0 h0 M1 h1 M2 h2 M3 h3 M4 h4 x0 x1 x2 x3 hchk) (ix2 t d) := by
    delta bodyRun.sl.H4_1
    exact View.read_writes_cons_unit_of_mem M4.view _ _ _ _ _ _ rfl fun a => by
      match a with
      | 0 => exact (Nat.zero_add _).symm
      | 1 => exact (Nat.zero_add _).symm
  have e13 : bodyRun.sl.v13 = iota Kind.tc S1024x128 32 [1] iota_S1024x128_d1_w32 := rfl
  have e147 : (bodyRun.sl.v147 (F := Ideal) c i M0 h0 M1 h1 M2 h2 M3 h3 M4 h4 x0 x1 x2 x3 hchk) = k0_pay109 (bodyRun.sl.v142 (F := Ideal) c i M0 h0 M1 h1 M2 h2 M3 h3 M4 h4 x0 x1 x2 x3 hchk) := by
    delta k0_pay109 bodyRun.sl.v147 bodyRun.sl.v146 bodyRun.sl.v143 bodyRun.sl.v145
    with_reducible exact id (Eq.refl _)
  have L0 := out_0 c i M0 h0 M1 h1 M2 h2 M3 h3 M4 h4 x0 x1 x2 x3 hchk
  have L1 := out_1 c i M0 h0 M1 h1 M2 h2 M3 h3 M4 h4 x0 x1 x2 x3 hchk
  rw [head_0] at L0
  rw [head_1] at L1
  rw [e, e13, e147, pay2_at, L0, L0, L1, L1]
  rfl

end Body

end Cert.Proof.Attn

end
-- ==== Proof.Host.lean ====
/- What the kernel's pipeline finds in its input arrays: the queries, keys and values with their extra lanes, as
   the host program makes them out of the arguments. -/
module

public import proofs.«01_k».proof.Proof.Run
public import Idealize.ShloMosaic.Lib.Pipeline.ValueKit
public import Idealize.ShloMosaic.Lib.Pointwise
public import Idealize.ShloMosaic.Lib.StableHlo.ReadAt
public import Mathlib.Analysis.SpecialFunctions.Log.Basic

@[expose] public section

set_option maxRecDepth 16384

noncomputable section

namespace Cert.Proof.Attn

open Cert.KernelIdeal Cert.KernelIdeal.Gen
open Idealize.ShloMosaic Idealize.ShloMosaic.TcCoe Idealize.ShloMosaic.Tactic

/-- Eight pieces laid end to end: 64 lanes, six single ones, 58 lanes. -/
def cat (a : Vec Ideal S8x16384x64 .f32) (b0 b1 b2 b3 b4 b5 : Vec Ideal S8x16384x1 .f32) (z : Vec Ideal S8x16384x58 .f32) : Vec Ideal S8x16384x128 .f32 :=
  concatenate S8x16384x128 2 [⟨S8x16384x64, a⟩, ⟨S8x16384x1, b0⟩, ⟨S8x16384x1, b1⟩, ⟨S8x16384x1, b2⟩, ⟨S8x16384x1, b3⟩, ⟨S8x16384x1, b4⟩, ⟨S8x16384x1, b5⟩, ⟨S8x16384x58, z⟩]
    concatenates_S8x16384x64_S8x16384x1_S8x16384x1_S8x16384x1_S8x16384x1_S8x16384x1_S8x16384x1_S8x16384x58_S8x16384x128_d2

section
variable (a : Vec Ideal S8x16384x64 .f32) (b0 b1 b2 b3 b4 b5 : Vec Ideal S8x16384x1 .f32) (z : Vec Ideal S8x16384x58 .f32)
  (h : Fin 8) (T : Fin 16384)

theorem cat_lo (l : Fin 64) : cat a b0 b1 b2 b3 b4 b5 z (ix3 h T ⟨l, by omega⟩) = a (ix3 h T l) := by
  have hl := l.isLt
  pointwise [cat]

theorem cat_mid (j : Fin 6) : cat a b0 b1 b2 b3 b4 b5 z (ix3 h T ⟨64 + j, by omega⟩) = ![b0, b1, b2, b3, b4, b5] j (ix3 h T (0 : Fin 1)) := by
  fin_cases j <;> (pointwise [cat]; try rfl)

theorem cat_hi (j : Fin 58) : cat a b0 b1 b2 b3 b4 b5 z (ix3 h T ⟨70 + j, by omega⟩) = z (ix3 h T j) := by
  pointwise [cat]
  rw [dif_neg (by omega), dif_neg (by omega), dif_neg (by omega), dif_neg (by omega), dif_neg (by omega), dif_neg (by omega), dif_neg (by omega)]
  exact congrArg (fun k => z (ix3 h T k)) (Fin.ext (by show 70 + j.val - 64 - 1 - 1 - 1 - 1 - 1 - 1 = j.val; omega))

end

/-- Three pieces laid end to end: 64 lanes, a single one, 63 lanes. -/
def cat3 (a : Vec Ideal S8x16384x64 .f32) (b : Vec Ideal S8x16384x1 .f32) (z : Vec Ideal S8x16384x63 .f32) : Vec Ideal S8x16384x128 .f32 :=
  concatenate S8x16384x128 2 [⟨S8x16384x64, a⟩, ⟨S8x16384x1, b⟩, ⟨S8x16384x63, z⟩] concatenates_S8x16384x64_S8x16384x1_S8x16384x63_S8x16384x128_d2

/-- A sum over the lanes, in three pieces. -/
theorem sum_lanes (f : Fin 128 → EReal) : ∑ l, f l = ∑ l : Fin 64, f ⟨l, by omega⟩ + (∑ j : Fin 6, f ⟨64 + j, by omega⟩ + ∑ j : Fin 58, f ⟨70 + j, by omega⟩) := by
  rw [show ∑ l, f l = ∑ l : Fin (64 + (6 + 58)), f l from rfl, Fin.sum_univ_add, Fin.sum_univ_add]
  congr 2

variable (m : (ℓ : Loc nD τ sig) → Buf (Elt Ideal) ℓ) (c : Dev nD)

/-- The queries with their extra lanes. -/
def QA : Vec Ideal S8x16384x128 .bf16 := V m c main_v27
/-- The keys with their extra lanes. -/
def KA : Vec Ideal S8x16384x128 .bf16 := V m c main_v35
/-- The values with their extra lanes. -/
def VA : Vec Ideal S8x128x16384 .bf16 := V m c main_v41

/-- The scaled queries. -/
def Qs : Vec Ideal S8x16384x64 .f32 := V m c main_v6
def Ks : Vec Ideal S8x16384x64 .f32 := V m c main_v29
def Vs : Vec Ideal S8x16384x64 .f32 := V m c main_v37
/-- The three parts of the decay in units of log 2. -/
def Chi : Vec Ideal S8x16384x1 .f32 := V m c main_v19
def Cmid : Vec Ideal S8x16384x1 .f32 := V m c main_v21
def Clo : Vec Ideal S8x16384x1 .f32 := V m c main_v23
def NChi : Vec Ideal S8x16384x1 .f32 := V m c main_v30
def NCmid : Vec Ideal S8x16384x1 .f32 := V m c main_v31
def NClo : Vec Ideal S8x16384x1 .f32 := V m c main_v32
def One : Vec Ideal S8x16384x1 .f32 := V m c main_v24
def Zq : Vec Ideal S8x16384x58 .f32 := V m c main_v25
def Zk : Vec Ideal S8x16384x58 .f32 := V m c main_v33
def Zv : Vec Ideal S8x16384x63 .f32 := V m c main_v38

theorem cat_congr {a a' : Vec Ideal S8x16384x64 .f32} {b0 b1 b2 b3 b4 b5 c0 c1 c2 c3 c4 c5 : Vec Ideal S8x16384x1 .f32} {z z' : Vec Ideal S8x16384x58 .f32}
    (ha : a = a') (h0 : b0 = c0) (h1 : b1 = c1) (h2 : b2 = c2) (h3 : b3 = c3) (h4 : b4 = c4) (h5 : b5 = c5) (hz : z = z') :
    cat a b0 b1 b2 b3 b4 b5 z = cat a' c0 c1 c2 c3 c4 c5 z' := by
  subst ha h0 h1 h2 h3 h4 h5 hz; rfl
theorem cat3_congr {a a' : Vec Ideal S8x16384x64 .f32} {b b' : Vec Ideal S8x16384x1 .f32} {z z' : Vec Ideal S8x16384x63 .f32}
    (ha : a = a') (hb : b = b') (hz : z = z') : cat3 a b z = cat3 a' b' z' := by
  subst ha hb hz; rfl

set_option maxHeartbeats 2000000 in
theorem QA_eq : QA m c = cat (Qs m c) (Chi m c) (Cmid m c) (Clo m c) (One m c) (One m c) (One m c) (Zq m c) := by
  unfold QA V
  after_reads_simp
  dsimp only [Matrix.cons_val]
  refine cat_congr (a := (StableHlo.upto hostOps0 (fun b => m (c, b)) 31 (Proc.devRef .tc main_v6))) (b0 := (StableHlo.upto hostOps0 (fun b => m (c, b)) 31 (Proc.devRef .tc main_v19))) (b1 := (StableHlo.upto hostOps0 (fun b => m (c, b)) 31 (Proc.devRef .tc main_v21))) (b2 := (StableHlo.upto hostOps0 (fun b => m (c, b)) 31 (Proc.devRef .tc main_v23))) (b3 := (StableHlo.upto hostOps0 (fun b => m (c, b)) 31 (Proc.devRef .tc main_v24))) (b4 := (StableHlo.upto hostOps0 (fun b => m (c, b)) 31 (Proc.devRef .tc main_v24))) (b5 := (StableHlo.upto hostOps0 (fun b => m (c, b)) 31 (Proc.devRef .tc main_v24))) (z := (StableHlo.upto hostOps0 (fun b => m (c, b)) 31 (Proc.devRef .tc main_v25))) ?_ ?_ ?_ ?_ ?_ ?_ ?_ ?_
  all_goals
    first | unfold Qs V | unfold Chi V | unfold Cmid V | unfold Clo V | unfold One V | unfold Zq V
    after_reads_simp

set_option maxHeartbeats 2000000 in
theorem KA_eq : KA m c = cat (Ks m c) (One m c) (One m c) (One m c) (NChi m c) (NCmid m c) (NClo m c) (Zk m c) := by
  unfold KA V
  after_reads_simp
  dsimp only [Matrix.cons_val]
  refine cat_congr (a := (StableHlo.upto hostOps0 (fun b => m (c, b)) 40 (Proc.devRef .tc main_v29))) (b0 := (StableHlo.upto hostOps0 (fun b => m (c, b)) 40 (Proc.devRef .tc main_v24))) (b1 := (StableHlo.upto hostOps0 (fun b => m (c, b)) 40 (Proc.devRef .tc main_v24))) (b2 := (StableHlo.upto hostOps0 (fun b => m (c, b)) 40 (Proc.devRef .tc main_v24))) (b3 := (StableHlo.upto hostOps0 (fun b => m (c, b)) 40 (Proc.devRef .tc main_v30))) (b4 := (StableHlo.upto hostOps0 (fun b => m (c, b)) 40 (Proc.devRef .tc main_v31))) (b5 := (StableHlo.upto hostOps0 (fun b => m (c, b)) 40 (Proc.devRef .tc main_v32))) (z := (StableHlo.upto hostOps0 (fun b => m (c, b)) 40 (Proc.devRef .tc main_v33))) ?_ ?_ ?_ ?_ ?_ ?_ ?_ ?_
  all_goals
    first | unfold Ks V | unfold NChi V | unfold NCmid V | unfold NClo V | unfold One V | unfold Zk V
    after_reads_simp

set_option maxHeartbeats 2000000 in
theorem VA_eq : VA m c = transpose S8x128x16384 [0, 2, 1] (cat3 (Vs m c) (One m c) (Zv m c)) transposes_S8x16384x128_S8x128x16384_0_2_1 := by
  unfold VA V
  after_reads_simp
  dsimp only [Matrix.cons_val]
  refine congrArg (transpose S8x128x16384 [0, 2, 1] · transposes_S8x16384x128_S8x128x16384_0_2_1) (cat3_congr (a := (StableHlo.upto hostOps0 (fun b => m (c, b)) 46 (Proc.devRef .tc main_v37))) (b := (StableHlo.upto hostOps0 (fun b => m (c, b)) 46 (Proc.devRef .tc main_v24))) (z := (StableHlo.upto hostOps0 (fun b => m (c, b)) 46 (Proc.devRef .tc main_v38))) ?_ ?_ ?_)
  all_goals
    first | unfold Vs V | unfold One V | unfold Zv V
    after_reads_simp

/-- The real number 1 / log 2. -/
def lb : ℝ := 1 / Real.log 2

theorem two_eq : Ideal.ofBits FTy.f32 1073741824#32 = ((2 : ℝ) : EReal) := by
  simp [Ideal.ofBits, Ideal.ieee, -EReal.coe_mul]; norm_num
theorem eighth_eq : Ideal.ofBits FTy.f32 1040187392#32 = ((1 / 8 : ℝ) : EReal) := by
  simp [Ideal.ofBits, Ideal.ieee, -EReal.coe_mul]; norm_num
theorem lb_eq : Ideal.div 1 (Ideal.log (Ideal.ofBits FTy.f32 1073741824#32)) = ((lb : ℝ) : EReal) := by
  rw [two_eq, Ideal.log_coe, if_neg (by norm_num), Ideal.div_coe (Real.log_pos (by norm_num)).ne', one_mul]; rfl

section
variable {m c} {q k : Fin 16384 → Fin 8 → Fin 64 → ℝ} {v : Fin 16384 → Fin 8 → Fin 64 → EReal} {u : Fin 16384 → Fin 8 → ℝ}
  (hq : ∀ T h l, (m (c, Proc.tc.devRef main_arg1) : Vec Ideal S1x16384x8x64 .f32) (ix4 (0 : Fin 1) T h l) = ((q T h l : ℝ) : EReal))
  (hk : ∀ T h l, (m (c, Proc.tc.devRef main_arg2) : Vec Ideal S1x16384x8x64 .f32) (ix4 (0 : Fin 1) T h l) = ((k T h l : ℝ) : EReal))
  (hv : ∀ T h l, (m (c, Proc.tc.devRef main_arg3) : Vec Ideal S1x16384x8x64 .f32) (ix4 (0 : Fin 1) T h l) = v T h l)
  (hu : ∀ T h, (m (c, Proc.tc.devRef main_arg4) : Vec Ideal S1x16384x8 .f32) (ix3 (0 : Fin 1) T h) = ((u T h : ℝ) : EReal))

include hq in
theorem Qs_at (h : Fin 8) (T : Fin 16384) (l : Fin 64) : Qs m c (ix3 h T l) = ((q T h l * (1 / 8 * lb) : ℝ) : EReal) := by
  unfold Qs V
  after_reads_at
  rw [lb_eq, eighth_eq, ← EReal.coe_mul, EReal.coe_mul (q T h l), ← hq]
include hk in
theorem Ks_at (h : Fin 8) (T : Fin 16384) (l : Fin 64) : Ks m c (ix3 h T l) = ((k T h l : ℝ) : EReal) := by
  unfold Ks V
  after_reads_at
  exact hk T h l
include hv in
theorem Vs_at (h : Fin 8) (T : Fin 16384) (l : Fin 64) : Vs m c (ix3 h T l) = v T h l := by
  unfold Vs V
  after_reads_at
  exact hv T h l
theorem One_at (h : Fin 8) (T : Fin 16384) : One m c (ix3 h T (0 : Fin 1)) = ((1 : ℝ) : EReal) := by
  unfold One V
  after_reads_at
  rfl
theorem Zq_at (h : Fin 8) (T : Fin 16384) (l : Fin 58) : Zq m c (ix3 h T l) = 0 := by
  unfold Zq V
  after_reads_at
theorem Zv_at (h : Fin 8) (T : Fin 16384) (l : Fin 63) : Zv m c (ix3 h T l) = 0 := by
  unfold Zv V
  after_reads_at

theorem dec (x : EReal) (r : ℝ) (hx : x = (r : EReal)) : x * Ideal.div 1 (Ideal.log (Ideal.ofBits FTy.f32 1073741824#32)) = ((r * lb : ℝ) : EReal) := by
  rw [lb_eq, hx, EReal.coe_mul]
include hu in
theorem Chi_at (h : Fin 8) (T : Fin 16384) : Chi m c (ix3 h T (0 : Fin 1)) = ((u T h * lb : ℝ) : EReal) := by
  unfold Chi V
  after_reads_at
  exact dec _ _ (hu T h)
include hu in
theorem Cmid_at (h : Fin 8) (T : Fin 16384) : Cmid m c (ix3 h T (0 : Fin 1)) = ((0 : ℝ) : EReal) := by
  unfold Cmid V
  after_reads_at
  rw [dec _ _ (hu T h), ← EReal.coe_sub, sub_self]
include hu in
theorem Clo_at (h : Fin 8) (T : Fin 16384) : Clo m c (ix3 h T (0 : Fin 1)) = ((0 : ℝ) : EReal) := by
  unfold Clo V
  after_reads_at
  rw [dec _ _ (hu T h), ← EReal.coe_sub, ← EReal.coe_sub, sub_self]
include hu in
theorem NChi_at (h : Fin 8) (T : Fin 16384) : NChi m c (ix3 h T (0 : Fin 1)) = ((-(u T h * lb) : ℝ) : EReal) := by
  unfold NChi V
  after_reads_at
  rw [dec _ _ (hu T h), ← EReal.coe_neg]
include hu in
theorem NCmid_at (h : Fin 8) (T : Fin 16384) : NCmid m c (ix3 h T (0 : Fin 1)) = ((0 : ℝ) : EReal) := by
  unfold NCmid V
  after_reads_at
  rw [dec _ _ (hu T h), ← EReal.coe_sub, sub_self, ← EReal.coe_neg, neg_zero]
include hu in
theorem NClo_at (h : Fin 8) (T : Fin 16384) : NClo m c (ix3 h T (0 : Fin 1)) = ((0 : ℝ) : EReal) := by
  unfold NClo V
  after_reads_at
  rw [dec _ _ (hu T h), ← EReal.coe_sub, ← EReal.coe_sub, ← EReal.coe_neg]
  norm_num

/-- The reference's score of query `T` against key `X`. -/
def score (q k : Fin 16384 → Fin 8 → Fin 64 → ℝ) (u : Fin 16384 → Fin 8 → ℝ) (h : Fin 8) (T X : Fin 16384) : ℝ :=
  (∑ l, q T h l * k X h l) * (1 / 8) + (u T h - u X h)

include hq hk hu in
/-- The product of an augmented key with an augmented query is the score in units of log 2. -/
theorem scores_at (h : Fin 8) (T X : Fin 16384) : ∑ l, KA m c (ix3 h X l) * QA m c (ix3 h T l) = ((score q k u h T X * lb : ℝ) : EReal) := by
  rw [sum_lanes, KA_eq, QA_eq]
  simp only [cat_lo, cat_mid, cat_hi, Zq_at, mul_zero, Finset.sum_const_zero, add_zero, Qs_at hq, Ks_at hk, Fin.sum_univ_six,
    Matrix.cons_val, One_at, Chi_at hu, Cmid_at hu, Clo_at hu, NChi_at hu, NCmid_at hu, NClo_at hu, ← EReal.coe_mul, ← EReal.coe_add]
  rw [show ∑ l, ((k X h l * (q T h l * (1 / 8 * lb)) : ℝ) : EReal) = ((∑ l, k X h l * (q T h l * (1 / 8 * lb)) : ℝ) : EReal) from
    (map_sum (⟨⟨((↑) : ℝ → EReal), EReal.coe_zero⟩, EReal.coe_add⟩ : ℝ →+ EReal) _ _).symm, ← EReal.coe_add]
  congr 1
  rw [score, show ∑ l, k X h l * (q T h l * (1 / 8 * lb)) = (∑ l, q T h l * k X h l) * (1 / 8) * lb from by
    rw [Finset.sum_mul, Finset.sum_mul]; exact Finset.sum_congr rfl fun l _ => by ring]
  ring

/-- The lanes of an augmented value: the value, a 1, and zeros. -/
def lanes (x : Fin 64 → EReal) (d : Fin 128) : EReal := if h : d.val < 64 then x ⟨d, h⟩ else if d.val = 64 then 1 else 0

include hv in
theorem values_at (h : Fin 8) (X : Fin 16384) (d : Fin 128) : VA m c (ix3 h d X) = lanes (v X h) d := by
  rw [VA_eq]
  pointwise [cat3]
  unfold lanes
  split
  · exact Vs_at hv h X _
  · rename_i h1
    have hd := d.isLt
    by_cases h2 : d.val = 64
    · rw [if_pos h2, dif_pos (by omega)]
      exact (congrArg (fun k => One m c (ix3 h X k)) (Subsingleton.elim _ _)).trans (One_at h X)
    · rw [if_neg h2, dif_neg (by omega)]
      exact Zv_at h X _

end

end Cert.Proof.Attn

end
-- ==== Proof.Mean.lean ====
/- What a head ends with, on real scores and any values: the mean of the values, weighted by the exponentials of the
   scores, over the keys of the blocks visited and no key behind the query. -/
module

public import proofs.«01_k».proof.Proof.Out
public import proofs.«01_k».proof.Proof.Host

@[expose] public section

set_option maxRecDepth 16384

noncomputable section

namespace Cert.Proof.Attn

open Cert.KernelIdeal
open Idealize.ShloMosaic
open Cert.Proof.Online (Hd)

/-- A key's weight: the exponential of its score, zero for a key of the query's own block behind the query. -/
def wt (s : ℕ → Fin 1024 → Fin 1024 → ℝ) (q j : ℕ) (x t : Fin 1024) : ℝ := if j = q ∧ t < x then 0 else Real.exp (s j x t)

theorem two_pow (r : ℝ) : (2 : ℝ) ^ (r * lb) = Real.exp r := by
  rw [Real.rpow_def_of_pos (by norm_num), lb]
  congr 1
  have : Real.log 2 ≠ 0 := (Real.log_pos (by norm_num)).ne'
  field_simp

theorem wt_nonneg (s : ℕ → Fin 1024 → Fin 1024 → ℝ) (q j : ℕ) (x t : Fin 1024) : 0 ≤ wt s q j x t := by
  unfold wt; split
  · exact le_rfl
  · exact (Real.exp_pos _).le

/-- The lane of a column within its head. -/
def col (d : Fin 128) : Fin 64 := ⟨d.val % 64, Nat.mod_lt _ (by norm_num)⟩

theorem lanes_lane (x : Fin 64 → EReal) (d : Fin 128) : lanes x (lane d) = x (col d) := by
  unfold lanes
  rw [dif_pos (show (lane d).val < 64 from Nat.mod_lt _ (by norm_num))]
  rfl

theorem lanes_64 (x : Fin 64 → EReal) : lanes x 64 = 1 := rfl

variable (x1 : Vec Ideal S2x1024x128 .bf16) (x2 : Vec Ideal S2x16384x128 .bf16) (x3 : Vec Ideal S2x128x16384 .bf16)

theorem quotient (hh : Fin 2) (q j0 : ℕ) (hj : j0 ≤ q) (s : ℕ → Fin 1024 → Fin 1024 → ℝ) (v : ℕ → Fin 1024 → Fin 64 → EReal)
    (hs : ∀ j, j ≤ q → ∀ x t, scores x1 x2 hh j x t = ((s j x t * lb : ℝ) : EReal))
    (hv : ∀ j, j ≤ q → ∀ d x, vals x3 hh j d x = lanes (v j x) d) (d : Fin 128) (t : Fin 1024) :
    Ideal.div (Hd.out (vals x3 hh j0) (finish x1 x2 x3 hh q j0) (lane d) t) (Hd.out (vals x3 hh j0) (finish x1 x2 x3 hh q j0) 64 t)
    = (∑ j ∈ Finset.Icc j0 q, ∑ x, v j x (col d) * ((wt s q j x t : ℝ) : EReal)) * ((1 / ∑ j ∈ Finset.Icc j0 q, ∑ x, wt s q j x t : ℝ) : EReal) := by
  have w0 : Online.Weighs (masked (scores x1 x2 hh q)) (wt s q q) := fun x t => by
    unfold masked wt
    by_cases h : x ≤ t
    · refine .inr ⟨s q x t * lb, ?_, ?_⟩
      · rw [if_pos h, hs q le_rfl]
      · rw [if_neg (fun h' => absurd h'.2 (not_lt.2 h)), two_pow]
    · exact .inl ⟨by rw [if_neg h], by rw [if_pos ⟨rfl, not_le.1 h⟩]⟩
  have w1 : ∀ j, j < q → Online.Weighs (scores x1 x2 hh j) (wt s q j) := fun j hjq x t => by
    refine .inr ⟨s j x t * lb, hs j hjq.le x t, ?_⟩
    unfold wt
    rw [if_neg (fun h' => absurd h'.1 hjq.ne), two_pow]
  have hd : ∀ t, ∃ x, masked (scores x1 x2 hh q) x t ≠ ⊥ := fun t => ⟨t, by
    unfold masked; rw [if_pos le_rfl, hs q le_rfl]; exact EReal.coe_ne_bot _⟩
  have hV : ∀ j d x, j ≤ q → vals x3 hh j d x = ((fun j d x => lanes (v j x) d) : ℕ → Fin 128 → Fin 1024 → EReal) j d x :=
    fun j d x h => hv j h d x
  have I := Online.inv_steps (Online.inv_start w0 hd) w1 hV (q - j0) (Nat.sub_le _ _)
  rw [show q - (q - j0) = j0 by omega] at I
  have u64 : Online.upto (wt s q) (fun j d x => lanes (v j x) d) q j0 64 t = ((∑ j ∈ Finset.Icc j0 q, ∑ x, wt s q j x t : ℝ) : EReal) := by
    simp only [Online.upto, lanes_64, one_mul, Online.coe_sum]
  have pos : 0 < ∑ j ∈ Finset.Icc j0 q, ∑ x, wt s q j x t := by
    refine Finset.sum_pos' (fun j _ => Finset.sum_nonneg fun x _ => wt_nonneg s q j x t) ⟨q, Finset.mem_Icc.2 ⟨hj, le_rfl⟩, ?_⟩
    refine Finset.sum_pos' (fun x _ => wt_nonneg s q q x t) ⟨t, Finset.mem_univ _, ?_⟩
    unfold wt
    rw [if_neg (fun h' => absurd h'.2 (lt_irrefl _))]
    exact Real.exp_pos _
  refine (Online.mean hj I (fun d x => hV j0 d x hj) t (lane d) 64 u64 pos.ne').trans ?_
  simp only [Online.upto, lanes_lane]

/-- A sum over the keys, block by block. -/
theorem sum_keys {A : Type*} [AddCommMonoid A] (F : Fin 16384 → A) : ∑ X, F X = ∑ j ∈ Finset.range 16, ∑ x : Fin 1024, F (keyAt j x) := by
  rw [Finset.sum_range, ← Fintype.sum_prod_type' (f := fun (j : Fin 16) (x : Fin 1024) => F (keyAt j x))]
  refine (Fintype.sum_equiv (finProdFinEquiv (m := 16) (n := 1024)) _ _ fun p => congrArg F (Fin.ext ?_)).symm
  rw [keyAt_val p.1.isLt]
  show _ = p.2.val + 1024 * p.1.val
  omega

/-- The keys a query sees: none behind it, none before block `j0`. -/
def sees (T X : Fin 16384) (j0 : ℕ) : Prop := X.val ≤ T.val ∧ 1024 * j0 ≤ X.val

instance (T X : Fin 16384) (j0 : ℕ) : Decidable (sees T X j0) := inferInstanceAs (Decidable (_ ∧ _))

theorem sum_blocks {A : Type*} [AddCommMonoid A] (q j0 : ℕ) (hq : q < 16) (hj : j0 ≤ q) (t : Fin 1024) (e : Fin 16384 → A) :
    ∑ j ∈ Finset.Icc j0 q, ∑ x, (if j = q ∧ t < x then 0 else e (keyAt j x))
    = ∑ X, (if sees (keyAt q t) X j0 then e X else 0) := by
  rw [sum_keys]
  have tl := t.isLt
  refine (Finset.sum_subset_zero_on_sdiff (fun j hj => ?_) (fun j hj' => ?_) fun j hj' => ?_)
  · rw [Finset.mem_Icc] at hj; exact Finset.mem_range.2 (by omega)
  · rw [Finset.mem_sdiff, Finset.mem_range, Finset.mem_Icc] at hj'
    refine Finset.sum_eq_zero fun x _ => ?_
    have xl := x.isLt
    rw [if_neg]
    unfold sees
    rw [keyAt_val hq, keyAt_val hj'.1]
    omega
  · rw [Finset.mem_Icc] at hj'
    refine Finset.sum_congr rfl fun x _ => ?_
    have xl := x.isLt
    have : sees (keyAt q t) (keyAt j x) j0 ↔ ¬ (j = q ∧ t < x) := by
      unfold sees
      rw [keyAt_val hq, keyAt_val (by omega : j < 16), Fin.lt_def]
      omega
    by_cases h : j = q ∧ t < x
    · rw [if_pos h, if_neg (fun h' => this.1 h' h)]
    · rw [if_neg h, if_pos (this.2 h)]

/-- The same with values beside the weights. -/
theorem sum_valued (q j0 : ℕ) (hq : q < 16) (hj : j0 ≤ q) (t : Fin 1024) (e : Fin 16384 → ℝ) (f : Fin 16384 → EReal) :
    ∑ j ∈ Finset.Icc j0 q, ∑ x, f (keyAt j x) * ((if j = q ∧ t < x then 0 else e (keyAt j x) : ℝ) : EReal)
    = ∑ X, f X * ((if sees (keyAt q t) X j0 then e X else 0 : ℝ) : EReal) := by
  refine Eq.trans ?_ ((sum_blocks q j0 hq hj t fun X => f X * ((e X : ℝ) : EReal)).trans ?_)
  · refine Finset.sum_congr rfl fun j _ => Finset.sum_congr rfl fun x _ => ?_
    split
    · rw [EReal.coe_zero, mul_zero]
    · rfl
  · refine Finset.sum_congr rfl fun X _ => ?_
    split
    · rfl
    · rw [EReal.coe_zero, mul_zero]

end Cert.Proof.Attn

end
-- ==== Proof.Launch.lean ====
/- The blocks the pipeline brings to a grid point, as parts of the arrays the host program made, and what the
   body leaves at that point. -/
module

public import proofs.«01_k».proof.Proof.Mean

@[expose] public section

set_option maxRecDepth 16384

noncomputable section

namespace Cert.Proof.Attn

open Cert.KernelIdeal Cert.KernelIdeal.Gen
open Idealize.ShloMosaic Idealize.ShloMosaic.TcCoe Idealize.ShloMosaic.Tactic
open Cert.Proof.Online (Hd)

/-- The index maps at a grid point: the pair of heads `t 0`, the block of queries `t 1`. -/
theorem idx : ∀ t : Fin cfg0.N, win0_0.index t = ![0] ∧ win0_1.index t = ![(grid0.coords t 0).val, (grid0.coords t 1).val, 0]
    ∧ win0_2.index t = ![(grid0.coords t 0).val, 0, 0] ∧ win0_3.index t = ![(grid0.coords t 0).val, 0, 0]
    ∧ win0_4.index t = ![(grid0.coords t 1).val, (grid0.coords t 0).val] := by decide +kernel

/-- The head that is number `hh` of the pair at a grid point. -/
def headOf (i : grid0.Coords) (hh : Fin 2) : Fin 8 := ⟨2 * (i 0).val + hh.val, by have := (i 0).isLt; have : (i 0).val < 4 := (i 0).isLt; omega⟩

variable (m : (ℓ : Loc nD τ sig) → Buf (Elt Ideal) ℓ) (c : Dev nD) (t : Fin cfg0.N)

theorem blk1 (hh : Fin 2) (r : Fin 1024) (l : Fin 128) :
    (iblk m c 1 t : Vec Ideal S2x1024x128 .bf16) (ix3 hh r l) = QA m c (ix3 (headOf (grid0.coords t) hh) (keyAt (grid0.coords t 1).val r) l) := by
  have e := (idx t).2.1
  have k := keyAt_val (q_lt (grid0.coords t)) r
  have h0 : (headOf (grid0.coords t) hh).val = 2 * (grid0.coords t 0).val + hh.val := rfl
  unfold QA
  blk_ext [iblk, e]

theorem blk2 (hh : Fin 2) (X : Fin 16384) (l : Fin 128) :
    (iblk m c 2 t : Vec Ideal S2x16384x128 .bf16) (ix3 hh X l) = KA m c (ix3 (headOf (grid0.coords t) hh) X l) := by
  have e := (idx t).2.2.1
  have h0 : (headOf (grid0.coords t) hh).val = 2 * (grid0.coords t 0).val + hh.val := rfl
  unfold KA
  blk_ext [iblk, e]

theorem blk3 (hh : Fin 2) (X : Fin 16384) (l : Fin 128) :
    (iblk m c 3 t : Vec Ideal S2x128x16384 .bf16) (ix3 hh l X) = VA m c (ix3 (headOf (grid0.coords t) hh) l X) := by
  have e := (idx t).2.2.2.1
  have h0 : (headOf (grid0.coords t) hh).val = 2 * (grid0.coords t 0).val + hh.val := rfl
  unfold VA
  blk_ext [iblk, e]

/-- The first block of keys at a block of queries and a head: a word of the array of first blocks, an odd row. -/
def word (i : grid0.Coords) (hh : Fin 2) : BitVec 32 :=
  (m (c, Proc.tc.devRef main_arg0) : Vec Ideal S32x8 .i32) (ix2 (⟨2 * (i 1).val + 1, by have := q_lt i; omega⟩ : Fin 32) (headOf i hh))

/-- The first blocks, end to end. -/
def FB : Vec Ideal S256 .i32 := V m c main_v42

theorem FB_at (a : Fin 32) (b : Fin 8) : FB m c (ix1 (⟨8 * a.val + b.val, by omega⟩ : Fin 256)) = (m (c, Proc.tc.devRef main_arg0) : Vec Ideal S32x8 .i32) (ix2 a b) := by
  unfold FB V
  after_reads_at

theorem blk0 (x : Fin 256) : (iblk m c 0 t : Vec Ideal S256 .i32) (ix1 x) = FB m c (ix1 x) := by
  have e := (idx t).1
  unfold FB
  blk_ext [iblk, e]

theorem readw (off : Fin 1 → ℕ) (inb) (n : ℕ) (hn : n < 256) (ho : off = ![n]) (M0 : Memref sig .tc .smem S256 .i32) (h0 : M0.IsWhole) (x0 : Vec Ideal S256 .i32)
    (hp) : View.readAt (Elt Ideal) M0.view (Rect.unit (s := S256) off S1.size inb).toLoadRect (h0.unread x0) (Shape.Idx.first (s := S1) hp) = x0 (ix1 (⟨n, hn⟩ : Fin 256)) := by
  subst ho
  have e : (Rect.unit (s := S256) ![n] S1.size inb).toLoadRect.idx (Shape.Idx.first (s := S1) hp) = ix1 (⟨n, hn⟩ : Fin 256) :=
    funext fun a => Fin.ext (by
      match a with
      | 0 => rfl)
  exact (congrArg (View.read (Elt Ideal) M0.view (h0.unread x0)) e).trans (by rw [h0.read_unread])

theorem FB_word (i : grid0.Coords) (hh : Fin 2) (h : 16 * (i 1).val + 2 * (i 0).val + hh.val + 8 < 256) :
    FB m c (ix1 (⟨16 * (i 1).val + 2 * (i 0).val + hh.val + 8, h⟩ : Fin 256)) = word m c i hh := by
  refine Eq.trans (congrArg (fun x => FB m c (ix1 x)) (Fin.ext ?_)) (FB_at m c (⟨2 * (i 1).val + 1, by have := q_lt i; omega⟩ : Fin 32) (headOf i hh))
  show 16 * (i 1).val + 2 * (i 0).val + hh.val + 8 = 8 * (2 * (i 1).val + 1) + (2 * (i 0).val + hh.val)
  omega

theorem p_lt (i : grid0.Coords) : (i 0).val < 4 := (i 0).isLt

theorem r_eq (M0 : Memref sig .tc .smem S256 .i32) (h0 : M0.IsWhole) :
    bodyRun.sl.r (F := Ideal) c (grid0.coords t) M0 h0 (iblk m c 0 t) = word m c (grid0.coords t) 0 := by
  have hq := q_lt (grid0.coords t)
  have hp := p_lt (grid0.coords t)
  delta bodyRun.sl.r
  refine (readw _ _ (16 * (grid0.coords t 1).val + 2 * (grid0.coords t 0).val + (0 : Fin 2).val + 8) (by show _ + _ + 0 + 8 < 256; omega) (Gen.k0_off1_eq (grid0.coords t) 0) M0 h0 _ _).trans ?_
  exact (blk0 m c t _).trans (FB_word m c (grid0.coords t) 0 _)

theorem r_1_eq (M0 : Memref sig .tc .smem S256 .i32) (h0 : M0.IsWhole) :
    bodyRun.sl.r_1 (F := Ideal) c (grid0.coords t) M0 h0 (iblk m c 0 t) = word m c (grid0.coords t) 1 := by
  have hq := q_lt (grid0.coords t)
  have hp := p_lt (grid0.coords t)
  delta bodyRun.sl.r_1
  refine (readw _ _ (16 * (grid0.coords t 1).val + 2 * (grid0.coords t 0).val + (1 : Fin 2).val + 8) (by show _ + _ + 1 + 8 < 256; omega) (Gen.k0_off1_eq (grid0.coords t) 1) M0 h0 _ _).trans ?_
  exact (blk0 m c t _).trans (FB_word m c (grid0.coords t) 1 _)

/-- The attention of query `T` in head `h` over the keys it sees. -/
def attn (q k : Fin 16384 → Fin 8 → Fin 64 → ℝ) (v : Fin 16384 → Fin 8 → Fin 64 → EReal) (u : Fin 16384 → Fin 8 → ℝ) (h : Fin 8) (T : Fin 16384) (j0 : ℕ) (l : Fin 64) : EReal :=
  (∑ X, v X h l * ((if sees T X j0 then Real.exp (score q k u h T X) else 0 : ℝ) : EReal))
    * ((1 / ∑ X, if sees T X j0 then Real.exp (score q k u h T X) else 0 : ℝ) : EReal)

section
variable {m c} {q k : Fin 16384 → Fin 8 → Fin 64 → ℝ} {v : Fin 16384 → Fin 8 → Fin 64 → EReal} {u : Fin 16384 → Fin 8 → ℝ}
  (hq : ∀ T h l, (m (c, Proc.tc.devRef main_arg1) : Vec Ideal S1x16384x8x64 .f32) (ix4 (0 : Fin 1) T h l) = ((q T h l : ℝ) : EReal))
  (hk : ∀ T h l, (m (c, Proc.tc.devRef main_arg2) : Vec Ideal S1x16384x8x64 .f32) (ix4 (0 : Fin 1) T h l) = ((k T h l : ℝ) : EReal))
  (hv : ∀ T h l, (m (c, Proc.tc.devRef main_arg3) : Vec Ideal S1x16384x8x64 .f32) (ix4 (0 : Fin 1) T h l) = v T h l)
  (hu : ∀ T h, (m (c, Proc.tc.devRef main_arg4) : Vec Ideal S1x16384x8 .f32) (ix3 (0 : Fin 1) T h) = ((u T h : ℝ) : EReal))

include hq hk hv hu in
/-- What one head of the pair leaves at a query and a column: the attention. -/
theorem head_at (hh : Fin 2) (j0 : ℕ) (hj : j0 ≤ (grid0.coords t 1).val) (d : Fin 128) (r : Fin 1024) :
    Ideal.div (Hd.out (vals (iblk m c 3 t) hh j0) (finish (iblk m c 1 t) (iblk m c 2 t) (iblk m c 3 t) hh (grid0.coords t 1).val j0) (lane d) r)
      (Hd.out (vals (iblk m c 3 t) hh j0) (finish (iblk m c 1 t) (iblk m c 2 t) (iblk m c 3 t) hh (grid0.coords t 1).val j0) 64 r)
    = attn q k v u (headOf (grid0.coords t) hh) (keyAt (grid0.coords t 1).val r) j0 (col d) := by
  have hq16 := q_lt (grid0.coords t)
  refine (quotient (iblk m c 1 t) (iblk m c 2 t) (iblk m c 3 t) hh (grid0.coords t 1).val j0 hj
    (fun j x r => score q k u (headOf (grid0.coords t) hh) (keyAt (grid0.coords t 1).val r) (keyAt j x))
    (fun j x => v (keyAt j x) (headOf (grid0.coords t) hh)) (fun j _ x r => ?_) (fun j _ d x => ?_) d r).trans ?_
  · refine Eq.trans (Finset.sum_congr rfl fun l _ => ?_) (scores_at hq hk hu (headOf (grid0.coords t) hh) (keyAt (grid0.coords t 1).val r) (keyAt j x))
    rw [blk1, blk2]
  · exact (blk3 m c t hh _ d).trans (values_at hv _ _ _)
  · have e1 := sum_valued (grid0.coords t 1).val j0 hq16 hj r
      (fun X => Real.exp (score q k u (headOf (grid0.coords t) hh) (keyAt (grid0.coords t 1).val r) X)) (fun X => v X (headOf (grid0.coords t) hh) (col d))
    have e2 := sum_blocks (grid0.coords t 1).val j0 hq16 hj r
      (fun X => Real.exp (score q k u (headOf (grid0.coords t) hh) (keyAt (grid0.coords t 1).val r) X))
    unfold wt attn
    rw [e1, e2]

include hq hk hv hu in
/-- What the body leaves at a grid point. -/
theorem outAt_at (r : Fin 1024) (d : Fin 128) (hh : Fin 2) (hd : hh.val = d.val / 64) :
    outAt m c t (ix2 r d) = attn q k v u (headOf (grid0.coords t) hh) (keyAt (grid0.coords t 1).val r)
      (lo (grid0.coords t) (word m c (grid0.coords t) hh)) (col d) := by
  have dl := d.isLt
  refine (store_at c (grid0.coords t) _ _ _ _ _ _ _ _ _ _ (iblk m c 0 t) (iblk m c 1 t) (iblk m c 2 t) (iblk m c 3 t) (chk1_all (grid0.coords t)) r d).trans ?_
  rw [r_eq, r_1_eq]
  by_cases h : d.val < 64
  · obtain rfl : hh = 0 := Fin.ext (by rw [hd]; show d.val / 64 = 0; omega)
    rw [if_pos h]
    exact head_at t hq hk hv hu 0 _ (lo_le _ _) d r
  · obtain rfl : hh = 1 := Fin.ext (by rw [hd]; show d.val / 64 = 1; omega)
    rw [if_neg h]
    exact head_at t hq hk hv hu 1 _ (lo_le _ _) d r

/-- The first block of keys that query `T` sees in head `h`. -/
def first (m : (ℓ : Loc nD τ sig) → Buf (Elt Ideal) ℓ) (c : Dev nD) (T : Fin 16384) (h : Fin 8) : ℕ :=
  min (T.val / 1024) ((m (c, Proc.tc.devRef main_arg0) : Vec Ideal S32x8 .i32) (ix2 (⟨2 * (T.val / 1024) + 1, by omega⟩ : Fin 32) h)).toInt.toNat

/-- The result's array: at a query and a column, the attention of the column's head. -/
def result (m : (ℓ : Loc nD τ sig) → Buf (Elt Ideal) ℓ) (c : Dev nD) (q k : Fin 16384 → Fin 8 → Fin 64 → ℝ)
    (v : Fin 16384 → Fin 8 → Fin 64 → EReal) (u : Fin 16384 → Fin 8 → ℝ) (T : Fin 16384) (C : Fin 512) : EReal :=
  attn q k v u ⟨C.val / 64, by omega⟩ T (first m c T ⟨C.val / 64, by omega⟩) ⟨C.val % 64, Nat.mod_lt _ (by norm_num)⟩

include hq hk hv hu in
theorem outAt_result (r : Fin 1024) (d : Fin 128) (T : Fin 16384) (C : Fin 512) (hT : T.val = 1024 * (grid0.coords t 1).val + r.val)
    (hC : C.val = 128 * (grid0.coords t 0).val + d.val) : outAt m c t (ix2 r d) = result m c q k v u T C := by
  have hq16 := q_lt (grid0.coords t)
  have hp := p_lt (grid0.coords t)
  have rl := r.isLt
  have dl := d.isLt
  have e1 : keyAt (grid0.coords t 1).val r = T := Fin.ext (by rw [keyAt_val hq16, hT])
  have e2 : headOf (grid0.coords t) ⟨d.val / 64, by omega⟩ = ⟨C.val / 64, by omega⟩ := Fin.ext (by
    show 2 * (grid0.coords t 0).val + d.val / 64 = C.val / 64
    omega)
  have e3 : col d = ⟨C.val % 64, Nat.mod_lt _ (by norm_num)⟩ := Fin.ext (by show d.val % 64 = C.val % 64; omega)
  have e4 : T.val / 1024 = (grid0.coords t 1).val := by omega
  have e5 : lo (grid0.coords t) (word m c (grid0.coords t) ⟨d.val / 64, by omega⟩) = first m c T ⟨C.val / 64, by omega⟩ := by
    unfold lo word first
    rw [e2]
    simp only [e4]
  rw [outAt_at t hq hk hv hu r d ⟨d.val / 64, by omega⟩ rfl, e1, e3, e5, e2]
  rfl

include hq hk hv hu in
theorem result_eq : (dats m 0 c).arrAt 4 (cfgs 0).N = (fun y => result m c q k v u (y 0) (y 1) : Vec Ideal S16384x512 .f32) := by
  refine (dats m 0 c).arrAt_eq_of_covers 4 _ (by decide +kernel) fun t hf y => ?_
  have e := (idx t).2.2.2.2
  blk_simp
  rw [after4]
  idx_vars y
  refine outAt_result t hq hk hv hu y0 y1 _ _ ?_ ?_
  · blk_simp [e]
    show _ * 1024 + _ = _
    exact congrArg (· + _) (Nat.mul_comm _ _)
  · blk_simp [e]
    show _ * 128 + _ = _
    exact congrArg (· + _) (Nat.mul_comm _ _)

end

end Cert.Proof.Attn

end
-- ==== Proof.Soft.lean ====
/- The reference on real scores and any values: the softmax over the keys a query sees, taken from the row's largest score, is the
   weighted mean that the kernel ends with. -/
module

public import proofs.«01_k».proof.Proof.Refer
public import proofs.«01_k».proof.Proof.Launch
public import Idealize.ShloMosaic.Lib.WordCmp
public import Idealize.ShloMosaic.Lib.SortNet.Extract

@[expose] public section

set_option maxRecDepth 16384

noncomputable section

namespace Cert.Proof.Refer

open Cert.ReferenceIdeal Cert.ReferenceIdeal.Gen
open Idealize.ShloMosaic Idealize.ShloMosaic.TcCoe Idealize.ShloMosaic.Tactic
open Idealize.ShloMosaic.SortNet (toInt_minsi toInt_maxsi)

theorem sum_coe {n : ℕ} (f : Fin n → ℝ) : ∑ i, ((f i : ℝ) : EReal) = ((∑ i, f i : ℝ) : EReal) :=
  (map_sum (⟨⟨((↑) : ℝ → EReal), EReal.coe_zero⟩, EReal.coe_add⟩ : ℝ →+ EReal) _ _).symm

/-- A row of scores, some of them −∞: its softmax's mean of the values is the exponentials' weighted mean. -/
theorem softmax {n : ℕ} (s : Fin n → ℝ) (v : Fin n → EReal) (b : Fin n → Prop) [DecidablePred b] (A : Fin n → EReal)
    (hA : ∀ X, A X = if b X then ((s X : ℝ) : EReal) else ⊥) (X0 : Fin n) (h0 : b X0) (N : EReal) (hN : N = max ⊥ (Finset.fold max ⊥ A Finset.univ)) :
    ∑ X, v X * Ideal.div (Ideal.exp (A X - N)) (∑ Y, Ideal.exp (A Y - N))
    = (∑ X, v X * ((if b X then Real.exp (s X) else 0 : ℝ) : EReal)) * ((1 / ∑ X, if b X then Real.exp (s X) else 0 : ℝ) : EReal) := by
  have n1 : N ≠ ⊤ := by
    rw [hN]
    refine ne_of_lt (max_lt bot_lt_top ((Finset.fold_max_lt _).2 ⟨bot_lt_top, fun X _ => ?_⟩))
    rw [hA]; split
    · exact EReal.coe_lt_top _
    · exact bot_lt_top
  have n2 : N ≠ ⊥ := by
    rw [hN]
    refine bot_lt_iff_ne_bot.1 (lt_max_iff.2 (.inr ((Finset.lt_fold_max _).2 (.inr ⟨X0, Finset.mem_univ _, ?_⟩))))
    rw [hA, if_pos h0]; exact EReal.bot_lt_coe _
  obtain ⟨M, rfl⟩ : ∃ M : ℝ, N = M := ⟨N.toReal, (EReal.coe_toReal n1 n2).symm⟩
  have e : ∀ X, Ideal.exp (A X - (M : EReal)) = (((if b X then Real.exp (s X) else 0) * Real.exp (-M) : ℝ) : EReal) := fun X => by
    rw [hA]; split
    · rw [← EReal.coe_sub, Ideal.exp_coe, ← Real.exp_add, ← sub_eq_add_neg]
    · rw [EReal.bot_sub, Ideal.exp_bot, zero_mul, EReal.coe_zero]
  have hM : Real.exp (-M) ≠ 0 := (Real.exp_pos _).ne'
  have hpos : 0 < ∑ X, (if b X then Real.exp (s X) else 0) := by
    refine Finset.sum_pos' (fun X _ => ?_) ⟨X0, Finset.mem_univ _, ?_⟩
    · split
      · exact (Real.exp_pos _).le
      · exact le_rfl
    · rw [if_pos h0]; exact Real.exp_pos _
  simp only [e]
  rw [sum_coe, ← Finset.sum_mul]
  simp only [Ideal.div_coe (mul_ne_zero hpos.ne' hM), ← EReal.coe_mul]
  refine Eq.trans ?_ (mul_comm _ _)
  rw [Online.scale_sum (one_div_nonneg.2 hpos.le)]
  refine Finset.sum_congr rfl fun X _ => ?_
  rw [mul_left_comm, ← EReal.coe_mul]
  congr 2
  field_simp

/-- The first block, between zero and the query's own. -/
theorem clamp (w : BitVec 32) (n : ℕ) (hn : n < 16) :
    IntOp.minsi (IntOp.maxsi w 0#32) (BitVec.ofNat 32 n) = BitVec.ofNat 32 (min n w.toInt.toNat) := by
  have a1 : (BitVec.ofNat 32 n).toInt = (n : ℤ) := WordCmp.toInt_ofNat_of_lt (show n < 2 ^ 31 by omega)
  have a2 : (BitVec.ofNat 32 (min n w.toInt.toNat)).toInt = ((min n w.toInt.toNat : ℕ) : ℤ) :=
    WordCmp.toInt_ofNat_of_lt (show min n w.toInt.toNat < 2 ^ 31 by omega)
  apply BitVec.eq_of_toInt_eq
  rw [toInt_minsi, toInt_maxsi, a1, a2]
  have : (0#32).toInt = 0 := rfl
  omega

/-- The mask's bit is the condition that the kernel's blocks and its mask come to. -/
theorem bit_eq (w : BitVec 32) (T X : Fin 16384) :
    IntOp.andi (IntOp.cmpi .sle (BitVec.ofNat 32 X.val) (BitVec.ofNat 32 T.val))
        (IntOp.cmpi .sge (BitVec.ofNat 32 X.val) (IntOp.muli (IntOp.minsi (IntOp.maxsi w 0#32) (BitVec.ofNat 32 (T.val / 1024))) 1024#32))
    = BitVec.ofBool (decide (Attn.sees T X (min (T.val / 1024) w.toInt.toNat))) := by
  have hT : T.val / 1024 < 16 := by omega
  rw [clamp w _ hT]
  generalize hj : min (T.val / 1024) w.toInt.toNat = j
  have hj' : j < 16 := by omega
  have e : IntOp.muli (BitVec.ofNat 32 j) 1024#32 = BitVec.ofNat 32 (1024 * j) := by
    apply BitVec.eq_of_toNat_eq
    show (BitVec.ofNat 32 j * 1024#32).toNat = _
    simp only [BitVec.toNat_mul, BitVec.toNat_ofNat]
    omega
  have a1 : (BitVec.ofNat 32 X.val).toInt = (X.val : ℤ) := WordCmp.toInt_ofNat_of_lt (show X.val < 2 ^ 31 by omega)
  have a2 : (BitVec.ofNat 32 T.val).toInt = (T.val : ℤ) := WordCmp.toInt_ofNat_of_lt (show T.val < 2 ^ 31 by omega)
  have a3 : (BitVec.ofNat 32 (1024 * j)).toInt = ((1024 * j : ℕ) : ℤ) := WordCmp.toInt_ofNat_of_lt (show 1024 * j < 2 ^ 31 by omega)
  rw [e, WordCmp.cmpi_sle_eq, WordCmp.cmpi_sge_eq, WordCmp.andi_ofBool, a1, a2, a3]
  congr 1
  unfold Attn.sees
  rw [← Bool.decide_and]
  refine decide_eq_decide.2 ?_
  omega

theorem neg_inf : Ideal.ofBits FTy.f32 4286578688#32 = (⊥ : EReal) := by
  simp [Ideal.ofBits, Ideal.ieee, -EReal.coe_mul]

variable (a : Vec Ideal S32x8 .i32) (q' k' v' : Vec Ideal S1x16384x8x64 .f32) (u' : Vec Ideal S1x16384x8 .f32)
variable {q k : Fin 16384 → Fin 8 → Fin 64 → ℝ} {v : Fin 16384 → Fin 8 → Fin 64 → EReal} {u : Fin 16384 → Fin 8 → ℝ}
  (hq : ∀ T h l, q' (ix4 (0 : Fin 1) T h l) = ((q T h l : ℝ) : EReal))
  (hk : ∀ T h l, k' (ix4 (0 : Fin 1) T h l) = ((k T h l : ℝ) : EReal))
  (hv : ∀ T h l, v' (ix4 (0 : Fin 1) T h l) = v T h l)
  (hu : ∀ T h, u' (ix3 (0 : Fin 1) T h) = ((u T h : ℝ) : EReal))

/-- The first block of keys that query `T` sees in head `h`, from the array of first blocks. -/
def start (T : Fin 16384) (h : Fin 8) : ℕ := min (T.val / 1024) (a (ix2 (⟨2 * (T.val / 1024) + 1, by omega⟩ : Fin 32) h)).toInt.toNat

include hq hk hu in
theorem masked_at (h : Fin 8) (T X : Fin 16384) :
    masked a q' k' u' (ix4 0 h T X) = if Attn.sees T X (start a T h) then ((Attn.score q k u h T X : ℝ) : EReal) else ⊥ := by
  unfold masked
  rw [shut_at, mask_at, low_at, bit_eq, raw_at, neg_inf]
  change Scalar.select (BitVec.ofBool (decide (Attn.sees T X (start a T h)))) _ _ = _
  by_cases hs : Attn.sees T X (start a T h)
  · rw [if_pos hs, decide_eq_true hs]
    refine (WordCmp.select_of_eq_one rfl _ _).trans ?_
    simp only [hq, hk, hu, ← EReal.coe_mul]
    rw [sum_coe, Attn.eighth_eq, ← EReal.coe_mul, ← EReal.coe_sub, ← EReal.coe_add]
    rfl
  · rw [if_neg hs, decide_eq_false hs]
    exact WordCmp.select_of_eq_zero rfl _ _

include hq hk hv hu in
theorem refer_at (T : Fin 16384) (C : Fin 512) :
    mean v' (weights (masked a q' k' u')) (total (weights (masked a q' k' u'))) (ix2 T C)
    = Attn.attn q k v u ⟨C.val / 64, by omega⟩ T (start a T ⟨C.val / 64, by omega⟩) ⟨C.val % 64, Nat.mod_lt _ (by norm_num)⟩ := by
  rw [mean_at, total_at]
  simp only [hv]
  unfold weights
  simp only [expo_at]
  have hs : Attn.sees T T (start a T ⟨C.val / 64, by omega⟩) := by
    unfold Attn.sees start
    refine ⟨le_rfl, ?_⟩
    have := min_le_left (T.val / 1024) (a (ix2 (⟨2 * (T.val / 1024) + 1, by omega⟩ : Fin 32) (⟨C.val / 64, by omega⟩ : Fin 8))).toInt.toNat
    omega
  refine softmax (fun X => Attn.score q k u ⟨C.val / 64, by omega⟩ T X) _ (fun X => Attn.sees T X (start a T ⟨C.val / 64, by omega⟩))
    (fun X => masked a q' k' u' (ix4 0 (⟨C.val / 64, by omega⟩ : Fin 8) T X)) (fun X => masked_at a q' k' u' hq hk hu _ T X) T hs _ ?_
  rw [atLeast_at, most_at, neg_inf]

end Cert.Proof.Refer

end
-- ==== Proof.Finite.lean ====
/- The precondition, read: every element of the queries, keys and log-decays is a real number. -/
module

public import proofs.«01_k».proof.Pre_finite
public import proofs.«01_k».proof.Proof.Gen.Pre_finite
public import Idealize.ShloMosaic.Lib.Pointwise
public import Idealize.ShloMosaic.Lib.ReduceAll
public import Idealize.ShloMosaic.Lib.WordCmp

@[expose] public section

set_option maxRecDepth 16384

noncomputable section

namespace Cert.Proof.Finite

open Cert.Pre_finite
open Idealize.ShloMosaic

/-- What is below +∞ in absolute value is a real. -/
theorem real_of_lt (x : EReal) (h : max x (-x) < ⊤) : ∃ r : ℝ, x = r := by
  refine ⟨x.toReal, (EReal.coe_toReal ?_ ?_).symm⟩
  · rintro rfl
    exact absurd h (by simp)
  · rintro rfl
    exact absurd h (by simp)

theorem pos_inf : Ideal.ofBits FTy.f32 2139095040#32 = (⊤ : EReal) := by
  simp [Ideal.ofBits, Ideal.ieee, -EReal.coe_mul]

theorem real_of_bit {s : Shape} (x : FVec Ideal s .f32) (hb : S_.BroadcastsInDim s (![] : Fin 0 → Fin s.rank)) (i : s.Idx)
    (h : cmpf (F := Ideal) .olt (Host.absf x) (broadcastInDim s ![] hb (constant (F := Ideal) S_ .f32 0x7F800000#32)) i = 1#1) : ∃ r : ℝ, x i = r := by
  have h' : Ideal.cmp .olt (max (x i) (-(x i))) (Ideal.ofBits FTy.f32 2139095040#32) = 1#1 := h
  rw [pos_inf] at h'
  refine real_of_lt _ ?_
  by_contra hn
  have : Ideal.cmp .olt (max (x i) (-(x i))) ⊤ = 0#1 := by
    show BitVec.ofBool (decide _) = _
    rw [decide_eq_false hn]; rfl
  rw [this] at h'
  exact absurd h' (by decide)

theorem and_left {a b : BitVec 1} (h : IntOp.andi a b = 1#1) : a = 1#1 := by
  revert a b; decide
theorem and_right {a b : BitVec 1} (h : IntOp.andi a b = 1#1) : b = 1#1 := by
  revert a b; decide

variable (a0 : IVec S32x8 32) (a1 a2 a3 : FVec Ideal S1x16384x8x64 .f32) (a4 : FVec Ideal S1x16384x8 .f32)

theorem reals [Facts] (h : fn (F := Ideal) a0 a1 a2 a3 a4 = fun _ => 1#1) :
    (∀ i, ∃ r : ℝ, a1 i = r) ∧ (∀ i, ∃ r : ℝ, a2 i = r) ∧ (∀ i, ∃ r : ℝ, a4 i = r) := by
  have h0 := congrFun h ix0
  dsimp only [fn] at h0
  have p2 := and_left h0
  have h4 := and_right h0
  have h1 := and_left p2
  have h2 := and_right p2
  exact ⟨fun i => real_of_bit a1 _ i (Host.reduce_andi_all _ _ _ _ _ h1 i), fun i => real_of_bit a2 _ i (Host.reduce_andi_all _ _ _ _ _ h2 i),
    fun i => real_of_bit a4 _ i (Host.reduce_andi_all _ _ _ _ _ h4 i)⟩

end Cert.Proof.Finite

end
-- ==== Proof.Equal.lean ====
/- The kernel's result and the reference's are equal: from the same arguments, the queries, keys and log forget values real, both are the attention. -/
module

public import proofs.«01_k».proof.Proof.Soft
public import proofs.«01_k».proof.Proof.Finite
public import proofs.«01_k».proof.Defs
public import Idealize.ShloMosaic.Lib.Claim

@[expose] public section

set_option maxRecDepth 16384

noncomputable section

namespace Cert.Proof

open Idealize.ShloMosaic Idealize.ShloMosaic.TcCoe Idealize.SL.Sem

section
open Cert.KernelIdeal Cert.KernelIdeal.Gen

variable (m : (ℓ : Loc Cert.KernelIdeal.nD Cert.KernelIdeal.τ Cert.KernelIdeal.sig) → Buf (Elt Ideal) ℓ) (c : Dev Cert.KernelIdeal.nD)

def rq (T : Fin 16384) (h : Fin 8) (l : Fin 64) : ℝ := ((m (c, Proc.tc.devRef main_arg1) : Vec Ideal S1x16384x8x64 .f32) (ix4 (0 : Fin 1) T h l)).toReal
def rk (T : Fin 16384) (h : Fin 8) (l : Fin 64) : ℝ := ((m (c, Proc.tc.devRef main_arg2) : Vec Ideal S1x16384x8x64 .f32) (ix4 (0 : Fin 1) T h l)).toReal
def rv (T : Fin 16384) (h : Fin 8) (l : Fin 64) : EReal := (m (c, Proc.tc.devRef main_arg3) : Vec Ideal S1x16384x8x64 .f32) (ix4 (0 : Fin 1) T h l)
def ru (T : Fin 16384) (h : Fin 8) : ℝ := ((m (c, Proc.tc.devRef main_arg4) : Vec Ideal S1x16384x8 .f32) (ix3 (0 : Fin 1) T h)).toReal

theorem of_real {x : EReal} (h : ∃ r : ℝ, x = r) : x = ((x.toReal : ℝ) : EReal) := by
  obtain ⟨r, rfl⟩ := h
  rfl

theorem hq_of (hpre : Cert.Pre_KernelIdeal_finite m) (T : Fin 16384) (h : Fin 8) (l : Fin 64) :
    (m (c, Proc.tc.devRef main_arg1) : Vec Ideal S1x16384x8x64 .f32) (ix4 (0 : Fin 1) T h l) = ((rq m c T h l : ℝ) : EReal) :=
  of_real ((Finite.reals _ _ _ _ _ (hpre c)).1 _)
theorem hk_of (hpre : Cert.Pre_KernelIdeal_finite m) (T : Fin 16384) (h : Fin 8) (l : Fin 64) :
    (m (c, Proc.tc.devRef main_arg2) : Vec Ideal S1x16384x8x64 .f32) (ix4 (0 : Fin 1) T h l) = ((rk m c T h l : ℝ) : EReal) :=
  of_real ((Finite.reals _ _ _ _ _ (hpre c)).2.1 _)
theorem hv_of (T : Fin 16384) (h : Fin 8) (l : Fin 64) :
    (m (c, Proc.tc.devRef main_arg3) : Vec Ideal S1x16384x8x64 .f32) (ix4 (0 : Fin 1) T h l) = rv m c T h l := rfl
theorem hu_of (hpre : Cert.Pre_KernelIdeal_finite m) (T : Fin 16384) (h : Fin 8) :
    (m (c, Proc.tc.devRef main_arg4) : Vec Ideal S1x16384x8 .f32) (ix3 (0 : Fin 1) T h) = ((ru m c T h : ℝ) : EReal) :=
  of_real ((Finite.reals _ _ _ _ _ (hpre c)).2.2 _)

/-- The result both end with. -/
def both : Vec Ideal S16384x512 .f32 := fun y => Attn.result m c (rq m c) (rk m c) (rv m c) (ru m c) (y 0) (y 1)

theorem kernel_result (hpre : Cert.Pre_KernelIdeal_finite m) : (Attn.dats m 0 c).arrAt 4 (cfgs 0).N = both m c :=
  Attn.result_eq (hq_of m c hpre) (hk_of m c hpre) (hv_of m c) (hu_of m c hpre)

theorem reference_result (hpre : Cert.Pre_KernelIdeal_finite m) :
    Refer.mean (m (c, Proc.tc.devRef main_arg3)) (Refer.weights (Refer.masked (m (c, Proc.tc.devRef main_arg0)) (m (c, Proc.tc.devRef main_arg1)) (m (c, Proc.tc.devRef main_arg2)) (m (c, Proc.tc.devRef main_arg4))))
      (Refer.total (Refer.weights (Refer.masked (m (c, Proc.tc.devRef main_arg0)) (m (c, Proc.tc.devRef main_arg1)) (m (c, Proc.tc.devRef main_arg2)) (m (c, Proc.tc.devRef main_arg4)))))
    = both m c := by
  funext y
  have e : y = ix2 (y 0 : Fin 16384) (y 1 : Fin 512) := funext fun a => by
    match a with
    | 0 => rfl
    | 1 => rfl
  rw [e]
  exact Refer.refer_at (m (c, Proc.tc.devRef main_arg0)) (m (c, Proc.tc.devRef main_arg1)) (m (c, Proc.tc.devRef main_arg2)) (m (c, Proc.tc.devRef main_arg3)) (m (c, Proc.tc.devRef main_arg4))
    (hq_of m c hpre) (hk_of m c hpre) (hv_of m c) (hu_of m c hpre) (y 0) (y 1)

end

theorem algebraic : Cert.algebraic_KernelIdeal_ReferenceIdeal_pre_finite := by
  intro m g m' g' hpre hagree
  refine ⟨fun c => both m c, ?_, ?_⟩
  · refine θ_run_mono (θ_run_and (Attn.frame (F := Ideal) m g) (Attn.run_main (F := Ideal) m g)) fun r h c => ⟨?_, h.1.1 c⟩
    exact (h.2.1.out_eq c 4).trans (kernel_result m c hpre)
  · refine θ_run_mono (Cert.ReferenceIdeal.Value.run (F := Ideal) m' g') fun r h c => ⟨(h c).1.trans ?_, (h c).2⟩
    obtain ⟨e0, e1, e2, e3, e4⟩ := hagree c
    rw [Refer.result_parts m' c, e0, e1, e2, e3, e4]
    exact reference_result m c hpre

end Cert.Proof

end
-- ==== Proof.Tail.Spec.lean ====
/- The last layer after its mixers, for one token: the normalized attention and the convolution's output joined and put
   through the output weights, the normalized result added to the layer's input, and the feed-forward of the normalized
   sum added to that, normalized too. The floats are extended reals. -/
module

public import Idealize.ShloMosaic.Lib.Pointwise
public import Idealize.ShloMosaic.Lib.Pipeline.ValueKit

@[expose] public section

noncomputable section

namespace Cert.Proof.Tail

open Idealize.ShloMosaic

/-- A row over its root mean square, times a gain: `w` is the row's length as a float. -/
def norm {n : ℕ} (w : BitVec 32) (x g : Fin n → EReal) (d : Fin n) : EReal :=
  x d * Ideal.rsqrt (Ideal.div (∑ e, x e * x e) (Ideal.ofBits .f32 w) + Ideal.ofBits .f32 0x358637BD#32) * g d

/-- The mixers' output: the normalized attention and the convolution's, each through its half of the weights. -/
def mix (a o ga : Fin 512 → EReal) (wo : Fin 1024 → Fin 1024 → EReal) (d : Fin 1024) : EReal :=
  ∑ e : Fin 512, norm 0x44000000#32 a ga e * wo ⟨e.val, by omega⟩ d + ∑ e : Fin 512, o e * wo ⟨512 + e.val, by omega⟩ d

/-- The layer's input with the mixers' output. -/
def mid (x : Fin 1024 → EReal) (a o ga : Fin 512 → EReal) (wo : Fin 1024 → Fin 1024 → EReal) (gm : Fin 1024 → EReal) (d : Fin 1024) : EReal :=
  x d + norm 0x44800000#32 (mix a o ga wo) gm d

/-- A hidden unit: the square of the positive part. -/
def unit (h : Fin 1024 → EReal) (up : Fin 1024 → EReal) : EReal := max (∑ e, h e * up e) 0 * max (∑ e, h e * up e) 0

/-- The feed-forward: every hidden unit's part, `up f` the weights into it and `down f` those out of it. -/
def feed (h : Fin 1024 → EReal) (up : Fin 4096 → Fin 1024 → EReal) (down : Fin 4096 → Fin 1024 → EReal) (d : Fin 1024) : EReal :=
  ∑ f, unit h (up f) * down f d

/-- The layer's output. -/
def last (x : Fin 1024 → EReal) (a o ga : Fin 512 → EReal) (wo : Fin 1024 → Fin 1024 → EReal) (gm gl : Fin 1024 → EReal)
    (up down : Fin 4096 → Fin 1024 → EReal) (gp : Fin 1024 → EReal) (d : Fin 1024) : EReal :=
  mid x a o ga wo gm d + norm 0x44800000#32 (feed (norm 0x44800000#32 (mid x a o ga wo gm) gl) up down) gp d

end Cert.Proof.Tail

end
-- ==== Proof.Tail.Refer.lean ====
/- What the reference's last layer returns, an array at a time, each read at a token. -/
module

public import proofs.«01_k».proof.Proof.Tail.Spec
public import proofs.«01_k».proof.Proof.Gen.PostReferenceIdeal.Run

@[expose] public section

set_option maxRecDepth 16384

noncomputable section

namespace Cert.Proof.Tail.Refer

open Cert.PostReferenceIdeal Cert.PostReferenceIdeal.Gen
open Idealize.ShloMosaic Idealize.ShloMosaic.TcCoe Idealize.ShloMosaic.Tactic

/-- The attention over its root mean square. -/
def normA (x : Vec Ideal S16384x512 .f32) (g : Vec Ideal S4x512 .f32) : Vec Ideal S16384x512 .f32 :=
  mulf (F := Ideal) (φ := .f32) (mulf (F := Ideal) (φ := .f32) x (broadcastInDim S16384x512 ![0, 1] bcast_S16384x1_S16384x512_0_1 (Host.rsqrt (F := Ideal) (φ := .f32) (addf (F := Ideal) (φ := .f32)
      (Host.divf (F := Ideal) (φ := .f32) (broadcastInDim S16384x1 ![0] bcast_S16384_S16384x1_0 (Host.reduceAdd (F := Ideal) (φ := .f32) (mulf (F := Ideal) (φ := .f32) x x) (constant (F := Ideal) S_ .f32 0x00000000#32) reducesTo_S16384x512_S16384_d1 h_S_))
        (broadcastInDim S16384x1 ![] bcast_S_S16384x1 (constant (F := Ideal) S_ .f32 0x44000000#32)))
      (broadcastInDim S16384x1 ![] bcast_S_S16384x1 (constant (F := Ideal) S_ .f32 0x358637BD#32))))))
    (broadcastInDim S16384x512 ![0, 1] bcast_S1x512_S16384x512_0_1 (broadcastInDim S1x512 ![1] bcast_S512_S1x512_1 (shapeCast S512 (extractStridedSlice S1x512 ![3, 0] g slices_S4x512_S1x512_3_0) shapeCasts_S1x512_S512)))

/-- A row of the model's width over its root mean square. -/
def normD (x : Vec Ideal S16384x1024 .f32) (g : Vec Ideal S4x1024 .f32) : Vec Ideal S16384x1024 .f32 :=
  mulf (F := Ideal) (φ := .f32) (mulf (F := Ideal) (φ := .f32) x (broadcastInDim S16384x1024 ![0, 1] bcast_S16384x1_S16384x1024_0_1 (Host.rsqrt (F := Ideal) (φ := .f32) (addf (F := Ideal) (φ := .f32)
      (Host.divf (F := Ideal) (φ := .f32) (broadcastInDim S16384x1 ![0] bcast_S16384_S16384x1_0 (Host.reduceAdd (F := Ideal) (φ := .f32) (mulf (F := Ideal) (φ := .f32) x x) (constant (F := Ideal) S_ .f32 0x00000000#32) reducesTo_S16384x1024_S16384_d1 h_S_))
        (broadcastInDim S16384x1 ![] bcast_S_S16384x1 (constant (F := Ideal) S_ .f32 0x44800000#32)))
      (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 (shapeCast S1024 (extractStridedSlice S1x1024 ![3, 0] g slices_S4x1024_S1x1024_3_0) shapeCasts_S1x1024_S1024)))

/-- The joined mixers through the output weights. -/
def mixed (a o : Vec Ideal S16384x512 .f32) (w : Vec Ideal S4x1024x1024 .f32) : Vec Ideal S16384x1024 .f32 :=
  Host.dotGeneral (F := Ideal) (φ₁ := .f32) (φ₂ := .f32) dot_S16384x1024_S1024x1024_S16384x1024_1_0_0_1_n_n none
    (concatenate S16384x1024 1 [⟨S16384x512, a⟩, ⟨S16384x512, o⟩] concatenates_S16384x512_S16384x512_S16384x1024_d1)
    (shapeCast S1024x1024 (extractStridedSlice S1x1024x1024 ![3, 0, 0] w slices_S4x1024x1024_S1x1024x1024_3_0_0) shapeCasts_S1x1024x1024_S1024x1024)

/-- The sums into the hidden units. -/
def into (h : Vec Ideal S16384x1024 .f32) (w : Vec Ideal S4x1024x4096 .f32) : Vec Ideal S16384x4096 .f32 :=
  Host.dotGeneral (F := Ideal) (φ₁ := .f32) (φ₂ := .f32) dot_S16384x1024_S1024x4096_S16384x4096_1_0_0_1_n_n none h
    (shapeCast S1024x4096 (extractStridedSlice S1x1024x4096 ![3, 0, 0] w slices_S4x1024x4096_S1x1024x4096_3_0_0) shapeCasts_S1x1024x4096_S1024x4096)

/-- The positive part. -/
def pos (u : Vec Ideal S16384x4096 .f32) : Vec Ideal S16384x4096 .f32 :=
  maximumf (F := Ideal) (φ := .f32) u (broadcastInDim S16384x4096 ![] bcast_S_S16384x4096 (constant (F := Ideal) S_ .f32 0x00000000#32))

/-- The sums out of the hidden units. -/
def out (u : Vec Ideal S16384x4096 .f32) (w : Vec Ideal S4x4096x1024 .f32) : Vec Ideal S16384x1024 .f32 :=
  Host.dotGeneral (F := Ideal) (φ₁ := .f32) (φ₂ := .f32) dot_S16384x4096_S4096x1024_S16384x1024_1_0_0_1_n_n none (mulf (F := Ideal) (φ := .f32) u u)
    (shapeCast S4096x1024 (extractStridedSlice S1x4096x1024 ![3, 0, 0] w slices_S4x4096x1024_S1x4096x1024_3_0_0) shapeCasts_S1x4096x1024_S4096x1024)

/-- The layer's input with the mixers' output. -/
def middle (x : Vec Ideal S16384x1024 .f32) (a o : Vec Ideal S16384x512 .f32) (ga : Vec Ideal S4x512 .f32) (w : Vec Ideal S4x1024x1024 .f32)
    (gm : Vec Ideal S4x1024 .f32) : Vec Ideal S16384x1024 .f32 :=
  addf (F := Ideal) (φ := .f32) x (normD (mixed (normA a ga) o w) gm)

/-- The layer's output. -/
def layer (x : Vec Ideal S16384x1024 .f32) (a o : Vec Ideal S16384x512 .f32) (ga : Vec Ideal S4x512 .f32) (w : Vec Ideal S4x1024x1024 .f32)
    (gm gl : Vec Ideal S4x1024 .f32) (up : Vec Ideal S4x1024x4096 .f32) (down : Vec Ideal S4x4096x1024 .f32) (gp : Vec Ideal S4x1024 .f32) : Vec Ideal S16384x1024 .f32 :=
  addf (F := Ideal) (φ := .f32) (middle x a o ga w gm) (normD (out (pos (into (normD (middle x a o ga w gm) gl) up)) down) gp)

variable (m : (ℓ : Loc nD τ sig) → Buf (Elt Ideal) ℓ) (c : Dev nD)

theorem result_parts : Cert.PostReferenceIdeal.Value.res_main_v73 m c
    = layer (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold Cert.PostReferenceIdeal.Value.res_main_v73 layer middle out pos into mixed normD normA
  exact id (Eq.refl _)

theorem normA_at (x : Vec Ideal S16384x512 .f32) (g : Vec Ideal S4x512 .f32) (T : Fin 16384) (d : Fin 512) :
    normA x g (ix2 T d) = norm 0x44000000#32 (fun e => x (ix2 T e)) (fun e => g (ix2 3 e)) d := by
  unfold normA norm
  pointwise

theorem normD_at (x : Vec Ideal S16384x1024 .f32) (g : Vec Ideal S4x1024 .f32) (T : Fin 16384) (d : Fin 1024) :
    normD x g (ix2 T d) = norm 0x44800000#32 (fun e => x (ix2 T e)) (fun e => g (ix2 3 e)) d := by
  unfold normD norm
  pointwise

theorem mixed_at (a o : Vec Ideal S16384x512 .f32) (w : Vec Ideal S4x1024x1024 .f32) (T : Fin 16384) (d : Fin 1024) :
    mixed a o w (ix2 T d) = ∑ e : Fin 512, a (ix2 T e) * w (ix3 3 ⟨e.val, by omega⟩ d) + ∑ e : Fin 512, o (ix2 T e) * w (ix3 3 ⟨512 + e.val, by omega⟩ d) := by
  unfold mixed
  pointwise

theorem into_at (h : Vec Ideal S16384x1024 .f32) (w : Vec Ideal S4x1024x4096 .f32) (T : Fin 16384) (f : Fin 4096) :
    into h w (ix2 T f) = ∑ e : Fin 1024, h (ix2 T e) * w (ix3 3 e f) := by
  unfold into
  pointwise

theorem pos_at (u : Vec Ideal S16384x4096 .f32) (T : Fin 16384) (f : Fin 4096) : pos u (ix2 T f) = max (u (ix2 T f)) 0 := by
  unfold pos
  pointwise

theorem out_at (u : Vec Ideal S16384x4096 .f32) (w : Vec Ideal S4x4096x1024 .f32) (T : Fin 16384) (d : Fin 1024) :
    out u w (ix2 T d) = ∑ f : Fin 4096, u (ix2 T f) * u (ix2 T f) * w (ix3 3 f d) := by
  unfold out
  pointwise

theorem middle_at (x : Vec Ideal S16384x1024 .f32) (a o : Vec Ideal S16384x512 .f32) (ga : Vec Ideal S4x512 .f32) (w : Vec Ideal S4x1024x1024 .f32)
    (gm : Vec Ideal S4x1024 .f32) (T : Fin 16384) (d : Fin 1024) :
    middle x a o ga w gm (ix2 T d) = mid (fun e => x (ix2 T e)) (fun e => a (ix2 T e)) (fun e => o (ix2 T e)) (fun e => ga (ix2 3 e))
      (fun e d => w (ix3 3 e d)) (fun e => gm (ix2 3 e)) d := by
  unfold middle mid
  refine congrArg (x (ix2 T d) + ·) ((normD_at _ _ T d).trans (congrFun (congrArg (fun y => norm _ y _) (funext fun e => ?_)) d))
  simp only [mixed_at, normA_at]
  rfl

theorem layer_at (x : Vec Ideal S16384x1024 .f32) (a o : Vec Ideal S16384x512 .f32) (ga : Vec Ideal S4x512 .f32) (w : Vec Ideal S4x1024x1024 .f32)
    (gm gl : Vec Ideal S4x1024 .f32) (up : Vec Ideal S4x1024x4096 .f32) (down : Vec Ideal S4x4096x1024 .f32) (gp : Vec Ideal S4x1024 .f32) (T : Fin 16384) (d : Fin 1024) :
    layer x a o ga w gm gl up down gp (ix2 T d) = last (fun e => x (ix2 T e)) (fun e => a (ix2 T e)) (fun e => o (ix2 T e)) (fun e => ga (ix2 3 e))
      (fun e d => w (ix3 3 e d)) (fun e => gm (ix2 3 e)) (fun e => gl (ix2 3 e)) (fun f e => up (ix3 3 e f)) (fun f d => down (ix3 3 f d)) (fun e => gp (ix2 3 e)) d := by
  unfold layer last
  refine congrArg₂ (· + ·) (middle_at x a o ga w gm T d) ((normD_at _ _ T d).trans (congrFun (congrArg (fun y => norm _ y _) (funext fun e => ?_)) d))
  simp only [out_at, pos_at, into_at, normD_at, middle_at]
  rfl

end Cert.Proof.Tail.Refer

end
-- ==== Proof.Tail.Body.lean ====
/- What the kernel's body leaves at a grid point: 512 tokens' rows of the layer's output, from the blocks it is given. -/
module

public import proofs.«01_k».proof.Proof.Tail.Spec
public import proofs.«01_k».proof.Proof.Gen.PostIdeal.Frame

@[expose] public section

set_option maxRecDepth 16384

noncomputable section

namespace Cert.Proof.Tail.Body

open Cert.PostIdeal Cert.PostIdeal.Gen
open Idealize.ShloMosaic Idealize.ShloMosaic.TcCoe Idealize.ShloMosaic.Tactic

/-- The attention's rows over their root mean square. -/
def normA (x : Vec Ideal S512x512 .f32) (g : Vec Ideal S1x1x512 .f32) : Vec Ideal S512x512 .f32 :=
  mulf (F := Ideal) (φ := .f32) (mulf (F := Ideal) (φ := .f32) x (broadcastTo S512x512 (rsqrt (F := Ideal) (φ := .f32) (addf (F := Ideal) (φ := .f32)
      (divf (F := Ideal) (φ := .f32) (shapeCast S512x1 (multiReduction (F := Ideal) (φ := .f32) .add [1] S512 (mulf (F := Ideal) (φ := .f32) x x) 0x00000000#32 reduces_S512x512_S512 (.inl rfl) rfl) shapeCasts_S512_S512x1)
        (broadcast S512x1 (Scalar.ofBits (F := Ideal) .f32 0x44000000#32)))
      (broadcast S512x1 (Scalar.ofBits (F := Ideal) .f32 0x358637BD#32)))) broadcasts_S512x1_S512x512))
    (broadcastTo S512x512 (shapeCast S1x512 g shapeCasts_S1x1x512_S1x512) broadcasts_S1x512_S512x512)

/-- Rows of the model's width over their root mean square, before the gain. -/
def rootD (x : Vec Ideal S512x1024 .f32) : Vec Ideal S512x1024 .f32 :=
  mulf (F := Ideal) (φ := .f32) x (broadcastTo S512x1024 (rsqrt (F := Ideal) (φ := .f32) (addf (F := Ideal) (φ := .f32)
      (divf (F := Ideal) (φ := .f32) (shapeCast S512x1 (multiReduction (F := Ideal) (φ := .f32) .add [1] S512 (mulf (F := Ideal) (φ := .f32) x x) 0x00000000#32 reduces_S512x1024_S512 (.inl rfl) rfl) shapeCasts_S512_S512x1)
        (broadcast S512x1 (Scalar.ofBits (F := Ideal) .f32 0x44800000#32)))
      (broadcast S512x1 (Scalar.ofBits (F := Ideal) .f32 0x358637BD#32)))) broadcasts_S512x1_S512x1024)

/-- Rows of the model's width over their root mean square. -/
def normD (x : Vec Ideal S512x1024 .f32) (g : Vec Ideal S1x1x1024 .f32) : Vec Ideal S512x1024 .f32 :=
  mulf (F := Ideal) (φ := .f32) (rootD x) (broadcastTo S512x1024 (shapeCast S1x1024 g shapeCasts_S1x1x1024_S1x1024) broadcasts_S1x1024_S512x1024)

/-- Rows through a square of weights. -/
def through (x : Vec Ideal S512x1024 .bf16) (w : Vec Ideal S1x1024x1024 .bf16) : Vec Ideal S512x1024 .f32 :=
  matmul (F := Ideal) (φ₁ := .bf16) (φ₂ := .bf16) dot_S512x1024_S1024x1024_S512x1024_1_0_0_1_n_n none x (shapeCast S1024x1024 w shapeCasts_S1x1024x1024_S1024x1024) (constant (F := Ideal) S512x1024 .f32 0x00000000#32)

/-- The attention's and the convolution's rows, joined. -/
def join (a : Vec Ideal S512x512 .f32) (o : Vec Ideal S512x512 .bf16) : Vec Ideal S512x1024 .bf16 :=
  concatenate S512x1024 1 [⟨S512x512, truncf (F := Ideal) (φ := .f32) .bf16 a bitsLt_bf16_f32⟩, ⟨S512x512, shapeCast S512x512 o shapeCasts_S512x512_S512x512⟩] concatenates_S512x512_S512x512_S512x1024_d1

/-- The squared positive part. -/
def square (u : Vec Ideal S512x1024 .f32) : Vec Ideal S512x1024 .bf16 :=
  truncf (F := Ideal) (φ := .f32) .bf16 (mulf (F := Ideal) (φ := .f32) (maximumf (F := Ideal) (φ := .f32) u (broadcast S512x1024 (Scalar.ofBits (F := Ideal) .f32 0x00000000#32)))
    (maximumf (F := Ideal) (φ := .f32) u (broadcast S512x1024 (Scalar.ofBits (F := Ideal) .f32 0x00000000#32)))) bitsLt_bf16_f32

/-- A quarter of the feed-forward. -/
def quarter (h : Vec Ideal S512x1024 .bf16) (up down : Vec Ideal S1x1024x1024 .bf16) : Vec Ideal S512x1024 .f32 := through (square (through h up)) down

/-- The layer's input with the mixers' output. -/
def middle (x : Vec Ideal S512x1024 .f32) (a : Vec Ideal S512x512 .f32) (o : Vec Ideal S512x512 .bf16) (ga : Vec Ideal S1x1x512 .f32)
    (w : Vec Ideal S1x1024x1024 .bf16) (gm : Vec Ideal S1x1x1024 .f32) : Vec Ideal S512x1024 .f32 :=
  addf (F := Ideal) (φ := .f32) x (normD (through (join (normA a ga) o) w) gm)

/-- The rows given to the feed-forward. -/
def given (x : Vec Ideal S512x1024 .f32) (gl : Vec Ideal S1x1x1024 .f32) : Vec Ideal S512x1024 .bf16 :=
  truncf (F := Ideal) (φ := .f32) .bf16 (normD x gl) bitsLt_bf16_f32

/-- The feed-forward, a quarter of the hidden units at a time. -/
def four (h : Vec Ideal S512x1024 .bf16) (u0 d0 u1 d1 u2 d2 u3 d3 : Vec Ideal S1x1024x1024 .bf16) : Vec Ideal S512x1024 .f32 :=
  addf (F := Ideal) (φ := .f32) (addf (F := Ideal) (φ := .f32) (addf (F := Ideal) (φ := .f32) (quarter h u0 d0) (quarter h u1 d1)) (quarter h u2 d2)) (quarter h u3 d3)

/-- The rows of the layer's output. -/
def layer (x : Vec Ideal S512x1024 .f32) (a : Vec Ideal S512x512 .f32) (o : Vec Ideal S512x512 .bf16) (ga : Vec Ideal S1x1x512 .f32)
    (w : Vec Ideal S1x1024x1024 .bf16) (gm gl : Vec Ideal S1x1x1024 .f32) (u0 d0 u1 d1 u2 d2 u3 d3 : Vec Ideal S1x1024x1024 .bf16) (gp : Vec Ideal S1x1x1024 .f32) : Vec Ideal S512x1024 .f32 :=
  addf (F := Ideal) (φ := .f32) (middle x a o ga w gm) (normD (four (given (middle x a o ga w gm) gl) u0 d0 u1 d1 u2 d2 u3 d3) gp)

section
variable (x : Vec Ideal S512x1024 .f32) (a : Vec Ideal S512x512 .f32) (o : Vec Ideal S512x512 .bf16) (ga : Vec Ideal S1x1x512 .f32)
  (w : Vec Ideal S1x1024x1024 .bf16) (gm gl : Vec Ideal S1x1x1024 .f32) (u0 d0 u1 d1 u2 d2 u3 d3 : Vec Ideal S1x1024x1024 .bf16) (gp : Vec Ideal S1x1x1024 .f32)

theorem pay3_eq : k0_pay3 (F := Ideal) x (k0_pay2 a ga o w gm) = middle x a o ga w gm := by
  unfold k0_pay3 k0_pay2 middle normD rootD through join normA
  exact id (Eq.refl _)

theorem pay4_eq (v : Vec Ideal S512x1024 .f32) : k0_pay4 (F := Ideal) x v gl = given (k0_pay3 (F := Ideal) x v) gl := by
  unfold k0_pay4 given normD rootD
  exact id (Eq.refl _)

theorem pay5_eq (v : Vec Ideal S512x1024 .f32) : k0_pay5 (F := Ideal) x v gl u0 d0 = quarter (k0_pay4 (F := Ideal) x v gl) u0 d0 := by
  unfold k0_pay5 quarter through square
  exact id (Eq.refl _)

theorem pay6_eq (v : Vec Ideal S512x1024 .f32) : k0_pay6 (F := Ideal) x v gl u0 d0 = quarter (k0_pay4 (F := Ideal) x v gl) u0 d0 := by
  unfold k0_pay6 quarter through square
  exact id (Eq.refl _)

theorem pay7_eq (h : Vec Ideal S512x1024 .bf16) (q0 q1 : Vec Ideal S512x1024 .f32) : k0_pay7 (F := Ideal) h q0 q1 u2 d2 u3 d3
    = rootD (addf (F := Ideal) (φ := .f32) (addf (F := Ideal) (φ := .f32) (addf (F := Ideal) (φ := .f32) q0 q1) (quarter h u2 d2)) (quarter h u3 d3)) := by
  unfold k0_pay7 rootD quarter through square
  exact id (Eq.refl _)

/-- The body's store is the rows of the layer's output. -/
theorem pay1_eq : k0_pay1 (F := Ideal) (k0_pay3 x (k0_pay2 a ga o w gm))
      (k0_pay7 (k0_pay4 x (k0_pay2 a ga o w gm) gl) (k0_pay5 x (k0_pay2 a ga o w gm) gl u0 d0) (k0_pay6 x (k0_pay2 a ga o w gm) gl u1 d1) u2 d2 u3 d3) (k0_pay8 gp)
    = layer x a o ga w gm gl u0 d0 u1 d1 u2 d2 u3 d3 gp := by
  rw [pay7_eq, pay5_eq, pay6_eq, pay4_eq, pay3_eq]
  unfold layer four normD k0_pay1 k0_pay8
  exact id (Eq.refl _)

end

theorem normA_at (x : Vec Ideal S512x512 .f32) (g : Vec Ideal S1x1x512 .f32) (r d : Fin 512) :
    normA x g (ix2 r d) = norm 0x44000000#32 (fun e => x (ix2 r e)) (fun e => g (ix3 0 0 e)) d := by
  unfold normA norm
  pointwise

theorem normD_at (x : Vec Ideal S512x1024 .f32) (g : Vec Ideal S1x1x1024 .f32) (r : Fin 512) (d : Fin 1024) :
    normD x g (ix2 r d) = norm 0x44800000#32 (fun e => x (ix2 r e)) (fun e => g (ix3 0 0 e)) d := by
  unfold normD rootD norm
  pointwise

theorem joined_at (a : Vec Ideal S512x512 .f32) (o : Vec Ideal S512x512 .bf16) (w : Vec Ideal S1x1024x1024 .bf16) (r : Fin 512) (d : Fin 1024) :
    through (join a o) w (ix2 r d) = ∑ e : Fin 512, a (ix2 r e) * w (ix3 0 ⟨e.val, by omega⟩ d) + ∑ e : Fin 512, o (ix2 r e) * w (ix3 0 ⟨512 + e.val, by omega⟩ d) := by
  unfold through join
  pointwise

theorem quarter_at (h : Vec Ideal S512x1024 .bf16) (up down : Vec Ideal S1x1024x1024 .bf16) (r : Fin 512) (d : Fin 1024) :
    quarter h up down (ix2 r d) = ∑ f : Fin 1024, unit (fun e => h (ix2 r e)) (fun e => up (ix3 0 e f)) * down (ix3 0 f d) := by
  unfold quarter through square unit
  pointwise

theorem given_at (x : Vec Ideal S512x1024 .f32) (g : Vec Ideal S1x1x1024 .f32) (r : Fin 512) (d : Fin 1024) : given x g (ix2 r d) = normD x g (ix2 r d) := by
  unfold given
  pointwise

theorem middle_at (x : Vec Ideal S512x1024 .f32) (a : Vec Ideal S512x512 .f32) (o : Vec Ideal S512x512 .bf16) (ga : Vec Ideal S1x1x512 .f32)
    (w : Vec Ideal S1x1024x1024 .bf16) (gm : Vec Ideal S1x1x1024 .f32) (r : Fin 512) (d : Fin 1024) :
    middle x a o ga w gm (ix2 r d) = mid (fun e => x (ix2 r e)) (fun e => a (ix2 r e)) (fun e => o (ix2 r e)) (fun e => ga (ix3 0 0 e))
      (fun e d => w (ix3 0 e d)) (fun e => gm (ix3 0 0 e)) d := by
  unfold middle mid
  refine congrArg (x (ix2 r d) + ·) ((normD_at _ _ r d).trans (congrFun (congrArg (fun y => norm _ y _) (funext fun e => ?_)) d))
  simp only [joined_at, normA_at]
  rfl

/-- The hidden units' parts, from four quarters of them. -/
theorem sum_quarters (f : Fin 4096 → EReal) : ∑ t, f t
    = ∑ t : Fin 1024, f ⟨t.val, by omega⟩ + ∑ t : Fin 1024, f ⟨1024 + t.val, by omega⟩ + ∑ t : Fin 1024, f ⟨2048 + t.val, by omega⟩ + ∑ t : Fin 1024, f ⟨3072 + t.val, by omega⟩ := by
  rw [show ∑ t, f t = ∑ t : Fin (1024 + 1024 + 1024 + 1024), f t from rfl, Fin.sum_univ_add, Fin.sum_univ_add, Fin.sum_univ_add]
  rfl

end Cert.Proof.Tail.Body

end
-- ==== Proof.Tail.Launch.lean ====
/- The blocks the pipeline brings to a grid point, as parts of the arguments, and the array of the layer's outputs that
   the points together leave. -/
module

public import proofs.«01_k».proof.Proof.Tail.Body
public import proofs.«01_k».proof.Proof.Gen.PostIdeal.Value
public import Idealize.ShloMosaic.Lib.StableHlo.ReadAt

@[expose] public section

set_option maxRecDepth 16384

noncomputable section

namespace Cert.Proof.Tail.Body

open Cert.PostIdeal Cert.PostIdeal.Gen
open Idealize.ShloMosaic Idealize.ShloMosaic.TcCoe Idealize.ShloMosaic.Tactic

/-- The index maps at a grid point: rows of tokens for the tokens' arrays, the last layer for the weights. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![3, 0, 0] ∧ win0_4.index t = ![3, 0, 0]
    ∧ win0_5.index t = ![3, 0, 0] ∧ win0_6.index t = ![3, 0, 0] ∧ win0_7.index t = ![3, 0, 0]
    ∧ win0_8.index t = ![3, 0, 0] ∧ win0_9.index t = ![3, 0, 0]
    ∧ win0_10.index t = ![(grid0.coords t 0).val, 0] := by decide +kernel

variable (m : (ℓ : Loc nD τ sig) → Buf (Elt Ideal) ℓ) (c : Dev nD) (t : Fin cfg0.N)

/-- The token in row `r` of a grid point's block. -/
def token (i : grid0.Coords) (r : Fin 512) : Fin 16384 := ⟨512 * (i 0).val + r.val, by have : (i 0).val < 32 := (i 0).isLt; omega⟩

/-- The convolution's output, the gains and the weights as the host hands them over: the arguments. -/
def O : Vec Ideal S16384x512 .bf16 := V m c main_v0
def GA : Vec Ideal S4x1x512 .f32 := V m c main_v1
def WO : Vec Ideal S4x1024x1024 .bf16 := V m c main_v2
def GM : Vec Ideal S4x1x1024 .f32 := V m c main_v3
def GH : Vec Ideal S4x1x1024 .f32 := V m c main_v4
def UP : Vec Ideal S4x1024x4096 .bf16 := V m c main_v5
def DN : Vec Ideal S4x4096x1024 .bf16 := V m c main_v6
def GP : Vec Ideal S4x1x1024 .f32 := V m c main_v7

theorem O_at (T : Fin 16384) (e : Fin 512) : O m c (ix2 T e) = (m (c, Proc.tc.devRef main_arg2) : Vec Ideal S16384x512 .f32) (ix2 T e) := by
  unfold O V
  after_reads_at
theorem GA_at (l : Fin 4) (e : Fin 512) : GA m c (ix3 l 0 e) = (m (c, Proc.tc.devRef main_arg3) : Vec Ideal S4x512 .f32) (ix2 l e) := by
  unfold GA V
  after_reads_at
theorem WO_at (l : Fin 4) (e d : Fin 1024) : WO m c (ix3 l e d) = (m (c, Proc.tc.devRef main_arg4) : Vec Ideal S4x1024x1024 .f32) (ix3 l e d) := by
  unfold WO V
  after_reads_at
theorem GM_at (l : Fin 4) (e : Fin 1024) : GM m c (ix3 l 0 e) = (m (c, Proc.tc.devRef main_arg5) : Vec Ideal S4x1024 .f32) (ix2 l e) := by
  unfold GM V
  after_reads_at
theorem GH_at (l : Fin 4) (e : Fin 1024) : GH m c (ix3 l 0 e) = (m (c, Proc.tc.devRef main_arg6) : Vec Ideal S4x1024 .f32) (ix2 l e) := by
  unfold GH V
  after_reads_at
theorem UP_at (l : Fin 4) (e : Fin 1024) (f : Fin 4096) : UP m c (ix3 l e f) = (m (c, Proc.tc.devRef main_arg7) : Vec Ideal S4x1024x4096 .f32) (ix3 l e f) := by
  unfold UP V
  after_reads_at
theorem DN_at (l : Fin 4) (f : Fin 4096) (d : Fin 1024) : DN m c (ix3 l f d) = (m (c, Proc.tc.devRef main_arg8) : Vec Ideal S4x4096x1024 .f32) (ix3 l f d) := by
  unfold DN V
  after_reads_at
theorem GP_at (l : Fin 4) (e : Fin 1024) : GP m c (ix3 l 0 e) = (m (c, Proc.tc.devRef main_arg9) : Vec Ideal S4x1024 .f32) (ix2 l e) := by
  unfold GP V
  after_reads_at

theorem blk0 (r : Fin 512) (e : Fin 1024) :
    (iblk m c 0 t : Vec Ideal S512x1024 .f32) (ix2 r e) = (m (c, Proc.tc.devRef main_arg0) : Vec Ideal S16384x1024 .f32) (ix2 (token (grid0.coords t) r) e) := by
  have e0 := (idx t).1
  have h0 : (token (grid0.coords t) r).val = 512 * (grid0.coords t 0).val + r.val := rfl
  refine Eq.trans ?_ (congrFun (V_main_arg0 m c) _)
  blk_ext [iblk, e0]

theorem blk1 (r e : Fin 512) :
    (iblk m c 1 t : Vec Ideal S512x512 .f32) (ix2 r e) = (m (c, Proc.tc.devRef main_arg1) : Vec Ideal S16384x512 .f32) (ix2 (token (grid0.coords t) r) e) := by
  have e0 := (idx t).2.1
  have h0 : (token (grid0.coords t) r).val = 512 * (grid0.coords t 0).val + r.val := rfl
  refine Eq.trans ?_ (congrFun (V_main_arg1 m c) _)
  blk_ext [iblk, e0]

theorem blk2 (r e : Fin 512) :
    (iblk m c 2 t : Vec Ideal S512x512 .bf16) (ix2 r e) = O m c (ix2 (token (grid0.coords t) r) e) := by
  have e0 := (idx t).2.2.1
  have h0 : (token (grid0.coords t) r).val = 512 * (grid0.coords t 0).val + r.val := rfl
  unfold O
  blk_ext [iblk, e0]

theorem blk3 (e : Fin 512) : (iblk m c 3 t : Vec Ideal S1x1x512 .f32) (ix3 0 0 e) = GA m c (ix3 3 0 e) := by
  have e0 := (idx t).2.2.2.1
  unfold GA
  blk_ext [iblk, e0]

theorem blk4 (e d : Fin 1024) : (iblk m c 4 t : Vec Ideal S1x1024x1024 .bf16) (ix3 0 e d) = WO m c (ix3 3 e d) := by
  have e0 := (idx t).2.2.2.2.1
  unfold WO
  blk_ext [iblk, e0]

theorem blk5 (e : Fin 1024) : (iblk m c 5 t : Vec Ideal S1x1x1024 .f32) (ix3 0 0 e) = GM m c (ix3 3 0 e) := by
  have e0 := (idx t).2.2.2.2.2.1
  unfold GM
  blk_ext [iblk, e0]

theorem blk6 (e : Fin 1024) : (iblk m c 6 t : Vec Ideal S1x1x1024 .f32) (ix3 0 0 e) = GH m c (ix3 3 0 e) := by
  have e0 := (idx t).2.2.2.2.2.2.1
  unfold GH
  blk_ext [iblk, e0]

theorem blk7 (e : Fin 1024) (f : Fin 4096) : (iblk m c 7 t : Vec Ideal S1x1024x4096 .bf16) (ix3 0 e f) = UP m c (ix3 3 e f) := by
  have e0 := (idx t).2.2.2.2.2.2.2.1
  unfold UP
  blk_ext [iblk, e0]

theorem blk8 (f : Fin 4096) (d : Fin 1024) : (iblk m c 8 t : Vec Ideal S1x4096x1024 .bf16) (ix3 0 f d) = DN m c (ix3 3 f d) := by
  have e0 := (idx t).2.2.2.2.2.2.2.2.1
  unfold DN
  blk_ext [iblk, e0]

theorem blk9 (e : Fin 1024) : (iblk m c 9 t : Vec Ideal S1x1x1024 .f32) (ix3 0 0 e) = GP m c (ix3 3 0 e) := by
  have e0 := (idx t).2.2.2.2.2.2.2.2.2.1
  unfold GP
  blk_ext [iblk, e0]

section
variable (x : Vec Ideal S512x1024 .f32) (a : Vec Ideal S512x512 .f32) (o : Vec Ideal S512x512 .bf16) (ga : Vec Ideal S1x1x512 .f32)
  (w : Vec Ideal S1x1024x1024 .bf16) (gm gl : Vec Ideal S1x1x1024 .f32) (up : Vec Ideal S1x1024x4096 .bf16) (down : Vec Ideal S1x4096x1024 .bf16) (gp : Vec Ideal S1x1x1024 .f32)

/-- The quarters of the weights, read where they lie in the whole. -/
theorem up0 (e f : Fin 1024) : (View.ld up r0_5 : Vec Ideal S1x1024x1024 .bf16) (ix3 0 e f) = up (ix3 0 e ⟨f.val, by omega⟩) := by
  rw [View.ld_unit]; pointwise
theorem up1 (e f : Fin 1024) : (View.ld up r0_7 : Vec Ideal S1x1024x1024 .bf16) (ix3 0 e f) = up (ix3 0 e ⟨1024 + f.val, by omega⟩) := by
  rw [View.ld_unit]; pointwise
theorem up2 (e f : Fin 1024) : (View.ld up r0_9 : Vec Ideal S1x1024x1024 .bf16) (ix3 0 e f) = up (ix3 0 e ⟨2048 + f.val, by omega⟩) := by
  rw [View.ld_unit]; pointwise
theorem up3 (e f : Fin 1024) : (View.ld up r0_11 : Vec Ideal S1x1024x1024 .bf16) (ix3 0 e f) = up (ix3 0 e ⟨3072 + f.val, by omega⟩) := by
  rw [View.ld_unit]; pointwise
theorem down0 (f d : Fin 1024) : (View.ld down r0_6 : Vec Ideal S1x1024x1024 .bf16) (ix3 0 f d) = down (ix3 0 ⟨f.val, by omega⟩ d) := by
  rw [View.ld_unit]; pointwise
theorem down1 (f d : Fin 1024) : (View.ld down r0_8 : Vec Ideal S1x1024x1024 .bf16) (ix3 0 f d) = down (ix3 0 ⟨1024 + f.val, by omega⟩ d) := by
  rw [View.ld_unit]; pointwise
theorem down2 (f d : Fin 1024) : (View.ld down r0_10 : Vec Ideal S1x1024x1024 .bf16) (ix3 0 f d) = down (ix3 0 ⟨2048 + f.val, by omega⟩ d) := by
  rw [View.ld_unit]; pointwise
theorem down3 (f d : Fin 1024) : (View.ld down r0_12 : Vec Ideal S1x1024x1024 .bf16) (ix3 0 f d) = down (ix3 0 ⟨3072 + f.val, by omega⟩ d) := by
  rw [View.ld_unit]; pointwise

/-- The four quarters together are the feed-forward. -/
theorem four_at (h : Vec Ideal S512x1024 .bf16) (r : Fin 512) (d : Fin 1024) :
    four h (View.ld up r0_5) (View.ld down r0_6) (View.ld up r0_7) (View.ld down r0_8) (View.ld up r0_9) (View.ld down r0_10) (View.ld up r0_11) (View.ld down r0_12) (ix2 r d)
    = feed (fun e => h (ix2 r e)) (fun f e => up (ix3 0 e f)) (fun f d => down (ix3 0 f d)) d := by
  unfold feed
  rw [sum_quarters]
  refine Eq.trans (b := quarter h (View.ld up r0_5) (View.ld down r0_6) (ix2 r d) + quarter h (View.ld up r0_7) (View.ld down r0_8) (ix2 r d)
    + quarter h (View.ld up r0_9) (View.ld down r0_10) (ix2 r d) + quarter h (View.ld up r0_11) (View.ld down r0_12) (ix2 r d)) rfl ?_
  refine congrArg₂ (· + ·) (congrArg₂ (· + ·) (congrArg₂ (· + ·) ?_ ?_) ?_) ?_ <;> refine (quarter_at _ _ _ r d).trans (Finset.sum_congr rfl fun f _ => ?_)
  · exact congrArg₂ (· * ·) (congrArg (unit _) (funext fun e => up0 up e f)) (down0 down f d)
  · exact congrArg₂ (· * ·) (congrArg (unit _) (funext fun e => up1 up e f)) (down1 down f d)
  · exact congrArg₂ (· * ·) (congrArg (unit _) (funext fun e => up2 up e f)) (down2 down f d)
  · exact congrArg₂ (· * ·) (congrArg (unit _) (funext fun e => up3 up e f)) (down3 down f d)

/-- A row of the layer's output, from the blocks. -/
theorem out_at (r : Fin 512) (d : Fin 1024) : out0_10 (F := Ideal) x a o ga w gm gl up down gp (ix2 r d)
    = last (fun e => x (ix2 r e)) (fun e => a (ix2 r e)) (fun e => o (ix2 r e)) (fun e => ga (ix3 0 0 e)) (fun e d => w (ix3 0 e d))
      (fun e => gm (ix3 0 0 e)) (fun e => gl (ix3 0 0 e)) (fun f e => up (ix3 0 e f)) (fun f d => down (ix3 0 f d)) (fun e => gp (ix3 0 0 e)) d := by
  unfold_out out0_10
  rw [View.canon_cons_unit_lit _ _ _ (by decide)]
  rw [View.ld_unit_lit _ x (by decide), View.ld_unit_lit _ a (by decide), View.ld_unit_lit _ o (by decide), View.ld_unit_lit _ ga (by decide),
    View.ld_unit_lit _ w (by decide), View.ld_unit_lit _ gm (by decide), View.ld_unit_lit _ gl (by decide), View.ld_unit_lit _ gp (by decide), pay1_eq]
  unfold layer last
  refine congrArg₂ (· + ·) (middle_at x a o ga w gm r d) ((normD_at _ _ r d).trans (congrFun (congrArg (fun y => norm _ y _) (funext fun e => ?_)) d))
  rw [four_at]
  simp only [given_at, normD_at, middle_at]

end

/-- The array of the layer's outputs. -/
def both : Vec Ideal S16384x1024 .f32 := fun y =>
  last (fun e => (m (c, Proc.tc.devRef main_arg0) : Vec Ideal S16384x1024 .f32) (ix2 (y 0 : Fin 16384) e)) (fun e => (m (c, Proc.tc.devRef main_arg1) : Vec Ideal S16384x512 .f32) (ix2 (y 0 : Fin 16384) e))
    (fun e => (m (c, Proc.tc.devRef main_arg2) : Vec Ideal S16384x512 .f32) (ix2 (y 0 : Fin 16384) e)) (fun e => (m (c, Proc.tc.devRef main_arg3) : Vec Ideal S4x512 .f32) (ix2 3 e))
    (fun e d => (m (c, Proc.tc.devRef main_arg4) : Vec Ideal S4x1024x1024 .f32) (ix3 3 e d)) (fun e => (m (c, Proc.tc.devRef main_arg5) : Vec Ideal S4x1024 .f32) (ix2 3 e))
    (fun e => (m (c, Proc.tc.devRef main_arg6) : Vec Ideal S4x1024 .f32) (ix2 3 e)) (fun f e => (m (c, Proc.tc.devRef main_arg7) : Vec Ideal S4x1024x4096 .f32) (ix3 3 e f))
    (fun f d => (m (c, Proc.tc.devRef main_arg8) : Vec Ideal S4x4096x1024 .f32) (ix3 3 f d)) (fun e => (m (c, Proc.tc.devRef main_arg9) : Vec Ideal S4x1024 .f32) (ix2 3 e)) (y 1 : Fin 1024)

theorem after_at (r : Fin 512) (d : Fin 1024) (T : Fin 16384) (C : Fin 1024) (hT : T.val = 512 * (grid0.coords t 0).val + r.val) (hC : C.val = d.val) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r d)
    = both m c (ix2 T C) := by
  obtain rfl : C = d := Fin.ext hC
  obtain rfl : T = token (grid0.coords t) r := Fin.ext hT
  refine (out_at _ _ _ _ _ _ _ _ _ _ r C).trans ?_
  simp only [blk0, blk1, blk2, blk3, blk4, blk5, blk6, blk7, blk8, blk9, O_at, GA_at, WO_at, GM_at, GH_at, UP_at, DN_at, GP_at]
  rfl

theorem result_eq : (dats m 0 c).arrAt 10 cfg0.N = both m c := by
  refine (dats m 0 c).arrAt_eq_of_covers 10 _ (by decide +kernel) fun t hf y => ?_
  have e := (idx t).2.2.2.2.2.2.2.2.2.2
  blk_simp
  rw [after0_10]
  idx_vars y
  refine after_at m c t y0 y1 _ _ ?_ ?_
  · blk_simp [e]
    show _ * 512 + _ = _
    exact congrArg (· + _) (Nat.mul_comm _ _)
  · blk_simp [e]

end Cert.Proof.Tail.Body

end
-- ==== Proof.Tail.Equal.lean ====
/- The last layer after its mixers: the frames of the kernel as written, idealized, and of the reference, and the equality
   of the kernel's result with the reference's, the floats extended reals. -/
module

public import proofs.«01_k».proof.Proof.Tail.Refer
public import proofs.«01_k».proof.Proof.Tail.Launch
public import proofs.«01_k».proof.Proof.Gen.Post
public import proofs.«01_k».proof.Proof.Gen.Post.Frame
public import proofs.«01_k».proof.Proof.Gen.PostIdeal
public import proofs.«01_k».proof.Proof.Gen.PostReferenceIdeal
public import proofs.«01_k».proof.Defs
public import Idealize.ShloMosaic.Lib.Claim
public import Idealize.ShloMosaic.Lib.Quiescent

@[expose] public section

set_option maxRecDepth 16384

noncomputable section

namespace Cert.Proof.Tail

open Idealize.ShloMosaic Idealize.ShloMosaic.TcCoe Idealize.SL.Sem

theorem frame_post : Cert.quiescent_Post := fun m g _ => Cert.Post.Gen.frame (F := Bits) m g
theorem frame_postIdeal : Cert.quiescent_PostIdeal := fun m g _ => Cert.PostIdeal.Gen.frame (F := Ideal) m g

/-- The reference is host operations only: its arguments are not written, and it has no counters. -/
theorem frame_reference : Cert.quiescent_PostReferenceIdeal := fun m g _ =>
  θ_run_mono (Cert.PostReferenceIdeal.Value.run (F := Ideal) m g) fun r h =>
    ⟨fun c => (h c).2, Idealize.ShloMosaic.sem_eq_zero_of_no_sems (by decide) r.2⟩

theorem preserves : Cert.preserves_Post_PostIdeal := trivial

section
open Cert.PostIdeal Cert.PostIdeal.Gen

variable (m : (ℓ : Loc Cert.PostIdeal.nD Cert.PostIdeal.τ Cert.PostIdeal.sig) → Buf (Elt Ideal) ℓ) (c : Dev Cert.PostIdeal.nD)

theorem reference_result :
    Refer.layer (m (c, Proc.tc.devRef main_arg0)) (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6)) (m (c, Proc.tc.devRef main_arg7))
      (m (c, Proc.tc.devRef main_arg8)) (m (c, Proc.tc.devRef main_arg9))
    = Body.both m c := by
  funext y
  have e : y = ix2 (y 0 : Fin 16384) (y 1 : Fin 1024) := funext fun a => by
    match a with
    | 0 => rfl
    | 1 => rfl
  rw [e]
  exact Refer.layer_at (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (y 0) (y 1)

end

theorem algebraic : Cert.algebraic_PostIdeal_PostReferenceIdeal := by
  intro m g m' g' hpre hagree
  refine ⟨fun c => Body.both m c, ?_, ?_⟩
  · exact θ_run_mono (Cert.PostIdeal.Value.run_blocks (F := Ideal) m g) fun r h c => ⟨(h c).1.trans (Body.result_eq m c), (h c).2⟩
  · refine θ_run_mono (Cert.PostReferenceIdeal.Value.run (F := Ideal) m' g') fun r h c => ⟨(h c).1.trans ?_, (h c).2⟩
    obtain ⟨e0, e1, e2, e3, e4, e5, e6, e7, e8, e9⟩ := hagree c
    rw [Refer.result_parts m' c, e0, e1, e2, e3, e4, e5, e6, e7, e8, e9]
    exact reference_result m c

end Cert.Proof.Tail

end
-- ==== Proof.lean ====
/- The proof of the claims: the frames are in Proof/Frames.lean, the equality with the reference in Proof/Equal.lean; those of the
   layer after its mixers are in Proof/Tail/Equal.lean. -/
module

public import proofs.«01_k».proof.Defs
public import proofs.«01_k».proof.Proof.Frames
public import proofs.«01_k».proof.Proof.Equal
public import proofs.«01_k».proof.Proof.Tail.Equal
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts, Cert.Post.Gen.facts, Cert.PostIdeal.Gen.facts,
    Cert.PostReferenceIdeal.Gen.facts, Cert.Pre_finite.Gen.facts,
    frame_kernel, frame_kernelIdeal, frame_kernelIdeal_finite, frame_reference, frame_reference_finite,
    Tail.frame_post, Tail.frame_postIdeal, Tail.frame_reference, preserves, algebraic, Tail.preserves, Tail.algebraic⟩

end Cert.Proof

end
